-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S2x2048x1024 : Shape := ⟨3, ![2, 2048, 1024]⟩
abbrev S8x1024x4096 : Shape := ⟨3, ![8, 1024, 4096]⟩
abbrev S8x2048x1024 : Shape := ⟨3, ![8, 2048, 1024]⟩
abbrev S8x1024 : Shape := ⟨2, ![8, 1024]⟩
abbrev S2048x1024 : Shape := ⟨2, ![2048, 1024]⟩
abbrev S1024x2048 : Shape := ⟨2, ![1024, 2048]⟩
abbrev S4096x1024 : Shape := ⟨2, ![4096, 1024]⟩
abbrev S1024x8 : Shape := ⟨2, ![1024, 8]⟩
abbrev S_ : Shape := ⟨0, ![]⟩
abbrev S1024x128 : Shape := ⟨2, ![1024, 128]⟩
abbrev S32768x128 : Shape := ⟨2, ![32768, 128]⟩
abbrev S4096x8 : Shape := ⟨2, ![4096, 8]⟩
abbrev S8x128 : Shape := ⟨2, ![8, 128]⟩
abbrev S4096x128 : Shape := ⟨2, ![4096, 128]⟩
abbrev S4096 : Shape := ⟨1, ![4096]⟩
abbrev S4096x1 : Shape := ⟨2, ![4096, 1]⟩
abbrev S4096x127 : Shape := ⟨2, ![4096, 127]⟩
abbrev S4096x2 : Shape := ⟨2, ![4096, 2]⟩
abbrev S4096x126 : Shape := ⟨2, ![4096, 126]⟩
abbrev S4096x4 : Shape := ⟨2, ![4096, 4]⟩
abbrev S4096x124 : Shape := ⟨2, ![4096, 124]⟩
abbrev S4096x120 : Shape := ⟨2, ![4096, 120]⟩
abbrev S4096x16 : Shape := ⟨2, ![4096, 16]⟩
abbrev S4096x112 : Shape := ⟨2, ![4096, 112]⟩
abbrev S4096x32 : Shape := ⟨2, ![4096, 32]⟩
abbrev S4096x96 : Shape := ⟨2, ![4096, 96]⟩
abbrev S4096x64 : Shape := ⟨2, ![4096, 64]⟩
abbrev S1x128 : Shape := ⟨2, ![1, 128]⟩
abbrev S4095x128 : Shape := ⟨2, ![4095, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S4088x128 : Shape := ⟨2, ![4088, 128]⟩
abbrev S16x128 : Shape := ⟨2, ![16, 128]⟩
abbrev S4080x128 : Shape := ⟨2, ![4080, 128]⟩
abbrev S32x128 : Shape := ⟨2, ![32, 128]⟩
abbrev S4064x128 : Shape := ⟨2, ![4064, 128]⟩
abbrev S64x128 : Shape := ⟨2, ![64, 128]⟩
abbrev S4032x128 : Shape := ⟨2, ![4032, 128]⟩
abbrev S128x128 : Shape := ⟨2, ![128, 128]⟩
abbrev S3968x128 : Shape := ⟨2, ![3968, 128]⟩
abbrev S256x128 : Shape := ⟨2, ![256, 128]⟩
abbrev S3840x128 : Shape := ⟨2, ![3840, 128]⟩
abbrev S512x128 : Shape := ⟨2, ![512, 128]⟩
abbrev S3584x128 : Shape := ⟨2, ![3584, 128]⟩
abbrev S3072x128 : Shape := ⟨2, ![3072, 128]⟩
abbrev S2048x128 : Shape := ⟨2, ![2048, 128]⟩
abbrev S1x1 : Shape := ⟨2, ![1, 1]⟩
abbrev S1x127 : Shape := ⟨2, ![1, 127]⟩
abbrev S1x2 : Shape := ⟨2, ![1, 2]⟩
abbrev S1x126 : Shape := ⟨2, ![1, 126]⟩
abbrev S1x4 : Shape := ⟨2, ![1, 4]⟩
abbrev S1x124 : Shape := ⟨2, ![1, 124]⟩
abbrev S1x8 : Shape := ⟨2, ![1, 8]⟩
abbrev S1x120 : Shape := ⟨2, ![1, 120]⟩
abbrev S1x16 : Shape := ⟨2, ![1, 16]⟩
abbrev S1x112 : Shape := ⟨2, ![1, 112]⟩
abbrev S1x32 : Shape := ⟨2, ![1, 32]⟩
abbrev S1x96 : Shape := ⟨2, ![1, 96]⟩
abbrev S1x64 : Shape := ⟨2, ![1, 64]⟩
abbrev S128 : Shape := ⟨1, ![128]⟩
abbrev S128x1 : Shape := ⟨2, ![128, 1]⟩
abbrev S5x128 : Shape := ⟨2, ![5, 128]⟩
abbrev S1x32768 : Shape := ⟨2, ![1, 32768]⟩
abbrev S47104x128 : Shape := ⟨2, ![47104, 128]⟩
abbrev S2x128x128 : Shape := ⟨3, ![2, 128, 128]⟩
abbrev S2 : Shape := ⟨1, ![2]⟩
abbrev S2x1x128 : Shape := ⟨3, ![2, 1, 128]⟩
abbrev S1x128x128 : Shape := ⟨3, ![1, 128, 128]⟩
abbrev S1 : Shape := ⟨1, ![1]⟩
abbrev S1x1x128 : Shape := ⟨3, ![1, 1, 128]⟩
abbrev S1x1024x2048 : Shape := ⟨3, ![1, 1024, 2048]⟩
abbrev S1x2048x1024 : Shape := ⟨3, ![1, 2048, 1024]⟩
abbrev S256x1024 : Shape := ⟨2, ![256, 1024]⟩
abbrev S256x2048 : Shape := ⟨2, ![256, 2048]⟩

abbrev nBuf : Table → Nat
  | .hbm => 23
  | .local .tc .vmem => 24
  | .local .tc .smem => 3
  | .local .scVector .vmem => 4
  | _ => 0

abbrev bufTy : (tb : Table) → Fin (nBuf tb) → BufTy
  | .hbm, ⟨0, _⟩ => ⟨S2x2048x1024, .f32⟩
  | .hbm, ⟨1, _⟩ => ⟨S8x1024x4096, .f32⟩
  | .hbm, ⟨2, _⟩ => ⟨S8x2048x1024, .f32⟩
  | .hbm, ⟨3, _⟩ => ⟨S8x1024, .f32⟩
  | .hbm, ⟨4, _⟩ => ⟨S2048x1024, .f32⟩
  | .hbm, ⟨5, _⟩ => ⟨S2048x1024, .f32⟩
  | .hbm, ⟨6, _⟩ => ⟨S1024x2048, .f32⟩
  | .hbm, ⟨7, _⟩ => ⟨S4096x1024, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S32768x128, .f32⟩
  | .hbm, ⟨13, _⟩ => ⟨S4096x8, .i32⟩
  | .hbm, ⟨14, _⟩ => ⟨S8x128, .i32⟩
  | .hbm, ⟨15, _⟩ => ⟨S1x128, .i32⟩
  | .hbm, ⟨16, _⟩ => ⟨S1x128, .i32⟩
  | .hbm, ⟨17, _⟩ => ⟨S1x128, .i32⟩
  | .hbm, ⟨18, _⟩ => ⟨S1x32768, .i32⟩
  | .hbm, ⟨19, _⟩ => ⟨S47104x128, .f32⟩
  | .hbm, ⟨20, _⟩ => ⟨S47104x128, .f32⟩
  | .hbm, ⟨21, _⟩ => ⟨S32768x128, .f32⟩
  | .hbm, ⟨22, _⟩ => ⟨S4096x1024, .f32⟩
  | .local .tc .vmem, ⟨0, _⟩ => ⟨S4096x1024, .f32⟩
  | .local .tc .vmem, ⟨1, _⟩ => ⟨S1024x128, .f32⟩
  | .local .tc .vmem, ⟨2, _⟩ => ⟨S32768x128, .f32⟩
  | .local .tc .vmem, ⟨3, _⟩ => ⟨S4096x8, .i32⟩
  | .local .tc .vmem, ⟨4, _⟩ => ⟨S8x128, .i32⟩
  | .local .tc .vmem, ⟨5, _⟩ => ⟨S2048x128, .f32⟩
  | .local .tc .vmem, ⟨6, _⟩ => ⟨S2048x128, .f32⟩
  | .local .tc .vmem, ⟨7, _⟩ => ⟨S1x1024x2048, .f32⟩
  | .local .tc .vmem, ⟨8, _⟩ => ⟨S1x1024x2048, .f32⟩
  | .local .tc .vmem, ⟨9, _⟩ => ⟨S1x1024x2048, .f32⟩
  | .local .tc .vmem, ⟨10, _⟩ => ⟨S1x1024x2048, .f32⟩
  | .local .tc .vmem, ⟨11, _⟩ => ⟨S1x2048x1024, .f32⟩
  | .local .tc .vmem, ⟨12, _⟩ => ⟨S1x2048x1024, .f32⟩
  | .local .tc .vmem, ⟨13, _⟩ => ⟨S2048x128, .f32⟩
  | .local .tc .vmem, ⟨14, _⟩ => ⟨S2048x128, .f32⟩
  | .local .tc .vmem, ⟨15, _⟩ => ⟨S256x1024, .f32⟩
  | .local .tc .vmem, ⟨16, _⟩ => ⟨S256x1024, .f32⟩
  | .local .tc .vmem, ⟨17, _⟩ => ⟨S2048x128, .f32⟩
  | .local .tc .vmem, ⟨18, _⟩ => ⟨S2048x128, .f32⟩
  | .local .tc .vmem, ⟨19, _⟩ => ⟨S2048x1024, .f32⟩
  | .local .tc .vmem, ⟨20, _⟩ => ⟨S2048x1024, .f32⟩
  | .local .tc .vmem, ⟨21, _⟩ => ⟨S1024x2048, .f32⟩
  | .local .tc .vmem, ⟨22, _⟩ => ⟨S256x1024, .f32⟩
  | .local .tc .vmem, ⟨23, _⟩ => ⟨S256x1024, .f32⟩
  | .local .tc .smem, ⟨0, _⟩ => ⟨S128, .i32⟩
  | .local .tc .smem, ⟨1, _⟩ => ⟨S128, .i32⟩
  | .local .tc .smem, ⟨2, _⟩ => ⟨S128, .i32⟩
  | .local .scVector .vmem, ⟨0, _⟩ => ⟨S2x128x128, .f32⟩
  | .local .scVector .vmem, ⟨1, _⟩ => ⟨S2x1x128, .i32⟩
  | .local .scVector .vmem, ⟨2, _⟩ => ⟨S2x1x128, .i32⟩
  | .local .scVector .vmem, ⟨3, _⟩ => ⟨S2x128x128, .f32⟩
  | _, _ => ⟨S2x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => false
  | ⟨24, _⟩ => false
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev main_v6 : Ref sig .tc := ⟨.hbm, 16, rfl⟩
abbrev main_v8 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v5 : Ref sig .tc := ⟨.smem, 0, rfl⟩
abbrev main_v7 : Ref sig .tc := ⟨.smem, 1, rfl⟩
abbrev main_v9 : Ref sig .tc := ⟨.smem, 2, rfl⟩
abbrev main_v3_0_scv : Ref sig .scVector := ⟨.hbm, 12, rfl⟩
abbrev main_v10_scv : Ref sig .scVector := ⟨.hbm, 18, rfl⟩
abbrev main_v11_scv : Ref sig .scVector := ⟨.hbm, 19, rfl⟩
abbrev main_v12_scv : Ref sig .scVector := ⟨.hbm, 20, rfl⟩
abbrev main_v13_scv : Ref sig .scVector := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg4_1 : Ref sig .tc := ⟨.vmem, 14, rfl⟩
abbrev cc4_stg0_0 : Ref sig .tc := ⟨.vmem, 15, rfl⟩
abbrev cc4_stg0_1 : Ref sig .tc := ⟨.vmem, 16, rfl⟩
abbrev cc4_stg1_0 : Ref sig .tc := ⟨.vmem, 17, rfl⟩
abbrev cc4_stg1_1 : Ref sig .tc := ⟨.vmem, 18, rfl⟩
abbrev cc4_stg2_0 : Ref sig .tc := ⟨.vmem, 19, rfl⟩
abbrev cc4_stg3_0 : Ref sig .tc := ⟨.vmem, 20, rfl⟩
abbrev cc4_stg4_0 : Ref sig .tc := ⟨.vmem, 21, rfl⟩
abbrev cc4_stg5_0 : Ref sig .tc := ⟨.vmem, 22, rfl⟩
abbrev cc4_stg5_1 : Ref sig .tc := ⟨.vmem, 23, rfl⟩
abbrev cc1_scoped0 : Ref sig .scVector := ⟨.vmem, 0, rfl⟩
abbrev cc1_scoped2 : Ref sig .scVector := ⟨.vmem, 1, rfl⟩
abbrev cc3_scoped0 : Ref sig .scVector := ⟨.vmem, 2, rfl⟩
abbrev cc3_scoped2 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem4_0 : DmaSem sig := 31
abbrev cc4_sem5_0 : DmaSem sig := 32
abbrev cc4_sem5_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  let c0_i32_16_r0 : BitVec 32 := 0#32
  ![v22_r0.toNat, 0]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
def k1_off4 : Fin 3 → Nat :=
  let c0_i32_22_r0 : BitVec 32 := 0#32
  let c2_i32_23_r0 : BitVec 32 := 2#32
  let v32_r0 : BitVec 32 := Scalar.remui c0_i32_22_r0 c2_i32_23_r0
  let c0_i32_25_r0 : BitVec 32 := 0#32
  let c0_i32_26_r0 : BitVec 32 := 0#32
  ![v32_r0.toNat, 0, 0]
def k1_off5 (i : grid1.Coords) : Fin 2 → Nat :=
  let c0_i32_27_r0 : BitVec 32 := 0#32
  let c128_i32_24_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v33_r0 : BitVec 32 := Scalar.muli c128_i32_24_r0 v7_r0
  ![0, v33_r0.toNat]
@[reducible] def k1_t1_loop : Scf.Loop 32 :=
  let c0_i32_36_r0 : BitVec 32 := 0#32
  let c8_i32_37_r0 : BitVec 32 := 8#32
  let v43_r0 : BitVec 32 := Scalar.addi c0_i32_36_r0 c8_i32_37_r0
  let c1_i32_38_r0 : BitVec 32 := 1#32
  ⟨c0_i32_36_r0, v43_r0, c1_i32_38_r0⟩
def k1_off6 (arg6_r0 : BitVec 32) : Fin 3 → Nat :=
  let c2_i32_104_r0 : BitVec 32 := 2#32
  let v151_r0 : BitVec 32 := Scalar.remui arg6_r0 c2_i32_104_r0
  let c0_i32_106_r0 : BitVec 32 := 0#32
  let c0_i32_107_r0 : BitVec 32 := 0#32
  ![v151_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let true_63_r0 : BitVec 1 := 1#1
  let c1_i32_62_r0 : BitVec 32 := 1#32
  let v73_r0 : BitVec 32 := Scalar.addi arg10_r0 c1_i32_62_r0
  let v74_r0 : BitVec 32 := Scalar.select true_63_r0 v73_r0 arg10_r0
  let c8_i32_64_r0 : BitVec 32 := 8#32
  let v75_r0 : BitVec 1 := Scalar.cmpi .eq v74_r0 c8_i32_64_r0
  let c0_i32_65_r0 : BitVec 32 := 0#32
  let v76_r0 : BitVec 32 := Scalar.select v75_r0 c0_i32_65_r0 v74_r0
  let v77_r0 : BitVec 32 := Scalar.addi v76_r0 v4
  let v83_r0 : BitVec 1 := Scalar.cmpi .ne v67_r0 v77_r0
  let c0_i32_36_r0 : BitVec 32 := 0#32
  let c1_i32_38_r0 : BitVec 32 := 1#32
  let arg5_r0 : BitVec 32 := Scf.iv c0_i32_36_r0 c1_i32_38_r0 k1_t1
  let c7_i32_70_r0 : BitVec 32 := 7#32
  let v84_r0 : BitVec 1 := Scalar.cmpi .sge arg5_r0 c7_i32_70_r0
  let true_71_r0 : BitVec 1 := 1#1
  let v85_r0 : BitVec 1 := Scalar.xori v84_r0 true_71_r0
  let v86_r0 : BitVec 1 := Scalar.andi v83_r0 v85_r0
  let true_72_r0 : BitVec 1 := 1#1
  let v87_r0 : BitVec 1 := Scalar.andi v86_r0 true_72_r0
  let v88_r0 : BitVec 32 := Scalar.extui v87_r0
  let c0_i32_73_r0 : BitVec 32 := 0#32
  let v89_r0 : BitVec 1 := Scalar.cmpi .ne v88_r0 c0_i32_73_r0
  v89_r0

def k1_off7 (i : grid1.Coords) (arg10_r0 : BitVec 32) : Fin 2 → Nat :=
  let c128_i32_105_r0 : BitVec 32 := 128#32
  let true_63_r0 : BitVec 1 := 1#1
  let c1_i32_62_r0 : BitVec 32 := 1#32
  let v73_r0 : BitVec 32 := Scalar.addi arg10_r0 c1_i32_62_r0
  let v74_r0 : BitVec 32 := Scalar.select true_63_r0 v73_r0 arg10_r0
  let c8_i32_64_r0 : BitVec 32 := 8#32
  let v75_r0 : BitVec 1 := Scalar.cmpi .eq v74_r0 c8_i32_64_r0
  let c0_i32_65_r0 : BitVec 32 := 0#32
  let v76_r0 : BitVec 32 := Scalar.select v75_r0 c0_i32_65_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v77_r0 : BitVec 32 := Scalar.addi v76_r0 v4
  let v152_r0 : BitVec 32 := Scalar.muli c128_i32_105_r0 v77_r0
  let c0_i32_108_r0 : BitVec 32 := 0#32
  ![v152_r0.toNat, 0]
def k1_off8 (arg6_r0 : BitVec 32) : Fin 1 → Nat :=
  let c2_i32_104_r0 : BitVec 32 := 2#32
  let v151_r0 : BitVec 32 := Scalar.remui arg6_r0 c2_i32_104_r0
  ![v151_r0.toNat]
def k1_off9 (arg8_r0 : BitVec 32) : Fin 3 → Nat :=
  let c2_i32_104_r0 : BitVec 32 := 2#32
  let v151_r0 : BitVec 32 := Scalar.remui arg8_r0 c2_i32_104_r0
  let c0_i32_106_r0 : BitVec 32 := 0#32
  let c0_i32_107_r0 : BitVec 32 := 0#32
  ![v151_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let true_63_r0 : BitVec 1 := 1#1
  let c1_i32_62_r0 : BitVec 32 := 1#32
  let v73_r0 : BitVec 32 := Scalar.addi arg10_r0 c1_i32_62_r0
  let v74_r0 : BitVec 32 := Scalar.select true_63_r0 v73_r0 arg10_r0
  let c8_i32_64_r0 : BitVec 32 := 8#32
  let v75_r0 : BitVec 1 := Scalar.cmpi .eq v74_r0 c8_i32_64_r0
  let c0_i32_65_r0 : BitVec 32 := 0#32
  let v76_r0 : BitVec 32 := Scalar.select v75_r0 c0_i32_65_r0 v74_r0
  let v77_r0 : BitVec 32 := Scalar.addi v76_r0 v4
  let v93_r0 : BitVec 1 := Scalar.cmpi .ne v67_r0 v77_r0
  let c0_i32_36_r0 : BitVec 32 := 0#32
  let c1_i32_38_r0 : BitVec 32 := 1#32
  let arg5_r0 : BitVec 32 := Scf.iv c0_i32_36_r0 c1_i32_38_r0 k1_t1
  let c7_i32_76_r0 : BitVec 32 := 7#32
  let v94_r0 : BitVec 1 := Scalar.cmpi .sge arg5_r0 c7_i32_76_r0
  let true_77_r0 : BitVec 1 := 1#1
  let v95_r0 : BitVec 1 := Scalar.xori v94_r0 true_77_r0
  let v96_r0 : BitVec 1 := Scalar.andi v93_r0 v95_r0
  let true_78_r0 : BitVec 1 := 1#1
  let v97_r0 : BitVec 1 := Scalar.andi v96_r0 true_78_r0
  let v98_r0 : BitVec 32 := Scalar.extui v97_r0
  let c0_i32_79_r0 : BitVec 32 := 0#32
  let v99_r0 : BitVec 1 := Scalar.cmpi .ne v98_r0 c0_i32_79_r0
  v99_r0

def k1_off10 (i : grid1.Coords) (arg10_r0 : BitVec 32) : Fin 2 → Nat :=
  let c0_i32_108_r0 : BitVec 32 := 0#32
  let c128_i32_105_r0 : BitVec 32 := 128#32
  let true_63_r0 : BitVec 1 := 1#1
  let c1_i32_62_r0 : BitVec 32 := 1#32
  let v73_r0 : BitVec 32 := Scalar.addi arg10_r0 c1_i32_62_r0
  let v74_r0 : BitVec 32 := Scalar.select true_63_r0 v73_r0 arg10_r0
  let c8_i32_64_r0 : BitVec 32 := 8#32
  let v75_r0 : BitVec 1 := Scalar.cmpi .eq v74_r0 c8_i32_64_r0
  let c0_i32_65_r0 : BitVec 32 := 0#32
  let v76_r0 : BitVec 32 := Scalar.select v75_r0 c0_i32_65_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v77_r0 : BitVec 32 := Scalar.addi v76_r0 v4
  let v152_r0 : BitVec 32 := Scalar.muli c128_i32_105_r0 v77_r0
  ![0, v152_r0.toNat]
def k1_off11 (arg8_r0 : BitVec 32) : Fin 1 → Nat :=
  let c2_i32_104_r0 : BitVec 32 := 2#32
  let v151_r0 : BitVec 32 := Scalar.remui arg8_r0 c2_i32_104_r0
  ![v151_r0.toNat]
def k1_off12 (arg7_r0 : BitVec 32) : Fin 3 → Nat :=
  let c2_i32_105_r0 : BitVec 32 := 2#32
  let v152_r0 : BitVec 32 := Scalar.remui arg7_r0 c2_i32_105_r0
  let c0_i32_106_r0 : BitVec 32 := 0#32
  let c0_i32_107_r0 : BitVec 32 := 0#32
  ![v152_r0.toNat, 0, 0]
def k1_cond3 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let true_59_r0 : BitVec 1 := 1#1
  let c1_i32_58_r0 : BitVec 32 := 1#32
  let v68_r0 : BitVec 32 := Scalar.subi arg10_r0 c1_i32_58_r0
  let v69_r0 : BitVec 32 := Scalar.select true_59_r0 v68_r0 arg10_r0
  let c_m1_i32_60_r0 : BitVec 32 := 4294967295#32
  let v70_r0 : BitVec 1 := Scalar.cmpi .eq v69_r0 c_m1_i32_60_r0
  let c7_i32_61_r0 : BitVec 32 := 7#32
  let v71_r0 : BitVec 32 := Scalar.select v70_r0 c7_i32_61_r0 v69_r0
  let v72_r0 : BitVec 32 := Scalar.addi v71_r0 v4
  let v103_r0 : BitVec 1 := Scalar.cmpi .ne v67_r0 v72_r0
  let c0_i32_36_r0 : BitVec 32 := 0#32
  let c1_i32_38_r0 : BitVec 32 := 1#32
  let arg5_r0 : BitVec 32 := Scf.iv c0_i32_36_r0 c1_i32_38_r0 k1_t1
  let c0_i32_56_r0 : BitVec 32 := 0#32
  let v65_r0 : BitVec 1 := Scalar.cmpi .eq arg5_r0 c0_i32_56_r0
  let v104_r0 : BitVec 1 := Scalar.ori v103_r0 v65_r0
  let c0_i32_82_r0 : BitVec 32 := 0#32
  let v105_r0 : BitVec 1 := Scalar.cmpi .sge arg5_r0 c0_i32_82_r0
  let v106_r0 : BitVec 1 := Scalar.andi v104_r0 v105_r0
  let v107_r0 : BitVec 32 := Scalar.extui v106_r0
  let c0_i32_83_r0 : BitVec 32 := 0#32
  let v108_r0 : BitVec 1 := Scalar.cmpi .ne v107_r0 c0_i32_83_r0
  v108_r0

def k1_off13 (i : grid1.Coords) (arg10_r0 : BitVec 32) : Fin 2 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let v151_r0 : BitVec 32 := Scalar.muli c128_i32_104_r0 v67_r0
  let c0_i32_108_r0 : BitVec 32 := 0#32
  ![v151_r0.toNat, 0]
def k1_off14 (arg7_r0 : BitVec 32) : Fin 1 → Nat :=
  let c2_i32_105_r0 : BitVec 32 := 2#32
  let v152_r0 : BitVec 32 := Scalar.remui arg7_r0 c2_i32_105_r0
  ![v152_r0.toNat]
def k1_off15 (arg9_r0 : BitVec 32) : Fin 3 → Nat :=
  let c2_i32_105_r0 : BitVec 32 := 2#32
  let v152_r0 : BitVec 32 := Scalar.remui arg9_r0 c2_i32_105_r0
  let c0_i32_106_r0 : BitVec 32 := 0#32
  let c0_i32_107_r0 : BitVec 32 := 0#32
  ![v152_r0.toNat, 0, 0]
def k1_cond4 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let true_59_r0 : BitVec 1 := 1#1
  let c1_i32_58_r0 : BitVec 32 := 1#32
  let v68_r0 : BitVec 32 := Scalar.subi arg10_r0 c1_i32_58_r0
  let v69_r0 : BitVec 32 := Scalar.select true_59_r0 v68_r0 arg10_r0
  let c_m1_i32_60_r0 : BitVec 32 := 4294967295#32
  let v70_r0 : BitVec 1 := Scalar.cmpi .eq v69_r0 c_m1_i32_60_r0
  let c7_i32_61_r0 : BitVec 32 := 7#32
  let v71_r0 : BitVec 32 := Scalar.select v70_r0 c7_i32_61_r0 v69_r0
  let v72_r0 : BitVec 32 := Scalar.addi v71_r0 v4
  let v109_r0 : BitVec 1 := Scalar.cmpi .ne v67_r0 v72_r0
  let c0_i32_36_r0 : BitVec 32 := 0#32
  let c1_i32_38_r0 : BitVec 32 := 1#32
  let arg5_r0 : BitVec 32 := Scf.iv c0_i32_36_r0 c1_i32_38_r0 k1_t1
  let c0_i32_56_r0 : BitVec 32 := 0#32
  let v65_r0 : BitVec 1 := Scalar.cmpi .eq arg5_r0 c0_i32_56_r0
  let v110_r0 : BitVec 1 := Scalar.ori v109_r0 v65_r0
  let c0_i32_84_r0 : BitVec 32 := 0#32
  let v111_r0 : BitVec 1 := Scalar.cmpi .sge arg5_r0 c0_i32_84_r0
  let v112_r0 : BitVec 1 := Scalar.andi v110_r0 v111_r0
  let v113_r0 : BitVec 32 := Scalar.extui v112_r0
  let c0_i32_85_r0 : BitVec 32 := 0#32
  let v114_r0 : BitVec 1 := Scalar.cmpi .ne v113_r0 c0_i32_85_r0
  v114_r0

def k1_off16 (i : grid1.Coords) (arg10_r0 : BitVec 32) : Fin 2 → Nat :=
  let c0_i32_108_r0 : BitVec 32 := 0#32
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v67_r0 : BitVec 32 := Scalar.addi arg10_r0 v4
  let v151_r0 : BitVec 32 := Scalar.muli c128_i32_104_r0 v67_r0
  ![0, v151_r0.toNat]
def k1_off17 (arg9_r0 : BitVec 32) : Fin 1 → Nat :=
  let c2_i32_105_r0 : BitVec 32 := 2#32
  let v152_r0 : BitVec 32 := Scalar.remui arg9_r0 c2_i32_105_r0
  ![v152_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off6 arg6_r0) a + S1x128x128.size a ≤ S2x128x128.size a) ∧
  (∀ (k1_h1 : k1_cond1 i k1_t1 arg10_r0 = 1#1), ∀ a, (k1_off7 i arg10_r0) a + S128x128.size a ≤ S32768x128.size a) ∧
  (∀ (k1_h1 : k1_cond1 i k1_t1 arg10_r0 = 1#1), ∀ a, (k1_off8 arg6_r0) a + S1.size a ≤ S2.size a) ∧
  (∀ (k1_h2 : k1_cond2 i k1_t1 arg10_r0 = 1#1), ∀ a, (k1_off9 arg8_r0) a + S1x1x128.size a ≤ S2x1x128.size a) ∧
  (∀ (k1_h2 : k1_cond2 i k1_t1 arg10_r0 = 1#1), ∀ a, (k1_off10 i arg10_r0) a + S1x128.size a ≤ S1x32768.size a) ∧
  (∀ (k1_h2 : k1_cond2 i k1_t1 arg10_r0 = 1#1), ∀ a, (k1_off11 arg8_r0) a + S1.size a ≤ S2.size a) ∧
  (∀ (k1_h3 : k1_cond3 i k1_t1 arg10_r0 = 1#1), ∀ a, (k1_off12 arg7_r0) a + S1x128x128.size a ≤ S2x128x128.size a) ∧
  (∀ (k1_h3 : k1_cond3 i k1_t1 arg10_r0 = 1#1), ∀ a, (k1_off13 i arg10_r0) a + S128x128.size a ≤ S32768x128.size a) ∧
  (∀ (k1_h3 : k1_cond3 i k1_t1 arg10_r0 = 1#1), ∀ a, (k1_off14 arg7_r0) a + S1.size a ≤ S2.size a) ∧
  (∀ (k1_h4 : k1_cond4 i k1_t1 arg10_r0 = 1#1), ∀ a, (k1_off15 arg9_r0) a + S1x1x128.size a ≤ S2x1x128.size a) ∧
  (∀ (k1_h4 : k1_cond4 i k1_t1 arg10_r0 = 1#1), ∀ a, (k1_off16 i arg10_r0) a + S1x128.size a ≤ S1x32768.size a) ∧
  (∀ (k1_h4 : k1_cond4 i k1_t1 arg10_r0 = 1#1), ∀ a, (k1_off17 arg9_r0) a + S1.size a ≤ S2.size a)
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1x128x128.size a ≤ S2x128x128.size a := fun i k1_t1 arg6_r0 arg7_r0 arg8_r0 arg9_r0 arg10_r0 k1_hw1 k1_h1 => k1_hw1.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off7 i arg10_r0) a + S128x128.size a ≤ S32768x128.size a := fun i k1_t1 arg6_r0 arg7_r0 arg8_r0 arg9_r0 arg10_r0 k1_hw1 k1_h1 => k1_hw1.2.1 k1_h1
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off8 arg6_r0) a + S1.size a ≤ S2.size a := fun i k1_t1 arg6_r0 arg7_r0 arg8_r0 arg9_r0 arg10_r0 k1_hw1 k1_h1 => k1_hw1.2.2.1 k1_h1
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg8_r0) a + S1x1x128.size a ≤ S2x1x128.size a := fun i k1_t1 arg6_r0 arg7_r0 arg8_r0 arg9_r0 arg10_r0 k1_hw1 k1_h2 => k1_hw1.2.2.2.1 k1_h2
theorem k1_off10_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off10 i arg10_r0) a + S1x128.size a ≤ S1x32768.size a := fun i k1_t1 arg6_r0 arg7_r0 arg8_r0 arg9_r0 arg10_r0 k1_hw1 k1_h2 => k1_hw1.2.2.2.2.1 k1_h2
theorem k1_off11_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off11 arg8_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h3 : k1_cond3 i k1_t1 arg10_r0 = 1#1), ∀ a, (k1_off12 arg7_r0) a + S1x128x128.size a ≤ S2x128x128.size a := fun i k1_t1 arg6_r0 arg7_r0 arg8_r0 arg9_r0 arg10_r0 k1_hw1 k1_h3 => k1_hw1.2.2.2.2.2.2.1 k1_h3
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h3 : k1_cond3 i k1_t1 arg10_r0 = 1#1), ∀ a, (k1_off13 i arg10_r0) a + S128x128.size a ≤ S32768x128.size a := fun i k1_t1 arg6_r0 arg7_r0 arg8_r0 arg9_r0 arg10_r0 k1_hw1 k1_h3 => k1_hw1.2.2.2.2.2.2.2.1 k1_h3
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h3 : k1_cond3 i k1_t1 arg10_r0 = 1#1), ∀ a, (k1_off14 arg7_r0) a + S1.size a ≤ S2.size a := fun i k1_t1 arg6_r0 arg7_r0 arg8_r0 arg9_r0 arg10_r0 k1_hw1 k1_h3 => k1_hw1.2.2.2.2.2.2.2.2.1 k1_h3
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h4 : k1_cond4 i k1_t1 arg10_r0 = 1#1), ∀ a, (k1_off15 arg9_r0) a + S1x1x128.size a ≤ S2x1x128.size a := fun i k1_t1 arg6_r0 arg7_r0 arg8_r0 arg9_r0 arg10_r0 k1_hw1 k1_h4 => k1_hw1.2.2.2.2.2.2.2.2.2.1 k1_h4
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h4 : k1_cond4 i k1_t1 arg10_r0 = 1#1), ∀ a, (k1_off16 i arg10_r0) a + S1x128.size a ≤ S1x32768.size a := fun i k1_t1 arg6_r0 arg7_r0 arg8_r0 arg9_r0 arg10_r0 k1_hw1 k1_h4 => k1_hw1.2.2.2.2.2.2.2.2.2.2.1 k1_h4
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h4 : k1_cond4 i k1_t1 arg10_r0 = 1#1), ∀ a, (k1_off17 arg9_r0) a + S1.size a ≤ S2.size a := fun i k1_t1 arg6_r0 arg7_r0 arg8_r0 arg9_r0 arg10_r0 k1_hw1 k1_h4 => k1_hw1.2.2.2.2.2.2.2.2.2.2.2 k1_h4

def k1_off18 (arg7_r0 : BitVec 32) : Fin 3 → Nat :=
  let c2_i32_86_r0 : BitVec 32 := 2#32
  let v115_r0 : BitVec 32 := Scalar.remui arg7_r0 c2_i32_86_r0
  let c0_i32_104_r1 : BitVec 32 := 0#32
  let c0_i32_105_r1 : BitVec 32 := 0#32
  ![v115_r0.toNat, 0, 0]

def k1_chk2 (arg7_r0 : BitVec 32) : Prop :=
  (∀ a, (k1_off18 arg7_r0) a + S1x128x128.size a ≤ S2x128x128.size a)
theorem k1_off18_inb : ∀ (arg7_r0 : BitVec 32) (k1_hw2 : k1_chk2 arg7_r0), ∀ a, (k1_off18 arg7_r0) a + S1x128x128.size a ≤ S2x128x128.size a := fun arg7_r0 k1_hw2 => k1_hw2

def k1_off19 (arg9_r0 : BitVec 32) : Fin 3 → Nat :=
  let c2_i32_87_r0 : BitVec 32 := 2#32
  let v116_r0 : BitVec 32 := Scalar.remui arg9_r0 c2_i32_87_r0
  let c0_i32_106_r1 : BitVec 32 := 0#32
  let c0_i32_107_r1 : BitVec 32 := 0#32
  ![v116_r0.toNat, 0, 0]

def k1_chk3 (arg9_r0 : BitVec 32) : Prop :=
  (∀ a, (k1_off19 arg9_r0) a + S1x1x128.size a ≤ S2x1x128.size a)
theorem k1_off19_inb : ∀ (arg9_r0 : BitVec 32) (k1_hw3 : k1_chk3 arg9_r0), ∀ a, (k1_off19 arg9_r0) a + S1x1x128.size a ≤ S2x1x128.size a := fun arg9_r0 k1_hw3 => k1_hw3

abbrev grid2 : Pipeline.Grid := ⟨1, ![23], ![false]⟩

abbrev pre2 : Pipeline.Prefetch sig := ⟨3, ![main_v5.idx, main_v7.idx, main_v9.idx], fun | 0 => main_v5.names | 1 => main_v7.names | 2 => main_v9.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def cc2_transform_0 (k2_off1_inb : ∀ i : grid2.Coords, ∀ a, (k2_off1 i) a + S1.size a ≤ S128.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S128) ![v0.toNat] S1.size (k2_off1_inb i)) numel1_S1
  let c0_i32 : BitVec 32 := 0#32
  let c0_i32_0 : BitVec 32 := 0#32
  ![v1.toNat, c0_i32.toNat]

def cc2_transform_1 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S128) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S128) ![v0.toNat] S1.size (k2_off1_inb i)) numel1_S1
  let c0_i32 : BitVec 32 := 0#32
  let c1_i32 : BitVec 32 := 1#32
  let c0_i32_0 : BitVec 32 := 0#32
  ![v1.toNat, c0_i32.toNat, c1_i32.toNat]

def cc2_transform_3 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S128) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_4 (k2_off1_inb : ∀ i : grid2.Coords, ∀ a, (k2_off1 i) a + S1.size a ≤ S128.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S128) ![v0.toNat] S1.size (k2_off1_inb i)) numel1_S1
  let c0_i32 : BitVec 32 := 0#32
  let c0_i32_0 : BitVec 32 := 0#32
  ![v1.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 16], ![false, false]⟩

def k3_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k3_off2 (i : grid3.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k3_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k3_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k3_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k3_cond1 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k3_off5 (i : grid3.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k3_off6 (arg6_r0 : BitVec 32) : Fin 1 → Nat :=
  let c2_i32_99_r0 : BitVec 32 := 2#32
  let v144_r0 : BitVec 32 := Scalar.remui arg6_r0 c2_i32_99_r0
  ![v144_r0.toNat]
def k3_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k3_cond2 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k3_off8 (i : grid3.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k3_off9 (arg7_r0 : BitVec 32) : Fin 1 → Nat :=
  let c2_i32_100_r0 : BitVec 32 := 2#32
  let v145_r0 : BitVec 32 := Scalar.remui arg7_r0 c2_i32_100_r0
  ![v145_r0.toNat]
def k3_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k3_chk2 (arg8_r0 : BitVec 32) : Prop :=
  (∀ a, (k3_off10 arg8_r0) a + S1x128x128.size a ≤ S2x128x128.size a)
theorem k3_off10_inb : ∀ (arg8_r0 : BitVec 32) (k3_hw2 : k3_chk2 arg8_r0), ∀ a, (k3_off10 arg8_r0) a + S1x128x128.size a ≤ S2x128x128.size a := fun arg8_r0 k3_hw2 => k3_hw2

def k3_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k3_chk3 (arg7_r0 : BitVec 32) : Prop :=
  (∀ a, (k3_off11 arg7_r0) a + S1x1x128.size a ≤ S2x1x128.size a)
theorem k3_off11_inb : ∀ (arg7_r0 : BitVec 32) (k3_hw3 : k3_chk3 arg7_r0), ∀ a, (k3_off11 arg7_r0) a + S1x1x128.size a ≤ S2x1x128.size a := fun arg7_r0 k3_hw3 => k3_hw3

def k3_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k3_cond5 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k3_off13 (i : grid3.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k3_off14 (arg8_r0 : BitVec 32) : Fin 1 → Nat :=
  let c2_i32_99_r0 : BitVec 32 := 2#32
  let v144_r0 : BitVec 32 := Scalar.remui arg8_r0 c2_i32_99_r0
  ![v144_r0.toNat]
def k3_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k3_cond7 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k3_off16 (i : grid3.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k3_off17 (arg9_r0 : BitVec 32) : Fin 1 → Nat :=
  let c2_i32_99_r0 : BitVec 32 := 2#32
  let v144_r0 : BitVec 32 := Scalar.remui arg9_r0 c2_i32_99_r0
  ![v144_r0.toNat]

def k3_chk1 (i : grid3.Coords) (k3_t1 : Fin k3_t1_loop.trips) (arg6_r0 : BitVec 32) (arg7_r0 : BitVec 32) (arg8_r0 : BitVec 32) (arg9_r0 : BitVec 32) (arg10_r0 : BitVec 32) : Prop :=
  (∀ (k3_h1 : k3_cond1 i k3_t1 arg10_r0 = 1#1), ∀ a, (k3_off4 arg6_r0) a + S1x1x128.size a ≤ S2x1x128.size a) ∧
  (∀ (k3_h1 : k3_cond1 i k3_t1 arg10_r0 = 1#1), ∀ a, (k3_off5 i arg10_r0) a + S1x128.size a ≤ S1x32768.size a) ∧
  (∀ (k3_h1 : k3_cond1 i k3_t1 arg10_r0 = 1#1), ∀ a, (k3_off6 arg6_r0) a + S1.size a ≤ S2.size a) ∧
  (∀ (k3_h2 : k3_cond2 i k3_t1 arg10_r0 = 1#1), ∀ a, (k3_off7 arg7_r0) a + S1x1x128.size a ≤ S2x1x128.size a) ∧
  (∀ (k3_h2 : k3_cond2 i k3_t1 arg10_r0 = 1#1), ∀ a, (k3_off8 i arg10_r0) a + S1x128.size a ≤ S1x32768.size a) ∧
  (∀ (k3_h2 : k3_cond2 i k3_t1 arg10_r0 = 1#1), ∀ a, (k3_off9 arg7_r0) a + S1.size a ≤ S2.size a) ∧
  (∀ (k3_h5 : k3_cond5 i k3_t1 arg10_r0 = 1#1), ∀ a, (k3_off12 arg8_r0) a + S1x128x128.size a ≤ S2x128x128.size a) ∧
  (∀ (k3_h5 : k3_cond5 i k3_t1 arg10_r0 = 1#1), ∀ a, (k3_off13 i arg10_r0) a + S128x128.size a ≤ S32768x128.size a) ∧
  (∀ (k3_h5 : k3_cond5 i k3_t1 arg10_r0 = 1#1), ∀ a, (k3_off14 arg8_r0) a + S1.size a ≤ S2.size a) ∧
  (∀ (k3_h7 : k3_cond7 i k3_t1 arg10_r0 = 1#1), ∀ a, (k3_off15 arg9_r0) a + S1x128x128.size a ≤ S2x128x128.size a) ∧
  (∀ (k3_h7 : k3_cond7 i k3_t1 arg10_r0 = 1#1), ∀ a, (k3_off16 i arg10_r0) a + S128x128.size a ≤ S32768x128.size a) ∧
  (∀ (k3_h7 : k3_cond7 i k3_t1 arg10_r0 = 1#1), ∀ a, (k3_off17 arg9_r0) a + S1.size a ≤ S2.size a)
theorem k3_off4_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off4 arg6_r0) a + S1x1x128.size a ≤ S2x1x128.size a := fun i k3_t1 arg6_r0 arg7_r0 arg8_r0 arg9_r0 arg10_r0 k3_hw1 k3_h1 => k3_hw1.1 k3_h1
theorem k3_off5_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off5 i arg10_r0) a + S1x128.size a ≤ S1x32768.size a := fun i k3_t1 arg6_r0 arg7_r0 arg8_r0 arg9_r0 arg10_r0 k3_hw1 k3_h1 => k3_hw1.2.1 k3_h1
theorem k3_off6_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off6 arg6_r0) a + S1.size a ≤ S2.size a := fun i k3_t1 arg6_r0 arg7_r0 arg8_r0 arg9_r0 arg10_r0 k3_hw1 k3_h1 => k3_hw1.2.2.1 k3_h1
theorem k3_off7_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off7 arg7_r0) a + S1x1x128.size a ≤ S2x1x128.size a := fun i k3_t1 arg6_r0 arg7_r0 arg8_r0 arg9_r0 arg10_r0 k3_hw1 k3_h2 => k3_hw1.2.2.2.1 k3_h2
theorem k3_off8_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off8 i arg10_r0) a + S1x128.size a ≤ S1x32768.size a := fun i k3_t1 arg6_r0 arg7_r0 arg8_r0 arg9_r0 arg10_r0 k3_hw1 k3_h2 => k3_hw1.2.2.2.2.1 k3_h2
theorem k3_off9_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off9 arg7_r0) a + S1.size a ≤ S2.size a := fun i k3_t1 arg6_r0 arg7_r0 arg8_r0 arg9_r0 arg10_r0 k3_hw1 k3_h2 => k3_hw1.2.2.2.2.2.1 k3_h2
theorem k3_off12_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off12 arg8_r0) a + S1x128x128.size a ≤ S2x128x128.size a := fun i k3_t1 arg6_r0 arg7_r0 arg8_r0 arg9_r0 arg10_r0 k3_hw1 k3_h5 => k3_hw1.2.2.2.2.2.2.1 k3_h5
theorem k3_off13_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off13 i arg10_r0) a + S128x128.size a ≤ S32768x128.size a := fun i k3_t1 arg6_r0 arg7_r0 arg8_r0 arg9_r0 arg10_r0 k3_hw1 k3_h5 => k3_hw1.2.2.2.2.2.2.2.1 k3_h5
theorem k3_off14_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off14 arg8_r0) a + S1.size a ≤ S2.size a := fun i k3_t1 arg6_r0 arg7_r0 arg8_r0 arg9_r0 arg10_r0 k3_hw1 k3_h5 => k3_hw1.2.2.2.2.2.2.2.2.1 k3_h5
theorem k3_off15_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off15 arg9_r0) a + S1x128x128.size a ≤ S2x128x128.size a := fun i k3_t1 arg6_r0 arg7_r0 arg8_r0 arg9_r0 arg10_r0 k3_hw1 k3_h7 => k3_hw1.2.2.2.2.2.2.2.2.2.1 k3_h7
theorem k3_off16_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off16 i arg10_r0) a + S128x128.size a ≤ S32768x128.size a := fun i k3_t1 arg6_r0 arg7_r0 arg8_r0 arg9_r0 arg10_r0 k3_hw1 k3_h7 => k3_hw1.2.2.2.2.2.2.2.2.2.2.1 k3_h7
theorem k3_off17_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off17 arg9_r0) a + S1.size a ≤ S2.size a := fun i k3_t1 arg6_r0 arg7_r0 arg8_r0 arg9_r0 arg10_r0 k3_hw1 k3_h7 => k3_hw1.2.2.2.2.2.2.2.2.2.2.2 k3_h7

def k3_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k3_off19 (i : grid3.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k3_chk5 (i : grid3.Coords) (v33_4_r0 : BitVec 32) : Prop :=
  (∀ a, (k3_off19 i v33_4_r0) a + S128x128.size a ≤ S32768x128.size a)
theorem k3_off19_inb : ∀ (i : grid3.Coords) (v33_4_r0 : BitVec 32) (k3_hw5 : k3_chk5 i v33_4_r0), ∀ a, (k3_off19 i v33_4_r0) a + S128x128.size a ≤ S32768x128.size a := fun i v33_4_r0 k3_hw5 => k3_hw5

def k3_off20 (v33_3_r0 : BitVec 32) : Fin 1 → Nat :=
  let c2_i32_46_r0 : BitVec 32 := 2#32
  let v54_r0 : BitVec 32 := Scalar.remui v33_3_r0 c2_i32_46_r0
  ![v54_r0.toNat]
def k3_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k3_chk4 (v33_3_r0 : BitVec 32) : Prop :=
  (∀ a, (k3_off18 v33_3_r0) a + S1x128x128.size a ≤ S2x128x128.size a) ∧
  (∀ a, (k3_off20 v33_3_r0) a + S1.size a ≤ S2.size a) ∧
  (∀ a, (k3_off21 v33_3_r0) a + S1x128x128.size a ≤ S2x128x128.size a)
theorem k3_off18_inb : ∀ (v33_3_r0 : BitVec 32) (k3_hw4 : k3_chk4 v33_3_r0), ∀ a, (k3_off18 v33_3_r0) a + S1x128x128.size a ≤ S2x128x128.size a := fun v33_3_r0 k3_hw4 => k3_hw4.1
theorem k3_off20_inb : ∀ (v33_3_r0 : BitVec 32) (k3_hw4 : k3_chk4 v33_3_r0), ∀ a, (k3_off20 v33_3_r0) a + S1.size a ≤ S2.size a := fun v33_3_r0 k3_hw4 => k3_hw4.2.1
theorem k3_off21_inb : ∀ (v33_3_r0 : BitVec 32) (k3_hw4 : k3_chk4 v33_3_r0), ∀ a, (k3_off21 v33_3_r0) a + S1x128x128.size a ≤ S2x128x128.size a := fun v33_3_r0 k3_hw4 => k3_hw4.2.2

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2048x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1024x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S256x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2x2048x1024 : Shape := ⟨3, ![2, 2048, 1024]⟩
abbrev S8x1024x4096 : Shape := ⟨3, ![8, 1024, 4096]⟩
abbrev S8x2048x1024 : Shape := ⟨3, ![8, 2048, 1024]⟩
abbrev S8x1024 : Shape := ⟨2, ![8, 1024]⟩
abbrev S2048x1024 : Shape := ⟨2, ![2048, 1024]⟩
abbrev S1024x2048 : Shape := ⟨2, ![1024, 2048]⟩
abbrev S4096x1024 : Shape := ⟨2, ![4096, 1024]⟩
abbrev S1024x8 : Shape := ⟨2, ![1024, 8]⟩
abbrev S4096x8 : Shape := ⟨2, ![4096, 8]⟩
abbrev S4096x1 : Shape := ⟨2, ![4096, 1]⟩
abbrev S_ : Shape := ⟨0, ![]⟩
abbrev S4096 : Shape := ⟨1, ![4096]⟩
abbrev S4096x1x1 : Shape := ⟨3, ![4096, 1, 1]⟩
abbrev S4096x1x2 : Shape := ⟨3, ![4096, 1, 2]⟩
abbrev S8x4096 : Shape := ⟨2, ![8, 4096]⟩
abbrev S1x4096x1x1024 : Shape := ⟨4, ![1, 4096, 1, 1024]⟩
abbrev S8x4096x1x1024 : Shape := ⟨4, ![8, 4096, 1, 1024]⟩
abbrev S32768x1024 : Shape := ⟨2, ![32768, 1024]⟩
abbrev S32768x1 : Shape := ⟨2, ![32768, 1]⟩
abbrev S8x4096x1024 : Shape := ⟨3, ![8, 4096, 1024]⟩
abbrev S8x4096x4096 : Shape := ⟨3, ![8, 4096, 4096]⟩
abbrev S8x4096x2048 : Shape := ⟨3, ![8, 4096, 2048]⟩
abbrev S4096x2048 : Shape := ⟨2, ![4096, 2048]⟩
abbrev S1x4096 : Shape := ⟨2, ![1, 4096]⟩
abbrev S32768 : Shape := ⟨1, ![32768]⟩

abbrev nBuf : Space → Nat
  | .hbm => 94
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S8x1024x4096, .f32⟩
  | .hbm, ⟨2, _⟩ => ⟨S8x2048x1024, .f32⟩
  | .hbm, ⟨3, _⟩ => ⟨S8x1024, .f32⟩
  | .hbm, ⟨4, _⟩ => ⟨S2048x1024, .f32⟩
  | .hbm, ⟨5, _⟩ => ⟨S2048x1024, .f32⟩
  | .hbm, ⟨6, _⟩ => ⟨S1024x2048, .f32⟩
  | .hbm, ⟨7, _⟩ => ⟨S4096x1024, .f32⟩
  | .hbm, ⟨8, _⟩ => ⟨S1024x8, .f32⟩
  | .hbm, ⟨9, _⟩ => ⟨S4096x8, .f32⟩
  | .hbm, ⟨10, _⟩ => ⟨S4096x1, .f32⟩
  | .hbm, ⟨11, _⟩ => ⟨S4096x1, .i32⟩
  | .hbm, ⟨12, _⟩ => ⟨S_, .f32⟩
  | .hbm, ⟨13, _⟩ => ⟨S4096x8, .f32⟩
  | .hbm, ⟨14, _⟩ => ⟨S4096, .i32⟩
  | .hbm, ⟨15, _⟩ => ⟨S4096x1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S_, .i32⟩
  | .hbm, ⟨20, _⟩ => ⟨S4096x1, .i32⟩
  | .hbm, ⟨21, _⟩ => ⟨S4096x1, .i32⟩
  | .hbm, ⟨22, _⟩ => ⟨S4096x1, .i32⟩
  | .hbm, ⟨23, _⟩ => ⟨S_, .i32⟩
  | .hbm, ⟨24, _⟩ => ⟨S4096x1, .i32⟩
  | .hbm, ⟨25, _⟩ => ⟨S4096x1, .i1⟩
  | .hbm, ⟨26, _⟩ => ⟨S_, .i32⟩
  | .hbm, ⟨27, _⟩ => ⟨S4096x1, .i32⟩
  | .hbm, ⟨28, _⟩ => ⟨S4096x1, .i32⟩
  | .hbm, ⟨29, _⟩ => ⟨S4096x1, .i32⟩
  | .hbm, ⟨30, _⟩ => ⟨S4096x1x1, .i32⟩
  | .hbm, ⟨31, _⟩ => ⟨S4096x1x1, .i32⟩
  | .hbm, ⟨32, _⟩ => ⟨S4096x1x2, .i32⟩
  | .hbm, ⟨33, _⟩ => ⟨S4096x8, .f32⟩
  | .hbm, ⟨34, _⟩ => ⟨S8x4096, .f32⟩
  | .hbm, ⟨35, _⟩ => ⟨S8x4096, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .f32⟩
  | .hbm, ⟨43, _⟩ => ⟨S1x4096x1x1024, .f32⟩
  | .hbm, ⟨44, _⟩ => ⟨S8x4096x1x1024, .f32⟩
  | .hbm, ⟨45, _⟩ => ⟨S32768x1024, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S8x4096x1024, .f32⟩
  | .hbm, ⟨50, _⟩ => ⟨S8x4096x4096, .f32⟩
  | .hbm, ⟨51, _⟩ => ⟨S8x4096x2048, .f32⟩
  | .hbm, ⟨52, _⟩ => ⟨S8x4096x2048, .f32⟩
  | .hbm, ⟨53, _⟩ => ⟨S8x4096x2048, .f32⟩
  | .hbm, ⟨54, _⟩ => ⟨S8x4096x2048, .f32⟩
  | .hbm, ⟨55, _⟩ => ⟨S_, .f32⟩
  | .hbm, ⟨56, _⟩ => ⟨S8x4096x2048, .f32⟩
  | .hbm, ⟨57, _⟩ => ⟨S8x4096x2048, .f32⟩
  | .hbm, ⟨58, _⟩ => ⟨S_, .f32⟩
  | .hbm, ⟨59, _⟩ => ⟨S8x4096x2048, .f32⟩
  | .hbm, ⟨60, _⟩ => ⟨S8x4096x2048, .f32⟩
  | .hbm, ⟨61, _⟩ => ⟨S8x4096x2048, .f32⟩
  | .hbm, ⟨62, _⟩ => ⟨S8x4096x2048, .f32⟩
  | .hbm, ⟨63, _⟩ => ⟨S8x4096x1024, .f32⟩
  | .hbm, ⟨64, _⟩ => ⟨S32768x1024, .f32⟩
  | .hbm, ⟨65, _⟩ => ⟨S1024x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S1024x2048, .f32⟩
  | .hbm, ⟨77, _⟩ => ⟨S4096x2048, .f32⟩
  | .hbm, ⟨78, _⟩ => ⟨S4096x2048, .f32⟩
  | .hbm, ⟨79, _⟩ => ⟨S2048x1024, .f32⟩
  | .hbm, ⟨80, _⟩ => ⟨S4096x1024, .f32⟩
  | .hbm, ⟨81, _⟩ => ⟨S4096, .i32⟩
  | .hbm, ⟨82, _⟩ => ⟨S1x4096, .i32⟩
  | .hbm, ⟨83, _⟩ => ⟨S8x4096, .i32⟩
  | .hbm, ⟨84, _⟩ => ⟨S32768, .i32⟩
  | .hbm, ⟨85, _⟩ => ⟨S_, .i32⟩
  | .hbm, ⟨86, _⟩ => ⟨S32768, .i32⟩
  | .hbm, ⟨87, _⟩ => ⟨S32768, .i1⟩
  | .hbm, ⟨88, _⟩ => ⟨S_, .i32⟩
  | .hbm, ⟨89, _⟩ => ⟨S32768, .i32⟩
  | .hbm, ⟨90, _⟩ => ⟨S32768, .i32⟩
  | .hbm, ⟨91, _⟩ => ⟨S32768, .i32⟩
  | .hbm, ⟨92, _⟩ => ⟨S32768x1, .i32⟩
  | .hbm, ⟨93, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_values : Ref sig .tc := ⟨.hbm, 10, rfl⟩
abbrev main_indices : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_5 : Ref sig .tc := ⟨.hbm, 85, rfl⟩
abbrev main_v53 : Ref sig .tc := ⟨.hbm, 86, rfl⟩
abbrev main_v54 : Ref sig .tc := ⟨.hbm, 87, rfl⟩
abbrev main_c_6 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩

abbrev nD : Nat := 1
abbrev τ : Topo := Topo.v7x

variable {F : FTy → Type} [FloatOps F]
-- ==== Proof.LayerBase.lean ====
/-
  The layer's program as the launch theorem for SparseCore programs sees it: its two SparseCore calls (the scatter of the
  scaled token rows, the gather of the experts' rows), its three TensorCore pipelines (the router, the experts' MLP, the
  shared expert's MLP), and the resource algebra their proofs share: the handshakes' rounds, the pipelines' rounds, the
  copies' counters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Pipeline.Regions
public import Idealize.ShloMosaic.Lib.ValueLayout
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Layer

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev ΛP : Labels := Pipeline.Sig Λ₀ (Fin 3) fun p => (pcfgs (F := F) p).Adm
abbrev K : SparseCore.Cfg τ sig (ΛP (F := F)) 2 := sc (F := F)
theorem nSub_zero : (K (F := F)).nSub 0 = 16 := rfl
theorem nCore_zero : (K (F := F)).nCore 0 = 2 := rfl
theorem nSub_one : (K (F := F)).nSub 1 = 16 := rfl
theorem nCore_one : (K (F := F)).nCore 1 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

abbrev EH : Emb UH (MT nD τ sig (HIx 2) (Elt F) ℕ UU ℕ) := embL
def EP : Emb UP (MT nD τ sig (HIx 2) (Elt F) ℕ UU ℕ) := (Emb.inl : Emb UP (UP × Counters)).trans embR
instance EP_landsIn : (EP (F := F)).LandsIn (upEmb : UEmb _ (MT nD τ sig (HIx 2) (Elt F) ℕ UU ℕ)) := by
  unfold EP embR; infer_instance

end Cert.Proof.Layer

end
-- ==== Proof.GatherBase.lean ====
/-
  The row gather on the SparseCores: what its proof's parts share. The program as the launch theorem sees it, the three
  arrays it works on (the row table `x`, the row numbers `i`, the result `o`), the element sets its copies move — a run of
  128-element blocks of `i`, a run of 128-row blocks of `o`, one of the two slots of a subcore's double buffers — and what
  each array holds at each point, from contents `m` of the memory at the call:

    * slot of the index buffer, block `B` fetched:  word `l` is `i[128 B + l]`;
    * slot of the row buffer, block `B` gathered:   row `r` is row `i[128 B + r]` of the table;
    * the result:                                   row `r` is row `i[r]` of the table.
-/
module

public import proofs.«01_k».proof.Proof.LayerBase

@[expose] public section

noncomputable section

namespace Cert.Proof.GatherKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-! ## The arrays -/

variable (m : (ℓ : Loc nD τ sig) → Buf (Elt F) ℓ)

abbrev xLoc (d : Dev nD) : Loc nD τ sig := (SparseCore.T d).loc main_v12
abbrev iLoc (d : Dev nD) : Loc nD τ sig := (SparseCore.T d).loc main_v10
abbrev oLoc (d : Dev nD) : Loc nD τ sig := (SparseCore.T d).loc main_v13

abbrev xV : Memref sig .scVector .hbm S47104x128 .f32 := Memref.whole main_v12_scv
abbrev iV : Memref sig .scVector .hbm S1x32768 .i32 := Memref.whole main_v10_scv
abbrev oV : Memref sig .scVector .hbm S32768x128 .f32 := Memref.whole main_v13_scv
abbrev sV : Memref sig .scVector .vmem S2x1x128 .i32 := Memref.whole cc3_scoped0
abbrev rV : Memref sig .scVector .vmem S2x128x128 .f32 := Memref.whole cc3_scoped2

/-- The subcore a task runs on. -/
abbrev cV (L : grid3.Coords) : Fin τ.nSC := (L 0).castLE hcore3
abbrev jV (L : grid3.Coords) : Fin τ.nSub := (L 1).castLE hsub3
abbrev cT (d : Dev nD) (L : grid3.Coords) : Thread nD τ := V d (cV L) (jV L)

/-- The first of a task's eight blocks. -/
def base (L : grid3.Coords) : ℕ := 8 * (16 * (L 0).val + (L 1).val)

theorem base_le (L : grid3.Coords) : base L + 8 ≤ 256 := by
  have h0 : (L 0).val < 2 := (L 0).isLt
  have h1 : (L 1).val < 16 := (L 1).isLt
  unfold base; omega

/-- The cells a task's copies complete on: slot `s`'s of the index fetches, slot `s`'s of the write-outs, the gather's. -/
def semI (s : ℕ) : DmaSem sig := ⟨20 + s % 2, by have := Nat.mod_lt s Nat.two_pos; show _ < 34; omega⟩
def semO (s : ℕ) : DmaSem sig := ⟨22 + s % 2, by have := Nat.mod_lt s Nat.two_pos; show _ < 34; omega⟩
def semG : DmaSem sig := ⟨24, by decide⟩

/-! ## Element sets -/

/-- The elements of the row numbers in blocks `a` to `b`, `b` excluded. -/
def iRng (a b : ℕ) : Finset S1x32768.Idx := Finset.univ.filter fun j => a ≤ (j 1).val / 128 ∧ (j 1).val / 128 < b
/-- The elements of the result in row blocks `a` to `b`, `b` excluded. -/
def oRng (a b : ℕ) : Finset S32768x128.Idx := Finset.univ.filter fun j => a ≤ (j 0).val / 128 ∧ (j 0).val / 128 < b
/-- Slot `s` of the index buffer, of the row buffer. -/
def iSlot (s : ℕ) : Finset S2x1x128.Idx := Finset.univ.filter fun j => (j 0).val = s
def rSlot (s : ℕ) : Finset S2x128x128.Idx := Finset.univ.filter fun j => (j 0).val = s

theorem mem_iRng {a b : ℕ} {j : S1x32768.Idx} : j ∈ iRng a b ↔ a ≤ (j 1).val / 128 ∧ (j 1).val / 128 < b := by simp [iRng]
theorem mem_oRng {a b : ℕ} {j : S32768x128.Idx} : j ∈ oRng a b ↔ a ≤ (j 0).val / 128 ∧ (j 0).val / 128 < b := by simp [oRng]
theorem mem_iSlot {s : ℕ} {j : S2x1x128.Idx} : j ∈ iSlot s ↔ (j 0).val = s := by simp [iSlot]
theorem mem_rSlot {s : ℕ} {j : S2x128x128.Idx} : j ∈ rSlot s ↔ (j 0).val = s := by simp [rSlot]

theorem iRng_union {a b c : ℕ} (h : a ≤ b) (h' : b ≤ c) : iRng a b ∪ iRng b c = iRng a c := by
  ext j; simp only [Finset.mem_union, mem_iRng]; omega
theorem oRng_union {a b c : ℕ} (h : a ≤ b) (h' : b ≤ c) : oRng a b ∪ oRng b c = oRng a c := by
  ext j; simp only [Finset.mem_union, mem_oRng]; omega
theorem iRng_disjoint {a b c e : ℕ} (h : b ≤ c) : Disjoint (iRng a b) (iRng c e) := by
  rw [Finset.disjoint_left]; intro j; simp only [mem_iRng]; omega
theorem oRng_disjoint {a b c e : ℕ} (h : b ≤ c) : Disjoint (oRng a b) (oRng c e) := by
  rw [Finset.disjoint_left]; intro j; simp only [mem_oRng]; omega
theorem iRng_self (a : ℕ) : iRng a a = ∅ := by
  ext j; simp only [mem_iRng, Finset.notMem_empty, iff_false]; omega
theorem oRng_self (a : ℕ) : oRng a a = ∅ := by
  ext j; simp only [mem_oRng, Finset.notMem_empty, iff_false]; omega
theorem iRng_all : iRng 0 256 = Finset.univ := by
  ext j; have : (j 1).val < 32768 := (j 1).isLt; simp only [mem_iRng, Finset.mem_univ, iff_true]; omega
theorem oRng_all : oRng 0 256 = Finset.univ := by
  ext j; have : (j 0).val < 32768 := (j 0).isLt; simp only [mem_oRng, Finset.mem_univ, iff_true]; omega
theorem iSlot_union : iSlot 0 ∪ iSlot 1 = Finset.univ := by
  ext j; have : (j 0).val < 2 := (j 0).isLt; simp only [Finset.mem_union, mem_iSlot, Finset.mem_univ, iff_true]; omega
theorem rSlot_union : rSlot 0 ∪ rSlot 1 = Finset.univ := by
  ext j; have : (j 0).val < 2 := (j 0).isLt; simp only [Finset.mem_union, mem_rSlot, Finset.mem_univ, iff_true]; omega
theorem iSlot_disjoint : Disjoint (iSlot 0) (iSlot 1) := by
  rw [Finset.disjoint_left]; intro j; simp only [mem_iSlot]; omega
theorem rSlot_disjoint : Disjoint (rSlot 0) (rSlot 1) := by
  rw [Finset.disjoint_left]; intro j; simp only [mem_rSlot]; omega

/-! ## Contents -/

/-- The table's row a word names (the last row, of a word past it). -/
def rowOf (w : BitVec 32) : Fin 47104 := ⟨min w.toNat 47103, by omega⟩

/-- The row number of result row `r`. -/
def wordAt (X : S1x32768.Idx → BitVec 32) (r : ℕ) : BitVec 32 := X (ix2 (0 : Fin 1) ⟨r % 32768, Nat.mod_lt _ (by decide)⟩)

/-- A slot of the index buffer once block `B` is fetched into it. -/
def iCont (X : S1x32768.Idx → BitVec 32) (B : ℕ) : S2x1x128.Idx → BitVec 32 := fun j => wordAt X (128 * B + (j 2).val)

/-- A slot of the row buffer once block `B` is gathered into it. -/
def rCont {α : Type} (X : S1x32768.Idx → BitVec 32) (T : S47104x128.Idx → α) (B : ℕ) : S2x128x128.Idx → α :=
  fun j => T (ix2 (rowOf (wordAt X (128 * B + (j 1).val))) (j 2 : Fin 128))

/-- The result: the table's rows at the row numbers. -/
def oCont {α : Type} (X : S1x32768.Idx → BitVec 32) (T : S47104x128.Idx → α) : S32768x128.Idx → α :=
  fun j => T (ix2 (rowOf (wordAt X (j 0).val)) (j 1 : Fin 128))

/-- What the proof asks of the launch memory: every word of the row numbers is below the table's height. -/
def PreOK : Prop := ∀ (d : Dev nD) (j : S1x32768.Idx), (m (iLoc d) j).toNat < 47104

/-! ## The arrays' parts as resources -/

section Parts

variable (d : Dev nD) (L : grid3.Coords)

/-- A task's share of the table. -/
def xShare (c : Fin 2) (i : Fin 16) : PosShare TreeShare :=
  Transfers.dealOf (Transfers.dealOf fullShare Finset.univ c) Finset.univ i

abbrev xPts (q : PosShare TreeShare) : sProp 𝕄 := xLoc d ↦{q} m (xLoc d)
abbrev iPts (a b : ℕ) : sProp 𝕄 := iLoc d ↦[iRng a b]{fullShare} m (iLoc d)
abbrev oPts (a b : ℕ) (f : Buf (Elt F) (oLoc d)) : sProp 𝕄 := oLoc d ↦[oRng a b]{fullShare} f
abbrev sPts (s : ℕ) (f : Buf (Elt F) ((cT d L).loc cc3_scoped0)) : sProp 𝕄 := (cT d L).loc cc3_scoped0 ↦[iSlot s]{fullShare} f
abbrev rPts (s : ℕ) (f : Buf (Elt F) ((cT d L).loc cc3_scoped2)) : sProp 𝕄 := (cT d L).loc cc3_scoped2 ↦[rSlot s]{fullShare} f

/-- The result's contents, of the launch memory's table and row numbers. -/
abbrev G : Buf (Elt F) (oLoc d) := oCont (m (iLoc d)) (m (xLoc d))
abbrev Gi (B : ℕ) : Buf (Elt F) ((cT d L).loc cc3_scoped0) := iCont (m (iLoc d)) B
abbrev Gr (B : ℕ) : Buf (Elt F) ((cT d L).loc cc3_scoped2) := rCont (m (iLoc d)) (m (xLoc d)) B

theorem iPts_split {a b c : ℕ} (h : a ≤ b) (h' : b ≤ c) : (iPts m d a c : sProp 𝕄) ⊣⊢ iprop(iPts m d a b ∗ iPts m d b c) := by
  unfold iPts; rw [← iRng_union h h']; exact pointsTo_union (iRng_disjoint le_rfl)
theorem oPts_split {a b c : ℕ} (h : a ≤ b) (h' : b ≤ c) (f : Buf (Elt F) (oLoc d)) :
    (oPts d a c f : sProp 𝕄) ⊣⊢ iprop(oPts d a b f ∗ oPts d b c f) := by
  unfold oPts; rw [← oRng_union h h']; exact pointsTo_union (oRng_disjoint le_rfl)
theorem iPts_nil (a : ℕ) : (iPts m d a a : sProp 𝕄) = iprop(emp) := by unfold iPts; rw [iRng_self]; exact pointsTo_empty
theorem oPts_nil (a : ℕ) (f : Buf (Elt F) (oLoc d)) : (oPts d a a f : sProp 𝕄) = iprop(emp) := by unfold oPts; rw [oRng_self]; exact pointsTo_empty

/-- What a fetch, a write-out credits its cell. -/
abbrev NI : ℕ := sig.dmaCredit .scVector (Kind.scVector.table .vmem) (cc3_scoped0 : Ref sig .scVector).idx S1x128 .i32
abbrev NO : ℕ := sig.dmaCredit .scVector (Kind.scVector.table .hbm) (main_v13_scv : Ref sig .scVector).idx S128x128 .f32

/-- Block `B` of the row numbers on its way into slot `s`: on completion the slot holds it and the block is back. -/
abbrev FI (s B : ℕ) : sProp 𝕄 :=
  Transfers.Flight countersEmb (cT d L) (.dma (semI s)) (default : HIx 2) NI iprop(sPts d L s (Gi m d L B) ∗ iPts m d B (B + 1))
/-- Row block `B` of the result on its way from slot `s`. -/
abbrev FO (s B : ℕ) : sProp 𝕄 :=
  Transfers.Flight countersEmb (cT d L) (.dma (semO s)) (default : HIx 2) NO iprop(oPts d B (B + 1) (G m d) ∗ rPts d L s (Gr m d L B))

/-- Slot `s` of the index fetches, of the write-outs, idle. -/
abbrev idleI (s : ℕ) : sProp 𝕄 := iprop((∃ f, sPts d L s f) ∗ semVal (cT d L, SemLoc.dma (semI s)) 0)
abbrev idleO (s : ℕ) : sProp 𝕄 := iprop((∃ f, rPts d L s f) ∗ semVal (cT d L, SemLoc.dma (semO s)) 0)

end Parts

end Cert.Proof.GatherKI

end
-- ==== Proof.GatherRules.lean ====
/-
  The row gather: a task's five kinds of memory operation, as rules over the parts of `GatherBase`. Each is stated at
  offsets a program computes, together with what they come to, so that a body whose offsets are long chains of words is
  run by rewriting none of them: a fetch of a block of row numbers into a slot and its wait, the indirect gather of a
  block's rows into a slot (issued and waited for at once), a write-out of a slot to its block of the result and its wait.
-/
module

public import proofs.«01_k».proof.Proof.GatherBase

@[expose] public section

noncomputable section

namespace Cert.Proof.GatherKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

variable (m : (ℓ : Loc nD τ sig) → Buf (Elt F) ℓ)

/-! ## The memrefs a task copies between, at given offsets -/

abbrev iSlotM (off : Fin 3 → ℕ) (inb : ∀ a, off a + S1x1x128.size a ≤ S2x1x128.size a) : Memref sig .scVector .vmem S1x128 .i32 :=
  ((sV).slice (Rect.unit (s := S2x1x128) off S1x1x128.size inb) (fun _ => rfl)).squeeze S1x128 squeezes_S1x1x128_S1x128
abbrev iBlkM (off : Fin 2 → ℕ) (inb : ∀ a, off a + S1x128.size a ≤ S1x32768.size a) : Memref sig .scVector .hbm S1x128 .i32 :=
  (iV).slice (Rect.unit (s := S1x32768) off S1x128.size inb) (fun _ => rfl)
abbrev rSlotM (off : Fin 3 → ℕ) (inb : ∀ a, off a + S1x128x128.size a ≤ S2x128x128.size a) : Memref sig .scVector .vmem S128x128 .f32 :=
  ((rV).slice (Rect.unit (s := S2x128x128) off S1x128x128.size inb) (fun _ => rfl)).squeeze S128x128 squeezes_S1x128x128_S128x128
abbrev oBlkM (off : Fin 2 → ℕ) (inb : ∀ a, off a + S128x128.size a ≤ S32768x128.size a) : Memref sig .scVector .hbm S128x128 .f32 :=
  (oV).slice (Rect.unit (s := S32768x128) off S128x128.size inb) (fun _ => rfl)
/-- A slot of the index buffer as the gather's offset list. -/
abbrev iListM (off : Fin 3 → ℕ) (inb : ∀ a, off a + S1x1x128.size a ≤ S2x1x128.size a) : Memref sig .scVector .vmem S128 .i32 :=
  ((iSlotM off inb).slice (Rect.unit (s := S1x128) ![0, 0] S1x128.size inb_S1x128_S1x128_0_0) (fun _ => rfl)).squeeze S128 squeezes_S1x128_S128
abbrev xAllM : Memref sig .scVector .hbm S47104x128 .f32 :=
  (xV).slice (Rect.unit (s := S47104x128) ![0, 0] S47104x128.size inb_S47104x128_S47104x128_0_0) (fun _ => rfl)
abbrev semAt (A : DmaSems sig S2) (off : Fin 1 → ℕ) (inb : ∀ a, off a + S1.size a ≤ S2.size a) : DmaSem sig :=
  ((A.slice (Rect.unit (s := S2) off S1.size inb)).squeeze S_ squeezes_S1_S_).sem

theorem semAt_I {off : Fin 1 → ℕ} {s : ℕ} (h : off = ![s % 2]) (inb : ∀ a, off a + S1.size a ≤ S2.size a) :
    semAt cc3_scoped1 off inb = semI s := by
  subst h
  have key : ∀ t : Fin 2, ∀ inb : ∀ a, (![t.val] : Fin 1 → ℕ) a + S1.size a ≤ S2.size a,
      semAt cc3_scoped1 ![t.val] inb = (⟨20 + t.val, by have := t.isLt; show _ < 34; omega⟩ : DmaSem sig) := by decide
  exact key ⟨s % 2, Nat.mod_lt _ Nat.two_pos⟩ inb

theorem semAt_O {off : Fin 1 → ℕ} {s : ℕ} (h : off = ![s % 2]) (inb : ∀ a, off a + S1.size a ≤ S2.size a) :
    semAt cc3_scoped3 off inb = semO s := by
  subst h
  have key : ∀ t : Fin 2, ∀ inb : ∀ a, (![t.val] : Fin 1 → ℕ) a + S1.size a ≤ S2.size a,
      semAt cc3_scoped3 ![t.val] inb = (⟨22 + t.val, by have := t.isLt; show _ < 34; omega⟩ : DmaSem sig) := by decide
  exact key ⟨s % 2, Nat.mod_lt _ Nat.two_pos⟩ inb

theorem semAt_G : (cc3_scoped4 : DmaSems sig S_).sem = semG := by decide

/-! ## Where their elements lie -/

theorem set_iSlotM {off : Fin 3 → ℕ} {s : ℕ} (h : off = ![s, 0, 0]) (inb : ∀ a, off a + S1x1x128.size a ≤ S2x1x128.size a) :
    (iSlotM off inb).view.set = iSlot s := by
  subst h
  show (((sV).view.slice _).reshape _ _).set = _
  rw [View.set_reshape, View.set_slice_whole]
  ext j
  have h1 : (j 1).val < 1 := (j 1).isLt
  have h2 : (j 2).val < 128 := (j 2).isLt
  rw [Rect.mem_set_unit, mem_iSlot]
  refine (Fin.forall_fin_succ.trans (and_congr_right' Fin.forall_fin_two)).trans ?_
  show (s ≤ (j 0).val ∧ (j 0).val < s + 1) ∧ (0 ≤ (j 1).val ∧ (j 1).val < 0 + 1) ∧ (0 ≤ (j 2).val ∧ (j 2).val < 0 + 128) ↔ _
  omega

theorem set_iBlkM {off : Fin 2 → ℕ} {B : ℕ} (h : off = ![0, 128 * B]) (inb : ∀ a, off a + S1x128.size a ≤ S1x32768.size a) :
    (iBlkM off inb).view.set = iRng B (B + 1) := by
  subst h
  show ((iV).view.slice _).set = _
  rw [View.set_slice_whole]
  ext j
  have h0 : (j 0).val < 1 := (j 0).isLt
  rw [Rect.mem_set_unit, mem_iRng]
  refine Fin.forall_fin_two.trans ?_
  show (0 ≤ (j 0).val ∧ (j 0).val < 0 + 1) ∧ (128 * B ≤ (j 1).val ∧ (j 1).val < 128 * B + 128) ↔ _
  omega

theorem set_rSlotM {off : Fin 3 → ℕ} {s : ℕ} (h : off = ![s, 0, 0]) (inb : ∀ a, off a + S1x128x128.size a ≤ S2x128x128.size a) :
    (rSlotM off inb).view.set = rSlot s := by
  subst h
  show (((rV).view.slice _).reshape _ _).set = _
  rw [View.set_reshape, View.set_slice_whole]
  ext j
  have h1 : (j 1).val < 128 := (j 1).isLt
  have h2 : (j 2).val < 128 := (j 2).isLt
  rw [Rect.mem_set_unit, mem_rSlot]
  refine (Fin.forall_fin_succ.trans (and_congr_right' Fin.forall_fin_two)).trans ?_
  show (s ≤ (j 0).val ∧ (j 0).val < s + 1) ∧ (0 ≤ (j 1).val ∧ (j 1).val < 0 + 128) ∧ (0 ≤ (j 2).val ∧ (j 2).val < 0 + 128) ↔ _
  omega

theorem set_oBlkM {off : Fin 2 → ℕ} {B : ℕ} (h : off = ![128 * B, 0]) (inb : ∀ a, off a + S128x128.size a ≤ S32768x128.size a) :
    (oBlkM off inb).view.set = oRng B (B + 1) := by
  subst h
  show ((oV).view.slice _).set = _
  rw [View.set_slice_whole]
  ext j
  have h1 : (j 1).val < 128 := (j 1).isLt
  rw [Rect.mem_set_unit, mem_oRng]
  refine Fin.forall_fin_two.trans ?_
  show (128 * B ≤ (j 0).val ∧ (j 0).val < 128 * B + 128) ∧ (0 ≤ (j 1).val ∧ (j 1).val < 0 + 128) ↔ _
  omega

theorem set_iListM {off : Fin 3 → ℕ} {s : ℕ} (h : off = ![s, 0, 0]) (inb : ∀ a, off a + S1x1x128.size a ≤ S2x1x128.size a) :
    (iListM off inb).view.set = iSlot s := by
  rw [← set_iSlotM h inb]
  show (((iSlotM off inb).view.slice _).reshape _ _).set = _
  rw [View.set_reshape, View.set_slice]
  have : (Rect.unit (s := S1x128) ![0, 0] S1x128.size inb_S1x128_S1x128_0_0).set = Finset.univ := by decide
  rw [this]; rfl

theorem set_xAllM : (xAllM).view.set = Finset.univ := by
  show ((xV).view.slice _).set = _
  rw [View.set_slice_whole]
  ext j
  have h0 : (j 0).val < 47104 := (j 0).isLt
  have h1 : (j 1).val < 128 := (j 1).isLt
  rw [Rect.mem_set_unit]
  refine Fin.forall_fin_two.trans ?_
  show (0 ≤ (j 0).val ∧ (j 0).val < 0 + 47104) ∧ (0 ≤ (j 1).val ∧ (j 1).val < 0 + 128) ↔ _
  simp only [Finset.mem_univ, iff_true]; omega

/-- Element `(u, l)` of a slot of the index buffer. -/
theorem emb_iSlotM {off : Fin 3 → ℕ} {s : ℕ} (h : off = ![s, 0, 0]) (inb : ∀ a, off a + S1x1x128.size a ≤ S2x1x128.size a) (x : S1x128.Idx) :
    (((iSlotM off inb).view.emb x : S2x1x128.Idx) 2).val = (x 1).val := by
  subst h
  have e : (Shape.reshapeEquiv squeezes_S1x1x128_S1x128.numel_eq x : S1x1x128.Idx) = Fin.cons ⟨0, Nat.one_pos⟩ x :=
    Shape.reshapeEquiv_cons_one _ x
  refine (congrArg (fun y : S1x1x128.Idx => ((Rect.unit (s := S2x1x128) ![s, 0, 0] S1x1x128.size inb).emb y 2).val) e).trans ?_
  show 0 + 1 * (x 1).val = _
  omega
theorem emb_iBlkM {off : Fin 2 → ℕ} {B : ℕ} (h : off = ![0, 128 * B]) (inb : ∀ a, off a + S1x128.size a ≤ S1x32768.size a) (x : S1x128.Idx) :
    (((iBlkM off inb).view.emb x : S1x32768.Idx) 1).val = 128 * B + (x 1).val := by
  subst h
  show 128 * B + 1 * (x 1).val = _
  omega
theorem emb_rSlotM {off : Fin 3 → ℕ} {s : ℕ} (h : off = ![s, 0, 0]) (inb : ∀ a, off a + S1x128x128.size a ≤ S2x128x128.size a) (x : S128x128.Idx) :
    (((rSlotM off inb).view.emb x : S2x128x128.Idx) 1).val = (x 0).val ∧ (((rSlotM off inb).view.emb x : S2x128x128.Idx) 2).val = (x 1).val := by
  subst h
  have e : (Shape.reshapeEquiv squeezes_S1x128x128_S128x128.numel_eq x : S1x128x128.Idx) = Fin.cons ⟨0, Nat.one_pos⟩ x :=
    Shape.reshapeEquiv_cons_one _ x
  constructor
  · refine (congrArg (fun y : S1x128x128.Idx => ((Rect.unit (s := S2x128x128) ![s, 0, 0] S1x128x128.size inb).emb y 1).val) e).trans ?_
    show 0 + 1 * (x 0).val = _
    omega
  · refine (congrArg (fun y : S1x128x128.Idx => ((Rect.unit (s := S2x128x128) ![s, 0, 0] S1x128x128.size inb).emb y 2).val) e).trans ?_
    show 0 + 1 * (x 1).val = _
    omega
theorem emb_oBlkM {off : Fin 2 → ℕ} {B : ℕ} (h : off = ![128 * B, 0]) (inb : ∀ a, off a + S128x128.size a ≤ S32768x128.size a) (x : S128x128.Idx) :
    (((oBlkM off inb).view.emb x : S32768x128.Idx) 0).val = 128 * B + (x 0).val ∧ (((oBlkM off inb).view.emb x : S32768x128.Idx) 1).val = (x 1).val := by
  subst h
  constructor
  · show 128 * B + 1 * (x 0).val = _
    omega
  · show 0 + 1 * (x 1).val = _
    omega
/-- Entry `l` of the offset list. -/
theorem emb_iListM {off : Fin 3 → ℕ} {s : ℕ} (h : off = ![s, 0, 0]) (inb : ∀ a, off a + S1x1x128.size a ≤ S2x1x128.size a) (x : S128.Idx) :
    (((iListM off inb).view.emb x : S2x1x128.Idx) 2).val = (x 0).val := by
  have e : (iListM off inb).view.emb x
      = (iSlotM off inb).view.emb ((Rect.unit (s := S1x128) ![0, 0] S1x128.size inb_S1x128_S1x128_0_0).emb
          (Shape.reshapeEquiv squeezes_S1x128_S128.numel_eq x)) := rfl
  rw [e, emb_iSlotM h, Shape.reshapeEquiv_cons_one]
  show 0 + 1 * (x 0).val = _
  omega
theorem emb_xAllM (x : S47104x128.Idx) : (xAllM).view.emb x = x := by
  funext a
  match a with
  | ⟨0, _⟩ => exact Fin.ext (show 0 + 1 * (x 0).val = (x 0).val by omega)
  | ⟨1, _⟩ => exact Fin.ext (show 0 + 1 * (x 1).val = (x 1).val by omega)

end Cert.Proof.GatherKI

end
-- ==== Proof.GatherSteps.lean ====
/-
  The row gather: a task's memory operations as rules over the parts of `GatherBase`, at offsets a program computes.
-/
module

public import proofs.«01_k».proof.Proof.GatherRules

@[expose] public section

noncomputable section

namespace Cert.Proof.GatherKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

variable (m : (ℓ : Loc nD τ sig) → Buf (Elt F) ℓ)

variable (d : Dev nD) (L : grid3.Coords)

/-! ## A wait's evidence -/

/-- What a task owes while it runs: evidence for each of its waits, the waits so far. -/
abbrev Owed (O : CellTallies nD τ sig (HIx 2)) (W : Waits sig (HIx 2)) : sProp 𝕄 :=
  iprop(Transfers.MayWaits (cT d L) (default : HIx 2) O ∗ ∃ W', ⌜∀ p ∈ W', p ∈ W ∨ p.2 = none⌝ ∗ owes (cT d L) O W')

theorem wp_wait {s' s : Shape} {e' e : EltTy} {sp sp' : Space} {sem sem' : DmaSem sig} (hsem : sem = sem')
    {srcw : Memref sig (cT d L).2.kind sp' s' e'} {dstw : Memref sig (cT d L).2.kind sp s e}
    {hsrc : srcw.view.WordExact} {hdst : dstw.view.WordExact} {α : Type}
    {k : PUnit → Prog (TpuEff nD τ sig (Elt F) Λ₀ (cT d L).2) α} {N : ℕ} (hN : dstw.view.dmaCredit = N) {X : sProp 𝕄}
    {O : CellTallies nD τ sig (HIx 2)} {W : Waits sig (HIx 2)} {Q : α → sProp 𝕄} :
    iprop(Transfers.Flight countersEmb (cT d L) (.dma sem') (default : HIx 2) N X ∗ Owed d L O W)
      ⊢ iprop((iprop(X ∗ semVal (cT d L, SemLoc.dma sem') 0 ∗ Owed d L O W) -∗ wp frame (wpE (defs₀ (F := F)) 𝒱₀ (cT d L) none) Set.univ (k ⟨⟩) Q)
          -∗ wp frame (wpE (defs₀ (F := F)) 𝒱₀ (cT d L) none) Set.univ (.op (.waitDma2 sem srcw dstw hsrc hdst) k) Q) := by
  subst hsem
  iintro ⟨Hfl, #Hmw, %W', %hW', HO⟩ Hk
  iapply (Transfers.wp_waitLocalO countersEmb 𝒱₀ (cT d L) none (default : HIx 2) hN) $$ [Hfl HO]
  · isplitl [Hfl]; · iexact Hfl
    isplitl [HO]; · iexact HO
    iapply (Transfers.MayWaits.elim (SemLoc.dma sem)) $$ Hmw
  iintro ⟨HX, Hsem, HO⟩
  iapply Hk
  isplitl [HX]; · iexact HX
  isplitl [Hsem]; · iexact Hsem
  isplitr; · iexact Hmw
  iexists _; isplitr
  swap; · iexact HO
  ipureintro; intro p hp
  rcases Finset.mem_insert.mp hp with hp | hp
  · exact .inr (hp ▸ rfl)
  · exact hW' p hp

/-! ## The fetch of a block of row numbers -/

theorem wp_fetch (s B : ℕ) (hB : B < 256) {off1 : Fin 3 → ℕ} {off2 : Fin 2 → ℕ} {off3 : Fin 1 → ℕ}
    (h1 : off1 = ![s % 2, 0, 0]) (h2 : off2 = ![0, 128 * B]) (h3 : off3 = ![s % 2])
    {inb1 : ∀ a, off1 a + S1x1x128.size a ≤ S2x1x128.size a} {inb2 : ∀ a, off2 a + S1x128.size a ≤ S1x32768.size a}
    {inb3 : ∀ a, off3 a + S1.size a ≤ S2.size a} {hsrc hdst hsem} {α : Type}
    {k : PUnit → Prog (TpuEff nD τ sig (Elt F) Λ₀ (cT d L).2) α} {Q : α → sProp 𝕄} :
    iprop(iPts m d B (B + 1) ∗ idleI (F := F) d L (s % 2))
      ⊢ iprop((FI m d L (s % 2) B -∗ wp frame (wpE (defs₀ (F := F)) 𝒱₀ (cT d L) none) Set.univ (k ⟨⟩) Q)
          -∗ wp frame (wpE (defs₀ (F := F)) 𝒱₀ (cT d L) none) Set.univ
              (.op (.enqueueDma (iBlkM off2 inb2) (.here (iSlotM off1 inb1)) (.dma (semAt cc3_scoped1 off3 inb3)) hsrc hdst hsem) k) Q) := by
  have hs := semAt_I (s := s % 2) (by rw [Nat.mod_mod]; exact h3) inb3
  iintro ⟨Hi, ⟨%f, Hs⟩, Hv⟩ Hk
  ihave Hi' := (Entails.of_eq (show (iPts m d B (B + 1) : sProp 𝕄)
      = ((iBlkM off2 inb2).view.loc (cT d L) ↦[(iBlkM off2 inb2).view.set]{fullShare} m (iLoc d)) by rw [set_iBlkM h2])) $$ Hi
  ihave Hs' := (Entails.of_eq (show (sPts d L (s % 2) f : sProp 𝕄)
      = ((iSlotM off1 inb1).view.loc (cT d L) ↦[(iSlotM off1 inb1).view.set]{fullShare} f) by rw [set_iSlotM h1])) $$ Hs
  ihave Hv' := (Entails.of_eq (show (semVal (cT d L, SemLoc.dma (semI (s % 2))) 0 : sProp 𝕄)
      = semVal (cT d L, SemLoc.dma (semAt cc3_scoped1 off3 inb3)) 0 by rw [hs])) $$ Hv
  iapply (Transfers.wp_dmaLocal countersEmb 𝒱₀ (cT d L) none (default : HIx 2) NI rfl (by decide) (Finset.Subset.refl _)) $$ [Hi' Hs' Hv']
  · isplitl [Hi']; · iexact Hi'
    isplitl [Hs']; · iexact Hs'
    iexact Hv'
  iintro Hfl
  iapply Hk
  unfold FI
  rw [← hs]
  iapply (Transfers.Flight_mono _ _ ?_) $$ Hfl
  rw [pointsTo_congr (g := Gi m d L B) ?_, set_iSlotM h1, set_iBlkM h2]
  intro j hj
  obtain ⟨x, -, rfl⟩ := Finset.mem_map.mp hj
  refine (View.write_emb_of_mem _ _ (Finset.mem_univ x)).trans ((cast_eq _ _).trans ?_)
  show View.read (Elt F) (iBlkM off2 inb2).view (m (iLoc d)) x
    = wordAt (m (iLoc d)) (128 * B + (((iSlotM off1 inb1).view.emb x : S2x1x128.Idx) 2).val)
  rw [View.read_apply, emb_iSlotM h1]
  have hx : (x 1).val < 128 := (x 1).isLt
  have h0 : ((iBlkM off2 inb2).view.emb x : S1x32768.Idx) = ix2 (0 : Fin 1) ⟨(128 * B + (x 1).val) % 32768, Nat.mod_lt _ (by decide)⟩ := by
    funext a
    match a with
    | ⟨0, _⟩ => exact Subsingleton.elim (α := Fin 1) _ _
    | ⟨1, _⟩ => exact Fin.ext ((emb_iBlkM h2 inb2 x).trans (Nat.mod_eq_of_lt (by omega)).symm)
  exact (cast_eq _ _).trans (congrArg (m (iLoc d)) h0)

/-! ## The gather of a block's rows -/

/-- The words a task reads of a fetched slot are rows of the table. -/
theorem list_inRange (hpre : PreOK (F := F) m) {off : Fin 3 → ℕ} {s B : ℕ} (h : off = ![s, 0, 0])
    (inb : ∀ a, off a + S1x1x128.size a ≤ S2x1x128.size a) (x : S128.Idx) :
    ((iListM off inb).view.read (Elt F) (Gi m d L B) x).toNat < 47104 := by
  rw [View.read_apply, cast_eq]
  exact hpre d _

/-- The credit of a gathered block. -/
abbrev NG : ℕ := sig.dmaCredit .scVector (Kind.scVector.table .vmem) (cc3_scoped2 : Ref sig .scVector).idx S128x128 .f32

theorem rows_credit {off : Fin 3 → ℕ} (inb : ∀ a, off a + S1x128x128.size a ≤ S2x128x128.size a) (h : S47104x128.Gathers 0 S128x128) :
    ∑ j, ((rSlotM off inb).slice (S128x128.rowRect h.axis' j) (S128x128.stride_rowRect h.axis' j)).view.dmaCredit = NG := by
  have key : ∀ h : S47104x128.Gathers 0 S128x128,
      ∑ j : Fin (S128x128.size h.axis'), sig.dmaCredit .scVector (Kind.scVector.table .vmem) (cc3_scoped2 : Ref sig .scVector).idx (S128x128.rowShape h.axis') .f32 = NG := by
    decide
  exact key h

theorem wp_gather (hpre : PreOK (F := F) m) (s B : ℕ) (hB : B < 256) (q : PosShare TreeShare) {off1 off2 : Fin 3 → ℕ}
    (h1 : off1 = ![s % 2, 0, 0]) (h2 : off2 = ![s % 2, 0, 0])
    {inb1 : ∀ a, off1 a + S1x128x128.size a ≤ S2x128x128.size a} {inb2 : ∀ a, off2 a + S1x1x128.size a ≤ S2x1x128.size a}
    {hn : S128.numel = S128x128.size (gathers_S47104x128_S128x128).axis'} {hp hsrc he hsp hr} {α : Type}
    {k : PUnit → Prog (TpuEff nD τ sig (Elt F) Λ₀ (cT d L).2) α} {Q : α → sProp 𝕄} :
    iprop(xPts m d q ∗ (∃ f, rPts d L (s % 2) f) ∗ sPts d L (s % 2) (Gi m d L B) ∗ semVal (cT d L, SemLoc.dma semG) 0)
      ⊢ iprop((Transfers.Flight countersEmb (cT d L) (.dma semG) (default : HIx 2) NG
                iprop(rPts d L (s % 2) (Gr m d L B) ∗ xPts m d q ∗ sPts d L (s % 2) (Gi m d L B))
              -∗ wp frame (wpE (defs₀ (F := F)) 𝒱₀ (cT d L) none) Set.univ (k ⟨⟩) Q)
          -∗ wp frame (wpE (defs₀ (F := F)) 𝒱₀ (cT d L) none) Set.univ
              (SparseCore.enqueueIndirectGather hp xAllM (rSlotM off1 inb1) gathers_S47104x128_S128x128 (iListM off2 inb2) hn
                (cc3_scoped4 : DmaSems sig S_).sem hsrc he hsp hr >>= k) Q) := by
  iintro ⟨Hx, ⟨%f, Hr⟩, Hs, Hv⟩ Hk
  ihave Hx' := (Entails.of_eq (show (xPts m d q : sProp 𝕄)
      = ((xAllM).view.loc (cT d L) ↦[(xAllM).view.set]{q} m (xLoc d)) by rw [set_xAllM])) $$ Hx
  ihave Hr' := (Entails.of_eq (show (rPts d L (s % 2) f : sProp 𝕄)
      = ((rSlotM off1 inb1).view.loc (cT d L) ↦[(rSlotM off1 inb1).view.set]{fullShare} f) by rw [set_rSlotM h1])) $$ Hr
  ihave Hs' := (Entails.of_eq (show (sPts d L (s % 2) (Gi m d L B) : sProp 𝕄)
      = ((iListM off2 inb2).view.loc (cT d L) ↦[(iListM off2 inb2).view.set]{fullShare} Gi m d L B) by rw [set_iListM h2])) $$ Hs
  ihave Hv' := (Entails.of_eq (show (semVal (cT d L, SemLoc.dma semG) 0 : sProp 𝕄)
      = semVal (cT d L, SemLoc.dma (cc3_scoped4 : DmaSems sig S_).sem) 0 by rw [semAt_G])) $$ Hv
  iapply (SparseCore.wp_indirectGatherLocal countersEmb 𝒱₀ (cT d L) none (hg := gathers_S47104x128_S128x128) (default : HIx 2)
      NG (rows_credit inb1 _) (by decide) (list_inRange m d L hpre h2 inb2)) $$ [Hx' Hr' Hs' Hv']
  · isplitl [Hx']; · iexact Hx'
    isplitl [Hr']; · iexact Hr'
    isplitl [Hs']; · iexact Hs'
    iexact Hv'
  iintro Hfl
  iapply Hk
  rw [semAt_G]
  iapply (Transfers.Flight_mono _ _ ?_) $$ Hfl
  rw [pointsTo_congr (g := Gr m d L B) ?_, set_rSlotM h1, set_xAllM, set_iListM h2]
  intro j hj
  obtain ⟨x, -, rfl⟩ := Finset.mem_map.mp hj
  refine (View.write_emb_of_mem _ _ (Finset.mem_univ x)).trans ((cast_eq _ _).trans ?_)
  show View.read (Elt F) (xAllM).view (m (xLoc d)) ((gathers_S47104x128_S128x128).idx _ x)
    = m (xLoc d) (ix2 (rowOf (wordAt (m (iLoc d)) (128 * B + (((rSlotM off1 inb1).view.emb x : S2x128x128.Idx) 1).val)))
        (((rSlotM off1 inb1).view.emb x : S2x128x128.Idx) 2 : Fin 128))
  rw [View.read_apply, cast_eq, emb_xAllM]
  refine congrArg (m (xLoc d)) (funext fun a => ?_)
  match a with
  | ⟨0, h⟩ =>
    refine ((gathers_S47104x128_S128x128).idx_axis _ x).trans (Fin.ext ?_)
    show (View.read (Elt F) (iListM off2 inb2).view (Gi m d L B) (S128.rowMajor.symm _)).toNat = min _ 47103
    rw [View.read_apply, cast_eq]
    show (wordAt (m (iLoc d)) (128 * B + (((iListM off2 inb2).view.emb (S128.rowMajor.symm _) : S2x1x128.Idx) 2).val)).toNat = _
    have hlt := hpre d (ix2 (0 : Fin 1) ⟨(128 * B + (((rSlotM off1 inb1).view.emb x : S2x128x128.Idx) 1).val) % 32768, Nat.mod_lt _ (by decide)⟩)
    rw [emb_iListM h2]
    refine Eq.trans ?_ (Nat.min_eq_left (Nat.le_of_lt_succ hlt)).symm
    refine congrArg (fun n => (wordAt (m (iLoc d)) (128 * B + n)).toNat) ?_
    rw [(emb_rSlotM h1 inb1 x).1]
    refine (Shape.rowMajor_val_one _).symm.trans ?_
    rw [Equiv.apply_symm_apply]; rfl
  | ⟨1, h⟩ =>
    refine Fin.ext (((gathers_S47104x128_S128x128).idx_of_ne _ x _ Nat.one_ne_zero).trans ?_)
    exact (emb_rSlotM h1 inb1 x).2.symm

/-! ## The write-back of a gathered block -/

theorem wp_put (s B : ℕ) (hB : B < 256) {off1 : Fin 3 → ℕ} {off2 : Fin 2 → ℕ} {off3 : Fin 1 → ℕ}
    (h1 : off1 = ![s % 2, 0, 0]) (h2 : off2 = ![128 * B, 0]) (h3 : off3 = ![s % 2])
    {inb1 : ∀ a, off1 a + S1x128x128.size a ≤ S2x128x128.size a} {inb2 : ∀ a, off2 a + S128x128.size a ≤ S32768x128.size a}
    {inb3 : ∀ a, off3 a + S1.size a ≤ S2.size a} {hsrc hdst hsem} {α : Type}
    {k : PUnit → Prog (TpuEff nD τ sig (Elt F) Λ₀ (cT d L).2) α} {f : Buf (Elt F) (oLoc d)} {Q : α → sProp 𝕄} :
    iprop(rPts d L (s % 2) (Gr m d L B) ∗ oPts d B (B + 1) f ∗ semVal (cT d L, SemLoc.dma (semO (s % 2))) 0)
      ⊢ iprop((FO m d L (s % 2) B -∗ wp frame (wpE (defs₀ (F := F)) 𝒱₀ (cT d L) none) Set.univ (k ⟨⟩) Q)
          -∗ wp frame (wpE (defs₀ (F := F)) 𝒱₀ (cT d L) none) Set.univ
              (.op (.enqueueDma (rSlotM off1 inb1) (.here (oBlkM off2 inb2)) (.dma (semAt cc3_scoped3 off3 inb3)) hsrc hdst hsem) k) Q) := by
  have hs := semAt_O (s := s % 2) (by rw [Nat.mod_mod]; exact h3) inb3
  iintro ⟨Hr, Ho, Hv⟩ Hk
  ihave Hr' := (Entails.of_eq (show (rPts d L (s % 2) (Gr m d L B) : sProp 𝕄)
      = ((rSlotM off1 inb1).view.loc (cT d L) ↦[(rSlotM off1 inb1).view.set]{fullShare} Gr m d L B) by rw [set_rSlotM h1])) $$ Hr
  ihave Ho' := (Entails.of_eq (show (oPts d B (B + 1) f : sProp 𝕄)
      = ((oBlkM off2 inb2).view.loc (cT d L) ↦[(oBlkM off2 inb2).view.set]{fullShare} f) by rw [set_oBlkM h2])) $$ Ho
  ihave Hv' := (Entails.of_eq (show (semVal (cT d L, SemLoc.dma (semO (s % 2))) 0 : sProp 𝕄)
      = semVal (cT d L, SemLoc.dma (semAt cc3_scoped3 off3 inb3)) 0 by rw [hs])) $$ Hv
  iapply (Transfers.wp_dmaLocal countersEmb 𝒱₀ (cT d L) none (default : HIx 2) NO rfl (by decide) (Finset.Subset.refl _)) $$ [Hr' Ho' Hv']
  · isplitl [Hr']; · iexact Hr'
    isplitl [Ho']; · iexact Ho'
    iexact Hv'
  iintro Hfl
  iapply Hk
  unfold FO
  rw [← hs]
  iapply (Transfers.Flight_mono _ _ ?_) $$ Hfl
  rw [pointsTo_congr (g := G m d) ?_, set_rSlotM h1, set_oBlkM h2]
  intro j hj
  obtain ⟨x, -, rfl⟩ := Finset.mem_map.mp hj
  refine (View.write_emb_of_mem _ _ (Finset.mem_univ x)).trans ((cast_eq _ _).trans ?_)
  show View.read (Elt F) (rSlotM off1 inb1).view (Gr m d L B) x
    = m (xLoc d) (ix2 (rowOf (wordAt (m (iLoc d)) (((oBlkM off2 inb2).view.emb x : S32768x128.Idx) 0).val))
        (((oBlkM off2 inb2).view.emb x : S32768x128.Idx) 1 : Fin 128))
  rw [View.read_apply, cast_eq]
  show m (xLoc d) (ix2 (rowOf (wordAt (m (iLoc d)) (128 * B + (((rSlotM off1 inb1).view.emb x : S2x128x128.Idx) 1).val)))
        (((rSlotM off1 inb1).view.emb x : S2x128x128.Idx) 2 : Fin 128)) = _
  rw [(emb_rSlotM h1 inb1 x).1, (emb_oBlkM h2 inb2 x).1]
  refine congrArg (fun c : Fin 128 => m (xLoc d) (ix2 _ c)) (Fin.ext ?_)
  exact (emb_rSlotM h1 inb1 x).2.trans (emb_oBlkM h2 inb2 x).2.symm

end Cert.Proof.GatherKI

end
-- ==== Proof.GatherWords.lean ====
/-
  The row gather: the words of a trip, decided over the 32 tasks and the eight trips.
-/
module

public import proofs.«01_k».proof.Proof.GatherBase

@[expose] public section

noncomputable section

namespace Cert.Proof.GatherKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

variable (m : (ℓ : Loc nD τ sig) → Buf (Elt F) ℓ)

/-! ## The words a trip carries -/

/-- Trip `t`'s carried words: the fetch count (at most eight), the blocks read, gathered, written back, and the block's number (zero after the last). -/
abbrev A6 (t : ℕ) : BitVec 32 := BitVec.ofNat 32 (min (t + 1) 8)
abbrev A7 (t : ℕ) : BitVec 32 := BitVec.ofNat 32 t
abbrev A9 (t : ℕ) : BitVec 32 := BitVec.ofNat 32 (t - 1)
abbrev A10 (t : ℕ) : BitVec 32 := BitVec.ofNat 32 (t % 8)
abbrev carried (t : ℕ) : BitVec 32 × BitVec 32 × BitVec 32 × BitVec 32 × BitVec 32 := (A6 t, A7 t, A7 t, A9 t, A10 t)

set_option maxRecDepth 100000

theorem chk3 : ∀ t : Fin k3_t1_loop.trips, k3_chk3 (A7 t.val) := by decide +kernel
theorem chk2 : ∀ t : Fin k3_t1_loop.trips, k3_chk2 (A7 t.val) := by decide +kernel
theorem chk1 : ∀ (L : grid3.Coords) (t : Fin k3_t1_loop.trips), k3_chk1 L t (A6 t.val) (A7 t.val) (A7 t.val) (A9 t.val) (A10 t.val) := by decide +kernel
theorem chk5 : ∀ L : grid3.Coords, k3_chk5 L (A10 8) := by decide +kernel
theorem chk4 : k3_chk4 (A9 8) := by decide +kernel
theorem cond1_pos : ∀ (L : grid3.Coords) (t : Fin k3_t1_loop.trips), t.val < 7 → k3_cond1 L t (A10 t.val) = 1#1 := by decide +kernel
theorem cond1_neg : ∀ (L : grid3.Coords) (t : Fin k3_t1_loop.trips), ¬ t.val < 7 → ¬ k3_cond1 L t (A10 t.val) = 1#1 := by decide +kernel
theorem cond2_pos : ∀ (L : grid3.Coords) (t : Fin k3_t1_loop.trips), k3_cond2 L t (A10 t.val) = 1#1 := by decide +kernel
theorem cond5_pos : ∀ (L : grid3.Coords) (t : Fin k3_t1_loop.trips), k3_cond5 L t (A10 t.val) = 1#1 := by decide +kernel
theorem cond7_pos : ∀ (L : grid3.Coords) (t : Fin k3_t1_loop.trips), t.val ≠ 0 → k3_cond7 L t (A10 t.val) = 1#1 := by decide +kernel
theorem cond7_neg : ∀ (L : grid3.Coords) (t : Fin k3_t1_loop.trips), ¬ t.val ≠ 0 → ¬ k3_cond7 L t (A10 t.val) = 1#1 := by decide +kernel

theorem off1_eq : k3_off1 = ![0, 0, 0] := by decide +kernel
theorem off2_eq : ∀ L : grid3.Coords, k3_off2 L = ![0, 128 * base L] := by decide +kernel
theorem off3_eq : k3_off3 = ![0] := by decide +kernel
theorem off4_eq : ∀ t : Fin k3_t1_loop.trips, t.val < 7 → k3_off4 (A6 t.val) = ![(t.val + 1) % 2, 0, 0] := by decide +kernel
theorem off5_eq : ∀ (L : grid3.Coords) (t : Fin k3_t1_loop.trips), t.val < 7 → k3_off5 L (A10 t.val) = ![0, 128 * (base L + t.val + 1)] := by decide +kernel
theorem off6_eq : ∀ t : Fin k3_t1_loop.trips, t.val < 7 → k3_off6 (A6 t.val) = ![(t.val + 1) % 2] := by decide +kernel
theorem off9_eq : ∀ t : Fin k3_t1_loop.trips, k3_off9 (A7 t.val) = ![t.val % 2] := by decide +kernel
theorem off10_eq : ∀ t : Fin k3_t1_loop.trips, k3_off10 (A7 t.val) = ![t.val % 2, 0, 0] := by decide +kernel
theorem off11_eq : ∀ t : Fin k3_t1_loop.trips, k3_off11 (A7 t.val) = ![t.val % 2, 0, 0] := by decide +kernel
theorem off12_eq : ∀ t : Fin k3_t1_loop.trips, k3_off12 (A7 t.val) = ![t.val % 2, 0, 0] := by decide +kernel
theorem off13_eq : ∀ (L : grid3.Coords) (t : Fin k3_t1_loop.trips), k3_off13 L (A10 t.val) = ![128 * (base L + t.val), 0] := by decide +kernel
theorem off14_eq : ∀ t : Fin k3_t1_loop.trips, k3_off14 (A7 t.val) = ![t.val % 2] := by decide +kernel
theorem off17_eq : ∀ t : Fin k3_t1_loop.trips, t.val ≠ 0 → k3_off17 (A9 t.val) = ![(t.val - 1) % 2] := by decide +kernel
theorem off20_eq : k3_off20 (A9 8) = ![1] := by decide +kernel

end Cert.Proof.GatherKI

end
-- ==== Proof.GatherTile.lean ====
/-
  The row gather: a task's trip and its whole body.
-/
module

public import proofs.«01_k».proof.Proof.GatherSteps
public import proofs.«01_k».proof.Proof.GatherWords

@[expose] public section

noncomputable section

namespace Cert.Proof.GatherKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

variable (m : (ℓ : Loc nD τ sig) → Buf (Elt F) ℓ)

variable (d : Dev nD) (L : grid3.Coords)

/-! ## A guarded operation -/

theorem wp_maybe {c : Prop} [Decidable c] {α : Type} {p : c → Prog (TpuEff nD τ sig (Elt F) Λ₀ (cT d L).2) α}
    {k : Prog (TpuEff nD τ sig (Elt F) Λ₀ (cT d L).2) α} {Q : α → sProp 𝕄} (R R' : sProp 𝕄)
    (hpos : ∀ h : c, R ⊢ iprop((R' -∗ wp frame (wpE (defs₀ (F := F)) 𝒱₀ (cT d L) none) Set.univ k Q)
        -∗ wp frame (wpE (defs₀ (F := F)) 𝒱₀ (cT d L) none) Set.univ (p h) Q))
    (hneg : ¬ c → R ⊢ R') :
    R ⊢ iprop((R' -∗ wp frame (wpE (defs₀ (F := F)) 𝒱₀ (cT d L) none) Set.univ k Q)
        -∗ wp frame (wpE (defs₀ (F := F)) 𝒱₀ (cT d L) none) Set.univ (if h : c then p h else k) Q) := by
  by_cases h : c
  · rw [dif_pos h]; exact hpos h
  · rw [dif_neg h]
    iintro HR Hk
    iapply Hk
    iapply (hneg h) $$ HR

/-! ## The state between trips -/

/-- The fetches before trip `t`: block `t`'s in flight, the later blocks' row numbers still held; after the last, both slots idle. -/
def inPart (t : ℕ) : sProp 𝕄 :=
  if t < 8 then iprop(FI m d L (t % 2) (base L + t) ∗ idleI (F := F) d L ((t + 1) % 2) ∗ iPts m d (base L + t + 1) (base L + 8))
  else iprop(idleI (F := F) d L 0 ∗ idleI (F := F) d L 1)
/-- The next fetch, as trip `t` leaves it. -/
def nextPart (t : ℕ) : sProp 𝕄 :=
  if t < 7 then iprop(FI m d L ((t + 1) % 2) (base L + t + 1) ∗ iPts m d (base L + t + 2) (base L + 8)) else idleI (F := F) d L ((t + 1) % 2)
/-- The write-back before trip `t`: the preceding block's in flight, the blocks before that holding the result. -/
def prevPart (t : ℕ) : sProp 𝕄 :=
  if t ≠ 0 then iprop(FO m d L ((t - 1) % 2) (base L + (t - 1)) ∗ oPts d (base L) (base L + (t - 1)) (G m d)) else idleO (F := F) d L 1

theorem inPart_lt {t : ℕ} (h : t < 8) : inPart m d L t
    = iprop(FI m d L (t % 2) (base L + t) ∗ idleI (F := F) d L ((t + 1) % 2) ∗ iPts m d (base L + t + 1) (base L + 8)) := if_pos h

theorem inPart_succ {t : ℕ} (h : t < 8) : iprop(nextPart m d L t ∗ idleI (F := F) d L (t % 2)) ⊢ inPart m d L (t + 1) := by
  unfold nextPart inPart
  by_cases h7 : t < 7
  · rw [if_pos h7, if_pos (by omega), show (t + 1 + 1) % 2 = t % 2 by omega]
    iintro ⟨⟨H1, H2⟩, H3⟩
    isplitl [H1]; · iexact H1
    isplitl [H3]; · iexact H3
    iexact H2
  · obtain rfl : t = 7 := by omega
    rw [if_neg (by omega), if_neg (by omega)]

/-- What holds before trip `t`, its carried words `acc`. -/
def inv (q : PosShare TreeShare) (O : CellTallies nD τ sig (HIx 2)) (W : Waits sig (HIx 2)) (t : ℕ)
    (acc : BitVec 32 × BitVec 32 × BitVec 32 × BitVec 32 × BitVec 32) : sProp 𝕄 :=
  iprop(⌜acc = carried t⌝ ∗ xPts m d q ∗ iPts m d (base L) (base L + t) ∗ inPart m d L t ∗ prevPart m d L t ∗ idleO (F := F) d L (t % 2)
    ∗ oPts d (base L + t) (base L + 8) (m (oLoc d)) ∗ semVal (cT d L, SemLoc.dma semG) 0 ∗ Owed d L O W)

theorem trip (hpre : PreOK (F := F) m) (q : PosShare TreeShare) (O : CellTallies nD τ sig (HIx 2)) (W : Waits sig (HIx 2))
    (v4 : BitVec 32) (hv4 : v4 = BitVec.ofNat 32 (base L)) (t : Fin k3_t1_loop.trips) (acc : BitVec 32 × BitVec 32 × BitVec 32 × BitVec 32 × BitVec 32) :
    inv m d L q O W t.val acc ⊢ wp frame (wpE (defs₀ (F := F)) 𝒱₀ (cT d L) none) Set.univ
      (k3_t1_body L xV (Memref.isWhole_whole _) iV (Memref.isWhole_whole _) oV (Memref.isWhole_whole _) sV (Memref.isWhole_whole _) cc3_scoped1
        rV (Memref.isWhole_whole _) cc3_scoped3 cc3_scoped4 v4 t acc) (inv m d L q O W (t.val + 1)) := by
  have ht : t.val < 8 := t.isLt
  have hbase := base_le L
  unfold inv
  rw [inPart_lt m d L ht]
  iintro ⟨%hacc, Hx, Hi, ⟨Hfi, Hidle, Hrest⟩, Hprev, ⟨Hr, HvO⟩, Ho, HvG, HO⟩
  subst hacc
  unfold carried k3_t1_body
  simp only [k3_part1_eq_skeleton, k3_part1_skel, k3_part2_eq_skeleton, k3_part2_skel, Prog.lift, Prog.bind_op, Prog.bind_ret, Prog.pure_eq_ret, Prog.bind_assoc,
    wp_assume_of 𝒱₀ (cT d L) none Set.univ (chk3 t), wp_assume_of 𝒱₀ (cT d L) none Set.univ (chk2 t), wp_assume_of 𝒱₀ (cT d L) none Set.univ (chk1 L t), ite_self, dif_pos (cond2_pos L t), dif_pos (cond5_pos L t)]
  rw [wp_bind]
  subst hv4
  -- the next block's fetch
  iapply (wp_maybe d L iprop(idleI (F := F) d L ((t.val + 1) % 2) ∗ iPts m d (base L + t.val + 1) (base L + 8)) (nextPart m d L t.val) ?_ ?_) $$ [Hidle Hrest]
  case _ =>
    intro h
    have h7 : t.val < 7 := by
      by_contra hc; exact cond1_neg L t hc h
    iintro ⟨Hidle, Hi⟩ Hk
    ihave Hi2 := (iPts_split m d (a := base L + t.val + 1) (b := base L + t.val + 2) (c := base L + 8) (by omega) (by omega)).1 $$ Hi
    icases Hi2 with ⟨Hi, Hrest⟩
    iapply (wp_fetch m d L (t.val + 1) (base L + t.val + 1) (by omega) (off4_eq t h7) (off5_eq L t h7) (off6_eq t h7)) $$ [Hidle Hi]
    · isplitl [Hi] <;> iassumption
    iintro Hfl
    iapply Hk
    unfold nextPart
    rw [if_pos h7]
    isplitl [Hfl] <;> iassumption
  case _ =>
    intro h
    have h7 : ¬ t.val < 7 := fun hc => h (cond1_pos L t hc)
    unfold nextPart
    rw [if_neg h7, show base L + t.val + 1 = base L + 8 by omega, iPts_nil]
    iintro ⟨H, -⟩
    iexact H
  · isplitl [Hidle] <;> iassumption
  iintro Hnext
  rw [← wp_bind, Prog.bind_ret]
  -- this block's row numbers
  iapply (wp_wait d L (semAt_I (s := t.val % 2) (by rw [Nat.mod_mod]; exact off9_eq t) _) (N := NI) rfl) $$ [Hfi HO]
  · isplitl [Hfi] <;> iassumption
  iintro ⟨⟨Hs, Hib⟩, HvI, HO⟩
  ihave Hi := (iPts_split m d (a := base L) (b := base L + t.val) (c := base L + (t.val + 1)) (by omega) (by omega)).2 $$ [Hi Hib]
  · isplitl [Hi] <;> iassumption
  -- its rows
  iapply (wp_gather m d L hpre t.val (base L + t.val) (by omega) q (off10_eq t) (off11_eq t)) $$ [Hx Hr Hs HvG]
  · isplitl [Hx]; · iexact Hx
    isplitl [Hr]; · iexact Hr
    isplitl [Hs]; · iexact Hs
    iexact HvG
  iintro Hfl
  unfold SparseCore.waitIndirectGather
  simp only [Prog.lift, Prog.bind_op, Prog.bind_ret]
  iapply (wp_wait d L (sem' := semG) semAt_G (N := NG) rfl) $$ [Hfl HO]
  · isplitl [Hfl] <;> iassumption
  iintro ⟨⟨Hr, Hx, Hs⟩, HvG, HO⟩
  -- their write-back
  ihave Ho2 := (oPts_split d (a := base L + t.val) (b := base L + t.val + 1) (c := base L + 8) (by omega) (by omega) _).1 $$ Ho
  icases Ho2 with ⟨Hob, Ho⟩
  iapply (wp_put m d L t.val (base L + t.val) (by omega) (off12_eq t) (off13_eq L t) (off14_eq t)) $$ [Hr Hob HvO]
  · isplitl [Hr]; · iexact Hr
    isplitl [Hob] <;> iassumption
  iintro Hfo
  -- the preceding block's write-back
  iapply (wp_maybe d L iprop(prevPart m d L t.val ∗ Owed d L O W)
      iprop(idleO (F := F) d L ((t.val + 1) % 2) ∗ oPts d (base L) (base L + t.val) (G m d) ∗ Owed d L O W) ?_ ?_) $$ [Hprev HO]
  case _ =>
    intro h
    have h0 : t.val ≠ 0 := by
      by_contra hc; exact cond7_neg L t (not_not.mpr hc) h
    unfold prevPart
    rw [if_pos h0]
    iintro ⟨⟨Hf, Hod⟩, HO⟩ Hk
    iapply (wp_wait d L (semAt_O (s := (t.val - 1) % 2) (by rw [Nat.mod_mod]; exact off17_eq t h0) _) (N := NO) rfl) $$ [Hf HO]
    · isplitl [Hf] <;> iassumption
    iintro ⟨⟨Hob, Hr⟩, HvO, HO⟩
    iapply Hk
    rw [show (t.val - 1) % 2 = (t.val + 1) % 2 by omega, show base L + (t.val - 1) + 1 = base L + t.val by omega]
    isplitl [Hr HvO]
    · isplitl [Hr]; · iexists _; iexact Hr
      iexact HvO
    isplitl [Hod Hob]
    · iapply (oPts_split d (a := base L) (b := base L + (t.val - 1)) (c := base L + t.val) (by omega) (by omega) _).2
      isplitl [Hod] <;> iassumption
    iexact HO
  case _ =>
    intro h
    have h0 : ¬ t.val ≠ 0 := fun hc => h (cond7_pos L t hc)
    unfold prevPart
    rw [if_neg h0, not_not.mp h0]
    iintro ⟨H, HO⟩
    isplitl [H]; · iexact H
    isplitr
    · rw [Nat.add_zero, oPts_nil]; iempintro
    iexact HO
  · isplitl [Hprev] <;> iassumption
  iintro ⟨HidO, Hod, HO⟩
  rw [wp_ret]
  imodintro
  isplitr
  · ipureintro
    clear hpre ht hbase
    revert L t
    set_option maxRecDepth 100000 in decide +kernel
  isplitl [Hx]; · iexact Hx
  isplitl [Hi]; · iexact Hi
  isplitl [Hnext Hs HvI]
  · iapply (inPart_succ m d L ht)
    isplitl [Hnext]; · iexact Hnext
    isplitl [Hs]; · iexists _; iexact Hs
    iexact HvI
  isplitl [Hfo Hod]
  · unfold prevPart
    rw [if_pos (Nat.succ_ne_zero _), Nat.add_sub_cancel]
    isplitl [Hfo] <;> iassumption
  isplitl [HidO]; · iexact HidO
  isplitl [Ho]; · iexact Ho
  isplitl [HvG] <;> iassumption

/-! ## A task's body -/

theorem v4_eq : ∀ L : grid3.Coords,
    Scalar.muli (Scalar.addi (Scalar.addi 0#32 (Scalar.muli (BitVec.ofNat 32 (L 1).val) 1#32)) (Scalar.muli (BitVec.ofNat 32 (L 0).val) 16#32)) 8#32
      = BitVec.ofNat 32 (base L) := by
  set_option maxRecDepth 100000 in decide +kernel

theorem body (hpre : PreOK (F := F) m) (q : PosShare TreeShare) (O : CellTallies nD τ sig (HIx 2)) (W : Waits sig (HIx 2)) :
    iprop(xPts m d q ∗ iPts m d (base L) (base L + 8) ∗ oPts d (base L) (base L + 8) (m (oLoc d))
        ∗ idleI (F := F) d L 0 ∗ idleI (F := F) d L 1 ∗ idleO (F := F) d L 0 ∗ idleO (F := F) d L 1 ∗ semVal (cT d L, SemLoc.dma semG) 0 ∗ Owed d L O W)
      ⊢ wp frame (wpE (defs₀ (F := F)) 𝒱₀ (cT d L) none) Set.univ
        (cc3_k L xV (Memref.isWhole_whole _) iV (Memref.isWhole_whole _) oV (Memref.isWhole_whole _) sV (Memref.isWhole_whole _) cc3_scoped1
          rV (Memref.isWhole_whole _) cc3_scoped3 cc3_scoped4)
        fun _ => iprop(xPts m d q ∗ iPts m d (base L) (base L + 8) ∗ oPts d (base L) (base L + 8) (G m d)
          ∗ idleI (F := F) d L 0 ∗ idleI (F := F) d L 1 ∗ idleO (F := F) d L 0 ∗ idleO (F := F) d L 1 ∗ semVal (cT d L, SemLoc.dma semG) 0 ∗ Owed d L O W) := by
  have hbase := base_le L
  iintro ⟨Hx, Hi, Ho, HI0, HI1, HO0, HO1, HvG, HO⟩
  rw [cc3_k_eq_skeleton]
  unfold cc3_k_skel
  simp only [k3_part3_eq_skeleton, k3_part3_skel, k3_part4_eq_skeleton, k3_part4_skel, Prog.lift, Prog.bind_op, Prog.bind_ret, Prog.pure_eq_ret, Prog.bind_assoc, v4_eq]
  ihave Hi2 := (iPts_split m d (a := base L) (b := base L + 1) (c := base L + 8) (by omega) (by omega)).1 $$ Hi
  icases Hi2 with ⟨Hi, Hrest⟩
  iapply (wp_fetch m d L 0 (base L) (by omega) off1_eq (off2_eq L) off3_eq) $$ [HI0 Hi]
  · isplitl [Hi] <;> iassumption
  iintro Hfl
  iapply (Scf.wp_for_bind frame (wpE (defs₀ (F := F)) 𝒱₀ (cT d L) none) Set.univ _ _ _ k3_t1_ok _ _
      (inv m d L q O W) (fun t acc => trip m d L hpre q O W _ rfl t acc)) $$ [Hx HI1 Ho HO0 HO1 HvG HO Hfl Hrest]
  · unfold inv
    rw [inPart_lt m d L (by omega)]
    isplitr; · ipureintro; rfl
    isplitl [Hx]; · iexact Hx
    isplitr; · rw [Nat.add_zero, iPts_nil]; iempintro
    isplitl [Hfl HI1 Hrest]
    · isplitl [Hfl]; · iexact Hfl
      isplitl [HI1] <;> iassumption
    isplitl [HO1]; · unfold prevPart; rw [if_neg (not_not.mpr rfl)]; iexact HO1
    isplitl [HO0]; · iexact HO0
    isplitl [Ho]; · iexact Ho
    isplitl [HvG] <;> iassumption
  iintro %acc Hinv
  have h8 : Scf.trips k3_t1_loop.lb k3_t1_loop.ub k3_t1_loop.st = 8 := by decide
  rw [h8]
  unfold inv inPart prevPart
  rw [if_neg (by omega), if_pos (by omega)]
  icases Hinv with ⟨%hacc, Hx, Hi, ⟨HI0, HI1⟩, ⟨Hfo, Hod⟩, HO0, Ho, HvG, HO⟩
  subst hacc
  unfold carried
  simp only [wp_assume_of 𝒱₀ (cT d L) none Set.univ (chk5 L), wp_assume_of 𝒱₀ (cT d L) none Set.univ chk4]
  iapply (wp_wait d L (semAt_O (s := 1) off20_eq _) (N := NO) rfl) $$ [Hfo HO]
  · isplitl [Hfo] <;> iassumption
  iintro ⟨⟨Hob, Hr⟩, HvO, HO⟩
  rw [wp_ret]; imodintro
  isplitl [Hx]; · iexact Hx
  isplitl [Hi]; · iexact Hi
  isplitl [Hod Hob]
  · iapply (oPts_split d (a := base L) (b := base L + (8 - 1)) (c := base L + 8) (by omega) (by omega) _).2
    isplitl [Hod] <;> iassumption
  isplitl [HI0]; · iexact HI0
  isplitl [HI1]; · iexact HI1
  isplitl [HO0]; · iexact HO0
  isplitl [Hr HvO]
  · isplitl [Hr]; · iexists _; iexact Hr
    iexact HvO
  isplitl [HvG] <;> iassumption

end Cert.Proof.GatherKI

end
-- ==== Proof.GatherTask.lean ====
/-
  The row gather: a task's body from what a launch hands its subcore.
-/
module

public import proofs.«01_k».proof.Proof.GatherTile

@[expose] public section

noncomputable section

namespace Cert.Proof.GatherKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

variable (m : (ℓ : Loc nD τ sig) → Buf (Elt F) ℓ)

variable (d : Dev nD) (L : grid3.Coords)

/-! ## A task's own cells and buffers -/

/-- The five cells of the body are among the subcore's own. -/
theorem ownSems0_V :
    ∃ R : sProp 𝕄, (ownSems0 (cT d L) : sProp 𝕄)
      = iprop(semVal (cT d L, SemLoc.dma (semI 0)) 0 ∗ semVal (cT d L, SemLoc.dma (semI 1)) 0 ∗ semVal (cT d L, SemLoc.dma (semO 0)) 0
          ∗ semVal (cT d L, SemLoc.dma (semO 1)) 0 ∗ semVal (cT d L, SemLoc.dma semG) 0 ∗ R) := by
  have own : ∀ s : DmaSem sig, (SemLoc.dma s : SemLoc sig).isScoped .scVector = true →
      ((cT d L, SemLoc.dma s) : GSem nD τ sig) ∈ ownCells (cT d L) := fun s h => mem_ownCells.mpr ⟨rfl, h⟩
  have ne : ∀ {s s' : DmaSem sig}, s ≠ s' → ((cT d L, SemLoc.dma s) : GSem nD τ sig) ≠ (cT d L, SemLoc.dma s') :=
    fun h e => h (SemLoc.dma.inj (congrArg Prod.snd e))
  unfold SparseCore.Cfg.ownSems0
  rw [SparseCore.bigSep_erase' (own (semI 0) (by decide)),
    SparseCore.bigSep_erase' (Finset.mem_erase.mpr ⟨ne (s := semI 1) (by decide), own _ (by decide)⟩),
    SparseCore.bigSep_erase' (Finset.mem_erase.mpr ⟨ne (s := semO 0) (by decide), Finset.mem_erase.mpr ⟨ne (by decide), own _ (by decide)⟩⟩),
    SparseCore.bigSep_erase' (Finset.mem_erase.mpr ⟨ne (s := semO 1) (by decide), Finset.mem_erase.mpr ⟨ne (by decide),
      Finset.mem_erase.mpr ⟨ne (by decide), own _ (by decide)⟩⟩⟩),
    SparseCore.bigSep_erase' (Finset.mem_erase.mpr ⟨ne (s := semG) (by decide), Finset.mem_erase.mpr ⟨ne (by decide),
      Finset.mem_erase.mpr ⟨ne (by decide), Finset.mem_erase.mpr ⟨ne (by decide), own _ (by decide)⟩⟩⟩⟩)]
  exact ⟨_, rfl⟩

/-- The two buffers of the body are among the subcore's own. -/
theorem ownBufs_V :
    ∃ R : sProp 𝕄, (ownBufs (cT d L) : sProp 𝕄)
      = iprop((∃ f, (cT d L).loc cc3_scoped0 ↦{fullShare} f) ∗ (∃ f, (cT d L).loc cc3_scoped2 ↦{fullShare} f) ∗ R) := by
  unfold SparseCore.Cfg.ownBufs
  rw [SparseCore.bigSep_erase' (SparseCore.Cfg.mem_ownRefs_of_owner (p := Proc.scVector (cV L) (jV L))
    (b := (Proc.scVector (cV L) (jV L)).devRef cc3_scoped0) rfl),
    SparseCore.bigSep_erase' (Finset.mem_erase.mpr ⟨fun e => absurd (Proc.devRef_injective _ e) (show (cc3_scoped2 : Ref sig .scVector) ≠ cc3_scoped0 by decide),
    SparseCore.Cfg.mem_ownRefs_of_owner (p := Proc.scVector (cV L) (jV L)) (b := (Proc.scVector (cV L) (jV L)).devRef cc3_scoped2) rfl⟩)]
  exact ⟨_, rfl⟩

theorem slots_split (f : Buf (Elt F) ((cT d L).loc cc3_scoped0)) :
    ((cT d L).loc cc3_scoped0 ↦{fullShare} f : sProp 𝕄) ⊣⊢ iprop(sPts d L 0 f ∗ sPts d L 1 f) := by
  show ((cT d L).loc cc3_scoped0 ↦[Finset.univ]{fullShare} f : sProp 𝕄) ⊣⊢ _
  rw [← iSlot_union]; exact pointsTo_union iSlot_disjoint
theorem rows_split (f : Buf (Elt F) ((cT d L).loc cc3_scoped2)) :
    ((cT d L).loc cc3_scoped2 ↦{fullShare} f : sProp 𝕄) ⊣⊢ iprop(rPts d L 0 f ∗ rPts d L 1 f) := by
  show ((cT d L).loc cc3_scoped2 ↦[Finset.univ]{fullShare} f : sProp 𝕄) ⊣⊢ _
  rw [← rSlot_union]; exact pointsTo_union rSlot_disjoint
theorem slots_join : iprop((∃ f, sPts d L 0 f) ∗ ∃ f, sPts d L 1 f) ⊢ (iprop(∃ f, (cT d L).loc cc3_scoped0 ↦{fullShare} f) : sProp 𝕄) := by
  iintro ⟨⟨%f, H0⟩, %g, H1⟩
  iexists (fun j => if (j 0).val = 0 then f j else g j : S2x1x128.Idx → BitVec 32)
  iapply (slots_split d L _).2
  isplitl [H0]
  · iapply (Entails.of_eq (pointsTo_congr fun j hj => (if_pos (mem_iSlot.mp hj)).symm)) $$ H0
  · iapply (Entails.of_eq (pointsTo_congr fun j hj => (if_neg (by rw [mem_iSlot.mp hj]; decide)).symm)) $$ H1
theorem rows_join : iprop((∃ f, rPts d L 0 f) ∗ ∃ f, rPts d L 1 f) ⊢ (iprop(∃ f, (cT d L).loc cc3_scoped2 ↦{fullShare} f) : sProp 𝕄) := by
  iintro ⟨⟨%f, H0⟩, %g, H1⟩
  iexists (fun j => if (j 0).val = 0 then f j else g j : S2x128x128.Idx → F .f32)
  iapply (rows_split d L _).2
  isplitl [H0]
  · iapply (Entails.of_eq (pointsTo_congr fun j hj => (if_pos (mem_rSlot.mp hj)).symm)) $$ H0
  · iapply (Entails.of_eq (pointsTo_congr fun j hj => (if_neg (by rw [mem_rSlot.mp hj]; decide)).symm)) $$ H1

/-! ## The task, from what a launch hands it -/

/-- What a task is handed, and hands back with the result in `f`. -/
abbrev opd (f : Buf (Elt F) (oLoc d)) : sProp 𝕄 :=
  iprop(xPts m d (xShare (L 0) (L 1)) ∗ iPts m d (base L) (base L + 8) ∗ oPts d (base L) (base L + 8) f)

theorem tile_body (hF : (K (F := F)).Facts) (hpre : PreOK (F := F) m) (O : CellTallies nD τ sig (HIx 2)) (W : Waits sig (HIx 2)) (hO : ∀ g, O g none = 0) :
    iprop(levAts (K (F := F)).L (K (F := F)).lev ∗ emp ∗ opd m d L (m (oLoc d))
        ∗ scopedBufs (cT d L) ∗ scopedSems0 (cT d L) ∗ owes (cT d L) O W)
      ⊢ wp frame (wpE (defs₀ (F := F)) 𝒱₀ (cT d L) none) Set.univ
        (cc3_k L xV (Memref.isWhole_whole _) iV (Memref.isWhole_whole _) oV (Memref.isWhole_whole _) sV (Memref.isWhole_whole _) cc3_scoped1
          rV (Memref.isWhole_whole _) cc3_scoped3 cc3_scoped4)
        fun _ => iprop(opd m d L (G m d) ∗ scopedBufs (cT d L) ∗ scopedSems0 (cT d L)
            ∗ ∃ W', ⌜∀ p ∈ W', p ∈ W ∨ p.2 = none⌝ ∗ owes (cT d L) O W') := by
  obtain ⟨RS, hRS⟩ := ownSems0_V (F := F) d L
  obtain ⟨RB, hRB⟩ := ownBufs_V (F := F) d L
  rw [(K (F := F)).scopedBufs_V hF d (cV L) (jV L), SparseCore.Cfg.scopedSems0_V (Val := Elt F) d (cV L) (jV L), hRS, hRB]
  iintro ⟨#Hlv, -, ⟨Hx, Hi, Ho⟩, ⟨⟨%fs, Hs⟩, ⟨%fr, Hr⟩, Hbufs⟩, ⟨Hv0, Hv1, Hv2, Hv3, Hv4, Hsems⟩, HO⟩
  ihave Hmw := (show levAts (K (F := F)).L (K (F := F)).lev ⊢ Transfers.MayWaits (cT d L) (default : HIx 2) O from
    (K (F := F)).mayWaits_none (thr := cT d L) hO) $$ Hlv
  ihave Hs' := (slots_split d L fs).1 $$ Hs
  icases Hs' with ⟨Hs0, Hs1⟩
  ihave Hr' := (rows_split d L fr).1 $$ Hr
  icases Hr' with ⟨Hr0, Hr1⟩
  iapply (wp_wand frame (wpE (defs₀ (F := F)) 𝒱₀ (cT d L) none) Set.univ) $$ [Hx Hi Ho Hs0 Hs1 Hr0 Hr1 Hv0 Hv1 Hv2 Hv3 Hv4 HO Hmw]
  · iapply (body m d L hpre (xShare (L 0) (L 1)) O W)
    isplitl [Hx]; · iexact Hx
    isplitl [Hi]; · iexact Hi
    isplitl [Ho]; · iexact Ho
    isplitl [Hs0 Hv0]
    · isplitl [Hs0]; · iexists _; iexact Hs0
      iexact Hv0
    isplitl [Hs1 Hv1]
    · isplitl [Hs1]; · iexists _; iexact Hs1
      iexact Hv1
    isplitl [Hr0 Hv2]
    · isplitl [Hr0]; · iexists _; iexact Hr0
      iexact Hv2
    isplitl [Hr1 Hv3]
    · isplitl [Hr1]; · iexists _; iexact Hr1
      iexact Hv3
    isplitl [Hv4]; · iexact Hv4
    isplitl [Hmw]; · iexact Hmw
    iexists W
    isplitr; · ipureintro; exact fun p hp => .inl hp
    iexact HO
  iintro %a ⟨Hx, Hi, Ho, ⟨Hs0, Hv0⟩, ⟨Hs1, Hv1⟩, ⟨Hr0, Hv2⟩, ⟨Hr1, Hv3⟩, Hv4, -, HO⟩
  isplitl [Hx Hi Ho]
  · isplitl [Hx]; · iexact Hx
    isplitl [Hi] <;> iassumption
  isplitl [Hs0 Hs1 Hr0 Hr1 Hbufs]
  · isplitl [Hs0 Hs1]
    · iapply (slots_join d L); isplitl [Hs0] <;> iassumption
    isplitl [Hr0 Hr1]
    · iapply (rows_join d L); isplitl [Hr0] <;> iassumption
    iexact Hbufs
  isplitr [HO]
  · isplitl [Hv0]; · iexact Hv0
    isplitl [Hv1]; · iexact Hv1
    isplitl [Hv2]; · iexact Hv2
    isplitl [Hv3]; · iexact Hv3
    isplitl [Hv4]; · iexact Hv4
    iexact Hsems
  iexact HO

end Cert.Proof.GatherKI

end
-- ==== Proof.GatherDeal.lean ====
/-
  The row gather: the arrays dealt to the SparseCores and to their tasks.
-/
module

public import proofs.«01_k».proof.Proof.GatherTask

@[expose] public section

noncomputable section

namespace Cert.Proof.GatherKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

variable (m : (ℓ : Loc nD τ sig) → Buf (Elt F) ℓ)

def coordsV (c : Fin (grid3.bound 0)) (s : Fin (grid3.bound 1)) : grid3.Coords :=
  fun | 0 => c | 1 => s | ⟨_ + 2, h⟩ => absurd h (Nat.not_lt.2 (Nat.le_add_left _ _))

/-- A SparseCore's share of the table, its half of the row numbers and of the result, the latter at `f`. -/
abbrev half (d : Dev nD) (c : Fin 2) (f : Buf (Elt F) (oLoc d)) : sProp 𝕄 :=
  iprop(xPts m d (Transfers.dealOf fullShare Finset.univ c) ∗ iPts m d (128 * c.val) (128 * c.val + 128)
    ∗ oPts d (128 * c.val) (128 * c.val + 128) f)

/-- What task `(c, i)` is handed, the result's part at `f`. -/
abbrev part (d : Dev nD) (c : Fin 2) (i : Fin 16) (f : Buf (Elt F) (oLoc d)) : sProp 𝕄 := opd m d (coordsV c i) f

/-! ## The halves dealt to the tasks, the arrays to the halves -/

theorem iPts_parts (d : Dev nD) (n a w : ℕ) :
    (iPts m d a (a + n * w) : sProp 𝕄) = bigSep Finset.univ fun i : Fin n => iPts m d (a + i.val * w) (a + i.val * w + w) := by
  have hmul : ∀ {i j : ℕ}, i < j → i * w + w ≤ j * w := fun {i j} h => by
    have := Nat.mul_le_mul_right w (Nat.succ_le_of_lt h); rw [Nat.succ_mul] at this; exact this
  rw [← pointsTo_biUnion Finset.univ (ℓ := iLoc d) (fun i : Fin n => iRng (a + i.val * w) (a + i.val * w + w))
    (fun i _ j _ h => by
      rcases Nat.lt_or_gt_of_ne (fun e => h (Fin.ext e)) with h | h
      · exact iRng_disjoint (by have := hmul h; omega)
      · exact (iRng_disjoint (by have := hmul h; omega)).symm)]
  refine congrArg (fun S => (iLoc d ↦[S]{fullShare} m (iLoc d) : sProp 𝕄)) ?_
  ext j
  simp only [Finset.mem_biUnion, Finset.mem_univ, true_and, mem_iRng]
  constructor
  · rintro ⟨h1, h2⟩
    have hw : 0 < w := Nat.pos_of_ne_zero fun e => by subst e; omega
    have hd := Nat.div_add_mod ((j 1).val / 128 - a) w
    have hm := Nat.mod_lt ((j 1).val / 128 - a) hw
    have hq : ((j 1).val / 128 - a) / w < n := Nat.div_lt_of_lt_mul (by rw [Nat.mul_comm]; omega)
    rw [Nat.mul_comm] at hd
    exact ⟨⟨_, hq⟩, by show a + ((j 1).val / 128 - a) / w * w ≤ _ ∧ _ < a + ((j 1).val / 128 - a) / w * w + w; omega⟩
  · rintro ⟨i, h1, h2⟩
    have := hmul i.isLt
    omega
theorem oPts_parts (d : Dev nD) (f : Buf (Elt F) (oLoc d)) (n a w : ℕ) :
    (oPts d a (a + n * w) f : sProp 𝕄) = bigSep Finset.univ fun i : Fin n => oPts d (a + i.val * w) (a + i.val * w + w) f := by
  have hmul : ∀ {i j : ℕ}, i < j → i * w + w ≤ j * w := fun {i j} h => by
    have := Nat.mul_le_mul_right w (Nat.succ_le_of_lt h); rw [Nat.succ_mul] at this; exact this
  rw [← pointsTo_biUnion Finset.univ (ℓ := oLoc d) (fun i : Fin n => oRng (a + i.val * w) (a + i.val * w + w))
    (fun i _ j _ h => by
      rcases Nat.lt_or_gt_of_ne (fun e => h (Fin.ext e)) with h | h
      · exact oRng_disjoint (by have := hmul h; omega)
      · exact (oRng_disjoint (by have := hmul h; omega)).symm)]
  refine congrArg (fun S => (oLoc d ↦[S]{fullShare} f : sProp 𝕄)) ?_
  ext j
  simp only [Finset.mem_biUnion, Finset.mem_univ, true_and, mem_oRng]
  constructor
  · rintro ⟨h1, h2⟩
    have hw : 0 < w := Nat.pos_of_ne_zero fun e => by subst e; omega
    have hd := Nat.div_add_mod ((j 0).val / 128 - a) w
    have hm := Nat.mod_lt ((j 0).val / 128 - a) hw
    have hq : ((j 0).val / 128 - a) / w < n := Nat.div_lt_of_lt_mul (by rw [Nat.mul_comm]; omega)
    rw [Nat.mul_comm] at hd
    exact ⟨⟨_, hq⟩, by show a + ((j 0).val / 128 - a) / w * w ≤ _ ∧ _ < a + ((j 0).val / 128 - a) / w * w + w; omega⟩
  · rintro ⟨i, h1, h2⟩
    have := hmul i.isLt
    omega

theorem opd_eq (d : Dev nD) (c : Fin 2) (i : Fin 16) (f : Buf (Elt F) (oLoc d)) :
    part m d c i f
      = iprop(xPts m d (Transfers.dealOf (Transfers.dealOf fullShare Finset.univ c) Finset.univ i)
          ∗ iPts m d (128 * c.val + i.val * 8) (128 * c.val + i.val * 8 + 8) ∗ oPts d (128 * c.val + i.val * 8) (128 * c.val + i.val * 8 + 8) f) := by
  have hb : base (coordsV c i) = 128 * c.val + i.val * 8 := by
    show 8 * (16 * c.val + i.val) = _; omega
  unfold part opd; rw [hb]; rfl

/-- A half is its tasks' parts. -/
theorem half_tasks (d : Dev nD) (c : Fin 2) (f : Buf (Elt F) (oLoc d)) :
    half m d c f = bigSep Finset.univ fun i : Fin 16 => part m d c i f := by
  rw [show (fun i : Fin 16 => part m d c i f) = fun i => _ from funext fun i => opd_eq m d c i f, bigSep_sep', bigSep_sep',
    ← iPts_parts m d 16 (128 * c.val) 8, ← oPts_parts d f 16 (128 * c.val) 8]
  unfold half xPts
  rw [Transfers.pointsTo_deal Finset.univ ⟨(0 : Fin 16), Finset.mem_univ _⟩ (Transfers.dealOf fullShare Finset.univ c)]

/-- The arrays are their halves. -/
theorem halves (d : Dev nD) (f : Buf (Elt F) (oLoc d)) :
    iprop(xPts m d fullShare ∗ (iLoc d ↦{fullShare} m (iLoc d)) ∗ oLoc d ↦{fullShare} f)
      = bigSep Finset.univ fun c : Fin 2 => half m d c f := by
  have hi := iPts_parts m d 2 0 128
  have ho := oPts_parts d f 2 0 128
  unfold half
  rw [bigSep_sep', bigSep_sep']
  simp only [Nat.zero_add, Nat.mul_comm _ 128] at hi ho
  rw [← hi, ← ho]
  unfold xPts iPts oPts
  rw [show iRng 0 (128 * 2) = Finset.univ from iRng_all, show oRng 0 (128 * 2) = Finset.univ from oRng_all,
    ← Transfers.pointsTo_deal (ℓ := xLoc d) (f := m (xLoc d)) Finset.univ ⟨(0 : Fin 2), Finset.mem_univ _⟩ fullShare]

end Cert.Proof.GatherKI

end
-- ==== Proof.ScatterBase.lean ====
/-
  The row scatter on the SparseCores: the three arrays it works on (the source `o`, the row numbers `i`, the target `x`), the
  target's elements by the words that name their rows, and what each array holds at each point, from contents `m` of the
  memory at the call:

    * slot of the index buffer, block `B` fetched:  word `l` is `i[128 B + l]`;
    * slot of the row buffer, block `B` fetched:    row `r` is row `128 B + r` of the source;
    * the target:                                  row `i[r]` is row `r` of the source; every other row is untouched.
-/
module

public import proofs.«01_k».proof.Proof.GatherBase

@[expose] public section

noncomputable section

namespace Cert.Proof.ScatterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Cert.Proof.GatherKI (iRng oRng iSlot rSlot mem_iRng mem_oRng mem_iSlot mem_rSlot iRng_union oRng_union iRng_disjoint oRng_disjoint
  iRng_self oRng_self iSlot_union rSlot_union iSlot_disjoint rSlot_disjoint wordAt iCont)

/-! ## The arrays -/

variable (m : (ℓ : Loc nD τ sig) → Buf (Elt F) ℓ)

abbrev oLoc (d : Dev nD) : Loc nD τ sig := (SparseCore.T d).loc main_v3_0
abbrev iLoc (d : Dev nD) : Loc nD τ sig := (SparseCore.T d).loc main_v10
abbrev xLoc (d : Dev nD) : Loc nD τ sig := (SparseCore.T d).loc main_v11

abbrev oV : Memref sig .scVector .hbm S32768x128 .f32 := Memref.whole main_v3_0_scv
abbrev iV : Memref sig .scVector .hbm S1x32768 .i32 := Memref.whole main_v10_scv
abbrev xV : Memref sig .scVector .hbm S47104x128 .f32 := Memref.whole main_v11_scv
abbrev rV : Memref sig .scVector .vmem S2x128x128 .f32 := Memref.whole cc1_scoped0
abbrev sV : Memref sig .scVector .vmem S2x1x128 .i32 := Memref.whole cc1_scoped2

/-- The subcore a task runs on. -/
abbrev cV (L : grid1.Coords) : Fin τ.nSC := (L 0).castLE hcore1
abbrev jV (L : grid1.Coords) : Fin τ.nSub := (L 1).castLE hsub1
abbrev cT (d : Dev nD) (L : grid1.Coords) : Thread nD τ := V d (cV L) (jV L)

/-- The first of a task's eight blocks. -/
def base (L : grid1.Coords) : ℕ := 8 * (16 * (L 0).val + (L 1).val)

theorem base_le (L : grid1.Coords) : base L + 8 ≤ 256 := by
  have h0 : (L 0).val < 2 := (L 0).isLt
  have h1 : (L 1).val < 16 := (L 1).isLt
  unfold base; omega

/-- The cells a task's copies complete on: slot `s`'s of the row fetches, slot `s`'s of the index fetches, the scatter's. -/
def semO (s : ℕ) : DmaSem sig := ⟨5 + s % 2, by have := Nat.mod_lt s Nat.two_pos; show _ < 34; omega⟩
def semI (s : ℕ) : DmaSem sig := ⟨7 + s % 2, by have := Nat.mod_lt s Nat.two_pos; show _ < 34; omega⟩
def semG : DmaSem sig := ⟨9, by decide⟩

/-! ## The target's rows, by the words that name them -/

/-- The target's elements in the rows the words of blocks `a` to `b`, `b` excluded, name. -/
def xRng (X : S1x32768.Idx → BitVec 32) (a b : ℕ) : Finset S47104x128.Idx :=
  open scoped Classical in Finset.univ.filter fun j => ∃ r, 128 * a ≤ r ∧ r < 128 * b ∧ (wordAt X r).toNat = (j 0).val

theorem mem_xRng {X : S1x32768.Idx → BitVec 32} {a b : ℕ} {j : S47104x128.Idx} :
    j ∈ xRng X a b ↔ ∃ r, 128 * a ≤ r ∧ r < 128 * b ∧ (wordAt X r).toNat = (j 0).val := by
  classical simp [xRng]

theorem xRng_union {X : S1x32768.Idx → BitVec 32} {a b c : ℕ} (h : a ≤ b) (h' : b ≤ c) : xRng X a b ∪ xRng X b c = xRng X a c := by
  ext j; simp only [Finset.mem_union, mem_xRng]
  constructor
  · rintro (⟨r, h1, h2, h3⟩ | ⟨r, h1, h2, h3⟩)
    · exact ⟨r, h1, by omega, h3⟩
    · exact ⟨r, by omega, h2, h3⟩
  · rintro ⟨r, h1, h2, h3⟩
    rcases Nat.lt_or_ge r (128 * b) with hr | hr
    · exact .inl ⟨r, h1, hr, h3⟩
    · exact .inr ⟨r, hr, h2, h3⟩

/-- The row numbers are pairwise distinct. -/
def Distinct (X : S1x32768.Idx → BitVec 32) : Prop :=
  ∀ r r' : ℕ, r < 32768 → r' < 32768 → (wordAt X r).toNat = (wordAt X r').toNat → r = r'

theorem xRng_disjoint {X : S1x32768.Idx → BitVec 32} (hX : Distinct X) {a b c e : ℕ} (h : b ≤ c) (he : e ≤ 256) :
    Disjoint (xRng X a b) (xRng X c e) := by
  rw [Finset.disjoint_left]; intro j; simp only [mem_xRng]
  rintro ⟨r, h1, h2, h3⟩ ⟨r', h1', h2', h3'⟩
  have := hX r r' (by omega) (by omega) (h3.trans h3'.symm)
  omega
theorem xRng_self (X : S1x32768.Idx → BitVec 32) (a : ℕ) : xRng X a a = ∅ := by
  ext j; simp only [mem_xRng, Finset.notMem_empty, iff_false]; rintro ⟨r, h1, h2, -⟩; omega

/-! ## Contents -/

/-- A slot of the row buffer once block `B` is fetched into it. -/
def bCont {α : Type} (T : S32768x128.Idx → α) (B : ℕ) : S2x128x128.Idx → α :=
  fun j => T (ix2 (⟨(128 * B + (j 1).val) % 32768, Nat.mod_lt _ (by decide)⟩ : Fin 32768) (j 2 : Fin 128))

/-- The target: each row a word names holds that word's row of the source, every other row what it held. -/
def xCont {α : Type} (X : S1x32768.Idx → BitVec 32) (T : S32768x128.Idx → α) (O : S47104x128.Idx → α) : S47104x128.Idx → α :=
  fun j => open scoped Classical in
    if h : ∃ r : Fin 32768, (wordAt X r.val).toNat = (j 0).val then T (ix2 h.choose (j 1 : Fin 128)) else O j

theorem xCont_of_word {α : Type} {X : S1x32768.Idx → BitVec 32} (hX : Distinct X) (T : S32768x128.Idx → α) (O : S47104x128.Idx → α)
    {j : S47104x128.Idx} (r : Fin 32768) (h : (wordAt X r.val).toNat = (j 0).val) : xCont X T O j = T (ix2 r (j 1 : Fin 128)) := by
  classical
  have hh : ∃ r : Fin 32768, (wordAt X r.val).toNat = (j 0).val := ⟨r, h⟩
  unfold xCont
  rw [dif_pos hh, show hh.choose = r from Fin.ext (hX _ _ hh.choose.isLt r.isLt (hh.choose_spec.trans h.symm))]

theorem xCont_of_not {α : Type} {X : S1x32768.Idx → BitVec 32} (T : S32768x128.Idx → α) (O : S47104x128.Idx → α)
    {j : S47104x128.Idx} (h : j ∉ xRng X 0 256) : xCont X T O j = O j := by
  classical
  unfold xCont
  rw [dif_neg]
  rintro ⟨r, hr⟩
  exact h (mem_xRng.mpr ⟨r.val, by omega, by have := r.isLt; omega, hr⟩)

/-- What the proof asks of the contents: the row numbers are below the target's height and pairwise distinct. -/
structure PreOK : Prop where
  lt : ∀ (d : Dev nD) (j : S1x32768.Idx), (m (iLoc d) j).toNat < 47104
  inj : ∀ d : Dev nD, Distinct (m (iLoc d))

/-! ## The arrays' parts as resources -/

section Parts

variable (d : Dev nD) (L : grid1.Coords)

abbrev iPts (a b : ℕ) : sProp 𝕄 := iLoc d ↦[iRng a b]{fullShare} m (iLoc d)
abbrev oPts (a b : ℕ) : sProp 𝕄 := oLoc d ↦[oRng a b]{fullShare} m (oLoc d)
abbrev xPts (a b : ℕ) (f : Buf (Elt F) (xLoc d)) : sProp 𝕄 := xLoc d ↦[xRng (m (iLoc d)) a b]{fullShare} f
abbrev sPts (s : ℕ) (f : Buf (Elt F) ((cT d L).loc cc1_scoped2)) : sProp 𝕄 := (cT d L).loc cc1_scoped2 ↦[iSlot s]{fullShare} f
abbrev rPts (s : ℕ) (f : Buf (Elt F) ((cT d L).loc cc1_scoped0)) : sProp 𝕄 := (cT d L).loc cc1_scoped0 ↦[rSlot s]{fullShare} f

/-- The target's contents after the scatter. -/
abbrev G : Buf (Elt F) (xLoc d) := xCont (m (iLoc d)) (m (oLoc d)) (m (xLoc d))
abbrev Gi (B : ℕ) : Buf (Elt F) ((cT d L).loc cc1_scoped2) := iCont (m (iLoc d)) B
abbrev Gr (B : ℕ) : Buf (Elt F) ((cT d L).loc cc1_scoped0) := bCont (m (oLoc d)) B

theorem iPts_split {a b c : ℕ} (h : a ≤ b) (h' : b ≤ c) : (iPts m d a c : sProp 𝕄) ⊣⊢ iprop(iPts m d a b ∗ iPts m d b c) := by
  unfold iPts; rw [← iRng_union h h']; exact pointsTo_union (iRng_disjoint le_rfl)
theorem oPts_split {a b c : ℕ} (h : a ≤ b) (h' : b ≤ c) : (oPts m d a c : sProp 𝕄) ⊣⊢ iprop(oPts m d a b ∗ oPts m d b c) := by
  unfold oPts; rw [← oRng_union h h']; exact pointsTo_union (oRng_disjoint le_rfl)
theorem xPts_split (hX : Distinct (m (iLoc d))) {a b c : ℕ} (h : a ≤ b) (h' : b ≤ c) (hc : c ≤ 256) (f : Buf (Elt F) (xLoc d)) :
    (xPts m d a c f : sProp 𝕄) ⊣⊢ iprop(xPts m d a b f ∗ xPts m d b c f) := by
  unfold xPts; rw [← xRng_union h h']; exact pointsTo_union (xRng_disjoint hX le_rfl hc)
theorem iPts_nil (a : ℕ) : (iPts m d a a : sProp 𝕄) = iprop(emp) := by unfold iPts; rw [iRng_self]; exact pointsTo_empty
theorem oPts_nil (a : ℕ) : (oPts m d a a : sProp 𝕄) = iprop(emp) := by unfold oPts; rw [oRng_self]; exact pointsTo_empty
theorem xPts_nil (a : ℕ) (f : Buf (Elt F) (xLoc d)) : (xPts m d a a f : sProp 𝕄) = iprop(emp) := by unfold xPts; rw [xRng_self]; exact pointsTo_empty

/-- What an index fetch, a row fetch credits its cell. -/
abbrev NI : ℕ := sig.dmaCredit .scVector (Kind.scVector.table .vmem) (cc1_scoped2 : Ref sig .scVector).idx S1x128 .i32
abbrev NO : ℕ := sig.dmaCredit .scVector (Kind.scVector.table .vmem) (cc1_scoped0 : Ref sig .scVector).idx S128x128 .f32

/-- Block `B` of the row numbers on its way into slot `s`: on completion the slot holds it and the block is back. -/
abbrev FI (s B : ℕ) : sProp 𝕄 :=
  Transfers.Flight countersEmb (cT d L) (.dma (semI s)) (default : HIx 2) NI iprop(sPts d L s (Gi m d L B) ∗ iPts m d B (B + 1))
/-- Row block `B` of the source on its way into slot `s`. -/
abbrev FO (s B : ℕ) : sProp 𝕄 :=
  Transfers.Flight countersEmb (cT d L) (.dma (semO s)) (default : HIx 2) NO iprop(rPts d L s (Gr m d L B) ∗ oPts m d B (B + 1))

/-- Slot `s` of the index fetches, of the row fetches, idle. -/
abbrev idleI (s : ℕ) : sProp 𝕄 := iprop((∃ f, sPts d L s f) ∗ semVal (cT d L, SemLoc.dma (semI s)) 0)
abbrev idleO (s : ℕ) : sProp 𝕄 := iprop((∃ f, rPts d L s f) ∗ semVal (cT d L, SemLoc.dma (semO s)) 0)

end Parts

end Cert.Proof.ScatterKI

end
-- ==== Proof.ScatterRules.lean ====
/-
  The row scatter: the memrefs a task copies between, at offsets a program computes, and where their elements lie.
-/
module

public import proofs.«01_k».proof.Proof.ScatterBase

@[expose] public section

noncomputable section

namespace Cert.Proof.ScatterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

variable (m : (ℓ : Loc nD τ sig) → Buf (Elt F) ℓ)

open Cert.Proof.GatherKI (iRng oRng iSlot rSlot mem_iRng mem_oRng mem_iSlot mem_rSlot wordAt iCont)

/-! ## The memrefs a task copies between, at given offsets -/

abbrev iSlotM (off : Fin 3 → ℕ) (inb : ∀ a, off a + S1x1x128.size a ≤ S2x1x128.size a) : Memref sig .scVector .vmem S1x128 .i32 :=
  ((sV).slice (Rect.unit (s := S2x1x128) off S1x1x128.size inb) (fun _ => rfl)).squeeze S1x128 squeezes_S1x1x128_S1x128
abbrev iBlkM (off : Fin 2 → ℕ) (inb : ∀ a, off a + S1x128.size a ≤ S1x32768.size a) : Memref sig .scVector .hbm S1x128 .i32 :=
  (iV).slice (Rect.unit (s := S1x32768) off S1x128.size inb) (fun _ => rfl)
abbrev rSlotM (off : Fin 3 → ℕ) (inb : ∀ a, off a + S1x128x128.size a ≤ S2x128x128.size a) : Memref sig .scVector .vmem S128x128 .f32 :=
  ((rV).slice (Rect.unit (s := S2x128x128) off S1x128x128.size inb) (fun _ => rfl)).squeeze S128x128 squeezes_S1x128x128_S128x128
abbrev oBlkM (off : Fin 2 → ℕ) (inb : ∀ a, off a + S128x128.size a ≤ S32768x128.size a) : Memref sig .scVector .hbm S128x128 .f32 :=
  (oV).slice (Rect.unit (s := S32768x128) off S128x128.size inb) (fun _ => rfl)
/-- A slot of the index buffer as the gather's offset list. -/
abbrev iListM (off : Fin 3 → ℕ) (inb : ∀ a, off a + S1x1x128.size a ≤ S2x1x128.size a) : Memref sig .scVector .vmem S128 .i32 :=
  ((iSlotM off inb).slice (Rect.unit (s := S1x128) ![0, 0] S1x128.size inb_S1x128_S1x128_0_0) (fun _ => rfl)).squeeze S128 squeezes_S1x128_S128
abbrev xAllM : Memref sig .scVector .hbm S47104x128 .f32 :=
  (xV).slice (Rect.unit (s := S47104x128) ![0, 0] S47104x128.size inb_S47104x128_S47104x128_0_0) (fun _ => rfl)
abbrev semAt (A : DmaSems sig S2) (off : Fin 1 → ℕ) (inb : ∀ a, off a + S1.size a ≤ S2.size a) : DmaSem sig :=
  ((A.slice (Rect.unit (s := S2) off S1.size inb)).squeeze S_ squeezes_S1_S_).sem

theorem semAt_I {off : Fin 1 → ℕ} {s : ℕ} (h : off = ![s % 2]) (inb : ∀ a, off a + S1.size a ≤ S2.size a) :
    semAt cc1_scoped3 off inb = semI s := by
  subst h
  have key : ∀ t : Fin 2, ∀ inb : ∀ a, (![t.val] : Fin 1 → ℕ) a + S1.size a ≤ S2.size a,
      semAt cc1_scoped3 ![t.val] inb = (⟨7 + t.val, by have := t.isLt; show _ < 34; omega⟩ : DmaSem sig) := by decide
  exact key ⟨s % 2, Nat.mod_lt _ Nat.two_pos⟩ inb

theorem semAt_O {off : Fin 1 → ℕ} {s : ℕ} (h : off = ![s % 2]) (inb : ∀ a, off a + S1.size a ≤ S2.size a) :
    semAt cc1_scoped1 off inb = semO s := by
  subst h
  have key : ∀ t : Fin 2, ∀ inb : ∀ a, (![t.val] : Fin 1 → ℕ) a + S1.size a ≤ S2.size a,
      semAt cc1_scoped1 ![t.val] inb = (⟨5 + t.val, by have := t.isLt; show _ < 34; omega⟩ : DmaSem sig) := by decide
  exact key ⟨s % 2, Nat.mod_lt _ Nat.two_pos⟩ inb

theorem semAt_G : (cc1_scoped4 : DmaSems sig S_).sem = semG := by decide

/-! ## Where their elements lie -/

theorem set_iSlotM {off : Fin 3 → ℕ} {s : ℕ} (h : off = ![s, 0, 0]) (inb : ∀ a, off a + S1x1x128.size a ≤ S2x1x128.size a) :
    (iSlotM off inb).view.set = iSlot s := by
  subst h
  show (((sV).view.slice _).reshape _ _).set = _
  rw [View.set_reshape, View.set_slice_whole]
  ext j
  have h1 : (j 1).val < 1 := (j 1).isLt
  have h2 : (j 2).val < 128 := (j 2).isLt
  rw [Rect.mem_set_unit, mem_iSlot]
  refine (Fin.forall_fin_succ.trans (and_congr_right' Fin.forall_fin_two)).trans ?_
  show (s ≤ (j 0).val ∧ (j 0).val < s + 1) ∧ (0 ≤ (j 1).val ∧ (j 1).val < 0 + 1) ∧ (0 ≤ (j 2).val ∧ (j 2).val < 0 + 128) ↔ _
  omega

theorem set_iBlkM {off : Fin 2 → ℕ} {B : ℕ} (h : off = ![0, 128 * B]) (inb : ∀ a, off a + S1x128.size a ≤ S1x32768.size a) :
    (iBlkM off inb).view.set = iRng B (B + 1) := by
  subst h
  show ((iV).view.slice _).set = _
  rw [View.set_slice_whole]
  ext j
  have h0 : (j 0).val < 1 := (j 0).isLt
  rw [Rect.mem_set_unit, mem_iRng]
  refine Fin.forall_fin_two.trans ?_
  show (0 ≤ (j 0).val ∧ (j 0).val < 0 + 1) ∧ (128 * B ≤ (j 1).val ∧ (j 1).val < 128 * B + 128) ↔ _
  omega

theorem set_rSlotM {off : Fin 3 → ℕ} {s : ℕ} (h : off = ![s, 0, 0]) (inb : ∀ a, off a + S1x128x128.size a ≤ S2x128x128.size a) :
    (rSlotM off inb).view.set = rSlot s := by
  subst h
  show (((rV).view.slice _).reshape _ _).set = _
  rw [View.set_reshape, View.set_slice_whole]
  ext j
  have h1 : (j 1).val < 128 := (j 1).isLt
  have h2 : (j 2).val < 128 := (j 2).isLt
  rw [Rect.mem_set_unit, mem_rSlot]
  refine (Fin.forall_fin_succ.trans (and_congr_right' Fin.forall_fin_two)).trans ?_
  show (s ≤ (j 0).val ∧ (j 0).val < s + 1) ∧ (0 ≤ (j 1).val ∧ (j 1).val < 0 + 128) ∧ (0 ≤ (j 2).val ∧ (j 2).val < 0 + 128) ↔ _
  omega

theorem set_oBlkM {off : Fin 2 → ℕ} {B : ℕ} (h : off = ![128 * B, 0]) (inb : ∀ a, off a + S128x128.size a ≤ S32768x128.size a) :
    (oBlkM off inb).view.set = oRng B (B + 1) := by
  subst h
  show ((oV).view.slice _).set = _
  rw [View.set_slice_whole]
  ext j
  have h1 : (j 1).val < 128 := (j 1).isLt
  rw [Rect.mem_set_unit, mem_oRng]
  refine Fin.forall_fin_two.trans ?_
  show (128 * B ≤ (j 0).val ∧ (j 0).val < 128 * B + 128) ∧ (0 ≤ (j 1).val ∧ (j 1).val < 0 + 128) ↔ _
  omega

theorem set_iListM {off : Fin 3 → ℕ} {s : ℕ} (h : off = ![s, 0, 0]) (inb : ∀ a, off a + S1x1x128.size a ≤ S2x1x128.size a) :
    (iListM off inb).view.set = iSlot s := by
  rw [← set_iSlotM h inb]
  show (((iSlotM off inb).view.slice _).reshape _ _).set = _
  rw [View.set_reshape, View.set_slice]
  have : (Rect.unit (s := S1x128) ![0, 0] S1x128.size inb_S1x128_S1x128_0_0).set = Finset.univ := by decide
  rw [this]; rfl

theorem set_xAllM : (xAllM).view.set = Finset.univ := by
  show ((xV).view.slice _).set = _
  rw [View.set_slice_whole]
  ext j
  have h0 : (j 0).val < 47104 := (j 0).isLt
  have h1 : (j 1).val < 128 := (j 1).isLt
  rw [Rect.mem_set_unit]
  refine Fin.forall_fin_two.trans ?_
  show (0 ≤ (j 0).val ∧ (j 0).val < 0 + 47104) ∧ (0 ≤ (j 1).val ∧ (j 1).val < 0 + 128) ↔ _
  simp only [Finset.mem_univ, iff_true]; omega

/-- Element `(u, l)` of a slot of the index buffer. -/
theorem emb_iSlotM {off : Fin 3 → ℕ} {s : ℕ} (h : off = ![s, 0, 0]) (inb : ∀ a, off a + S1x1x128.size a ≤ S2x1x128.size a) (x : S1x128.Idx) :
    (((iSlotM off inb).view.emb x : S2x1x128.Idx) 2).val = (x 1).val := by
  subst h
  have e : (Shape.reshapeEquiv squeezes_S1x1x128_S1x128.numel_eq x : S1x1x128.Idx) = Fin.cons ⟨0, Nat.one_pos⟩ x :=
    Shape.reshapeEquiv_cons_one _ x
  refine (congrArg (fun y : S1x1x128.Idx => ((Rect.unit (s := S2x1x128) ![s, 0, 0] S1x1x128.size inb).emb y 2).val) e).trans ?_
  show 0 + 1 * (x 1).val = _
  omega
theorem emb_iBlkM {off : Fin 2 → ℕ} {B : ℕ} (h : off = ![0, 128 * B]) (inb : ∀ a, off a + S1x128.size a ≤ S1x32768.size a) (x : S1x128.Idx) :
    (((iBlkM off inb).view.emb x : S1x32768.Idx) 1).val = 128 * B + (x 1).val := by
  subst h
  show 128 * B + 1 * (x 1).val = _
  omega
theorem emb_rSlotM {off : Fin 3 → ℕ} {s : ℕ} (h : off = ![s, 0, 0]) (inb : ∀ a, off a + S1x128x128.size a ≤ S2x128x128.size a) (x : S128x128.Idx) :
    (((rSlotM off inb).view.emb x : S2x128x128.Idx) 1).val = (x 0).val ∧ (((rSlotM off inb).view.emb x : S2x128x128.Idx) 2).val = (x 1).val := by
  subst h
  have e : (Shape.reshapeEquiv squeezes_S1x128x128_S128x128.numel_eq x : S1x128x128.Idx) = Fin.cons ⟨0, Nat.one_pos⟩ x :=
    Shape.reshapeEquiv_cons_one _ x
  constructor
  · refine (congrArg (fun y : S1x128x128.Idx => ((Rect.unit (s := S2x128x128) ![s, 0, 0] S1x128x128.size inb).emb y 1).val) e).trans ?_
    show 0 + 1 * (x 0).val = _
    omega
  · refine (congrArg (fun y : S1x128x128.Idx => ((Rect.unit (s := S2x128x128) ![s, 0, 0] S1x128x128.size inb).emb y 2).val) e).trans ?_
    show 0 + 1 * (x 1).val = _
    omega
theorem emb_oBlkM {off : Fin 2 → ℕ} {B : ℕ} (h : off = ![128 * B, 0]) (inb : ∀ a, off a + S128x128.size a ≤ S32768x128.size a) (x : S128x128.Idx) :
    (((oBlkM off inb).view.emb x : S32768x128.Idx) 0).val = 128 * B + (x 0).val ∧ (((oBlkM off inb).view.emb x : S32768x128.Idx) 1).val = (x 1).val := by
  subst h
  constructor
  · show 128 * B + 1 * (x 0).val = _
    omega
  · show 0 + 1 * (x 1).val = _
    omega
/-- Entry `l` of the offset list. -/
theorem emb_iListM {off : Fin 3 → ℕ} {s : ℕ} (h : off = ![s, 0, 0]) (inb : ∀ a, off a + S1x1x128.size a ≤ S2x1x128.size a) (x : S128.Idx) :
    (((iListM off inb).view.emb x : S2x1x128.Idx) 2).val = (x 0).val := by
  have e : (iListM off inb).view.emb x
      = (iSlotM off inb).view.emb ((Rect.unit (s := S1x128) ![0, 0] S1x128.size inb_S1x128_S1x128_0_0).emb
          (Shape.reshapeEquiv squeezes_S1x128_S128.numel_eq x)) := rfl
  rw [e, emb_iSlotM h, Shape.reshapeEquiv_cons_one]
  show 0 + 1 * (x 0).val = _
  omega
theorem emb_xAllM (x : S47104x128.Idx) : (xAllM).view.emb x = x := by
  funext a
  match a with
  | ⟨0, _⟩ => exact Fin.ext (show 0 + 1 * (x 0).val = (x 0).val by omega)
  | ⟨1, _⟩ => exact Fin.ext (show 0 + 1 * (x 1).val = (x 1).val by omega)

end Cert.Proof.ScatterKI

end
-- ==== Proof.ScatterSteps.lean ====
/-
  The row scatter: a task's memory operations, as rules over the parts of `ScatterBase`. Each is stated at offsets a
  program computes, together with what they come to: the fetch of a block of row numbers and of a block of the source's
  rows into a slot, the indirect scatter of a fetched block's rows to the rows its words name, a wait.
-/
module

public import proofs.«01_k».proof.Proof.ScatterRules

@[expose] public section

noncomputable section

namespace Cert.Proof.ScatterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Cert.Proof.GatherKI (iRng oRng iSlot rSlot mem_iRng mem_oRng mem_iSlot mem_rSlot wordAt iCont)

variable (m : (ℓ : Loc nD τ sig) → Buf (Elt F) ℓ)

variable (d : Dev nD) (L : grid1.Coords)

/-! ## A wait's evidence -/

/-- What a task owes while it runs: evidence for each of its waits, the waits so far. -/
abbrev Owed (O : CellTallies nD τ sig (HIx 2)) (W : Waits sig (HIx 2)) : sProp 𝕄 :=
  iprop(Transfers.MayWaits (cT d L) (default : HIx 2) O ∗ ∃ W', ⌜∀ p ∈ W', p ∈ W ∨ p.2 = none⌝ ∗ owes (cT d L) O W')

theorem wp_wait {s' s : Shape} {e' e : EltTy} {sp sp' : Space} {sem sem' : DmaSem sig} (hsem : sem = sem')
    {srcw : Memref sig (cT d L).2.kind sp' s' e'} {dstw : Memref sig (cT d L).2.kind sp s e}
    {hsrc : srcw.view.WordExact} {hdst : dstw.view.WordExact} {α : Type}
    {k : PUnit → Prog (TpuEff nD τ sig (Elt F) Λ₀ (cT d L).2) α} {N : ℕ} (hN : dstw.view.dmaCredit = N) {X : sProp 𝕄}
    {O : CellTallies nD τ sig (HIx 2)} {W : Waits sig (HIx 2)} {Q : α → sProp 𝕄} :
    iprop(Transfers.Flight countersEmb (cT d L) (.dma sem') (default : HIx 2) N X ∗ Owed d L O W)
      ⊢ iprop((iprop(X ∗ semVal (cT d L, SemLoc.dma sem') 0 ∗ Owed d L O W) -∗ wp frame (wpE (defs₀ (F := F)) 𝒱₀ (cT d L) none) Set.univ (k ⟨⟩) Q)
          -∗ wp frame (wpE (defs₀ (F := F)) 𝒱₀ (cT d L) none) Set.univ (.op (.waitDma2 sem srcw dstw hsrc hdst) k) Q) := by
  subst hsem
  iintro ⟨Hfl, #Hmw, %W', %hW', HO⟩ Hk
  iapply (Transfers.wp_waitLocalO countersEmb 𝒱₀ (cT d L) none (default : HIx 2) hN) $$ [Hfl HO]
  · isplitl [Hfl]; · iexact Hfl
    isplitl [HO]; · iexact HO
    iapply (Transfers.MayWaits.elim (SemLoc.dma sem)) $$ Hmw
  iintro ⟨HX, Hsem, HO⟩
  iapply Hk
  isplitl [HX]; · iexact HX
  isplitl [Hsem]; · iexact Hsem
  isplitr; · iexact Hmw
  iexists _; isplitr
  swap; · iexact HO
  ipureintro; intro p hp
  rcases Finset.mem_insert.mp hp with hp | hp
  · exact .inr (hp ▸ rfl)
  · exact hW' p hp

/-! ## The fetch of a block of row numbers -/

theorem wp_fetch (s B : ℕ) (hB : B < 256) {off1 : Fin 3 → ℕ} {off2 : Fin 2 → ℕ} {off3 : Fin 1 → ℕ}
    (h1 : off1 = ![s % 2, 0, 0]) (h2 : off2 = ![0, 128 * B]) (h3 : off3 = ![s % 2])
    {inb1 : ∀ a, off1 a + S1x1x128.size a ≤ S2x1x128.size a} {inb2 : ∀ a, off2 a + S1x128.size a ≤ S1x32768.size a}
    {inb3 : ∀ a, off3 a + S1.size a ≤ S2.size a} {hsrc hdst hsem} {α : Type}
    {k : PUnit → Prog (TpuEff nD τ sig (Elt F) Λ₀ (cT d L).2) α} {Q : α → sProp 𝕄} :
    iprop(iPts m d B (B + 1) ∗ idleI (F := F) d L (s % 2))
      ⊢ iprop((FI m d L (s % 2) B -∗ wp frame (wpE (defs₀ (F := F)) 𝒱₀ (cT d L) none) Set.univ (k ⟨⟩) Q)
          -∗ wp frame (wpE (defs₀ (F := F)) 𝒱₀ (cT d L) none) Set.univ
              (.op (.enqueueDma (iBlkM off2 inb2) (.here (iSlotM off1 inb1)) (.dma (semAt cc1_scoped3 off3 inb3)) hsrc hdst hsem) k) Q) := by
  have hs := semAt_I (s := s % 2) (by rw [Nat.mod_mod]; exact h3) inb3
  iintro ⟨Hi, ⟨%f, Hs⟩, Hv⟩ Hk
  ihave Hi' := (Entails.of_eq (show (iPts m d B (B + 1) : sProp 𝕄)
      = ((iBlkM off2 inb2).view.loc (cT d L) ↦[(iBlkM off2 inb2).view.set]{fullShare} m (iLoc d)) by rw [set_iBlkM h2])) $$ Hi
  ihave Hs' := (Entails.of_eq (show (sPts d L (s % 2) f : sProp 𝕄)
      = ((iSlotM off1 inb1).view.loc (cT d L) ↦[(iSlotM off1 inb1).view.set]{fullShare} f) by rw [set_iSlotM h1])) $$ Hs
  ihave Hv' := (Entails.of_eq (show (semVal (cT d L, SemLoc.dma (semI (s % 2))) 0 : sProp 𝕄)
      = semVal (cT d L, SemLoc.dma (semAt cc1_scoped3 off3 inb3)) 0 by rw [hs])) $$ Hv
  iapply (Transfers.wp_dmaLocal countersEmb 𝒱₀ (cT d L) none (default : HIx 2) NI rfl (by decide) (Finset.Subset.refl _)) $$ [Hi' Hs' Hv']
  · isplitl [Hi']; · iexact Hi'
    isplitl [Hs']; · iexact Hs'
    iexact Hv'
  iintro Hfl
  iapply Hk
  unfold FI
  rw [← hs]
  iapply (Transfers.Flight_mono _ _ ?_) $$ Hfl
  rw [pointsTo_congr (g := Gi m d L B) ?_, set_iSlotM h1, set_iBlkM h2]
  intro j hj
  obtain ⟨x, -, rfl⟩ := Finset.mem_map.mp hj
  refine (View.write_emb_of_mem _ _ (Finset.mem_univ x)).trans ((cast_eq _ _).trans ?_)
  show View.read (Elt F) (iBlkM off2 inb2).view (m (iLoc d)) x
    = GatherKI.wordAt (m (iLoc d)) (128 * B + (((iSlotM off1 inb1).view.emb x : S2x1x128.Idx) 2).val)
  rw [View.read_apply, emb_iSlotM h1]
  have hx : (x 1).val < 128 := (x 1).isLt
  have h0 : ((iBlkM off2 inb2).view.emb x : S1x32768.Idx) = ix2 (0 : Fin 1) ⟨(128 * B + (x 1).val) % 32768, Nat.mod_lt _ (by decide)⟩ := by
    funext a
    match a with
    | ⟨0, _⟩ => exact Subsingleton.elim (α := Fin 1) _ _
    | ⟨1, _⟩ => exact Fin.ext ((emb_iBlkM h2 inb2 x).trans (Nat.mod_eq_of_lt (by omega)).symm)
  exact (cast_eq _ _).trans (congrArg (m (iLoc d)) h0)

/-! ## The fetch of a block of the source's rows -/

theorem wp_load (s B : ℕ) (hB : B < 256) {off1 : Fin 3 → ℕ} {off2 : Fin 2 → ℕ} {off3 : Fin 1 → ℕ}
    (h1 : off1 = ![s % 2, 0, 0]) (h2 : off2 = ![128 * B, 0]) (h3 : off3 = ![s % 2])
    {inb1 : ∀ a, off1 a + S1x128x128.size a ≤ S2x128x128.size a} {inb2 : ∀ a, off2 a + S128x128.size a ≤ S32768x128.size a}
    {inb3 : ∀ a, off3 a + S1.size a ≤ S2.size a} {hsrc hdst hsem} {α : Type}
    {k : PUnit → Prog (TpuEff nD τ sig (Elt F) Λ₀ (cT d L).2) α} {Q : α → sProp 𝕄} :
    iprop(oPts m d B (B + 1) ∗ idleO (F := F) d L (s % 2))
      ⊢ iprop((FO m d L (s % 2) B -∗ wp frame (wpE (defs₀ (F := F)) 𝒱₀ (cT d L) none) Set.univ (k ⟨⟩) Q)
          -∗ wp frame (wpE (defs₀ (F := F)) 𝒱₀ (cT d L) none) Set.univ
              (.op (.enqueueDma (oBlkM off2 inb2) (.here (rSlotM off1 inb1)) (.dma (semAt cc1_scoped1 off3 inb3)) hsrc hdst hsem) k) Q) := by
  have hs := semAt_O (s := s % 2) (by rw [Nat.mod_mod]; exact h3) inb3
  iintro ⟨Ho, ⟨%f, Hr⟩, Hv⟩ Hk
  ihave Ho' := (Entails.of_eq (show (oPts m d B (B + 1) : sProp 𝕄)
      = ((oBlkM off2 inb2).view.loc (cT d L) ↦[(oBlkM off2 inb2).view.set]{fullShare} m (oLoc d)) by rw [set_oBlkM h2])) $$ Ho
  ihave Hr' := (Entails.of_eq (show (rPts d L (s % 2) f : sProp 𝕄)
      = ((rSlotM off1 inb1).view.loc (cT d L) ↦[(rSlotM off1 inb1).view.set]{fullShare} f) by rw [set_rSlotM h1])) $$ Hr
  ihave Hv' := (Entails.of_eq (show (semVal (cT d L, SemLoc.dma (semO (s % 2))) 0 : sProp 𝕄)
      = semVal (cT d L, SemLoc.dma (semAt cc1_scoped1 off3 inb3)) 0 by rw [hs])) $$ Hv
  iapply (Transfers.wp_dmaLocal countersEmb 𝒱₀ (cT d L) none (default : HIx 2) NO rfl (by decide) (Finset.Subset.refl _)) $$ [Ho' Hr' Hv']
  · isplitl [Ho']; · iexact Ho'
    isplitl [Hr']; · iexact Hr'
    iexact Hv'
  iintro Hfl
  iapply Hk
  unfold FO
  rw [← hs]
  iapply (Transfers.Flight_mono _ _ ?_) $$ Hfl
  rw [pointsTo_congr (g := Gr m d L B) ?_, set_rSlotM h1, set_oBlkM h2]
  intro j hj
  obtain ⟨x, -, rfl⟩ := Finset.mem_map.mp hj
  refine (View.write_emb_of_mem _ _ (Finset.mem_univ x)).trans ((cast_eq _ _).trans ?_)
  show View.read (Elt F) (oBlkM off2 inb2).view (m (oLoc d)) x
    = m (oLoc d) (ix2 (⟨(128 * B + (((rSlotM off1 inb1).view.emb x : S2x128x128.Idx) 1).val) % 32768, Nat.mod_lt _ (by decide)⟩ : Fin 32768)
        (((rSlotM off1 inb1).view.emb x : S2x128x128.Idx) 2 : Fin 128))
  rw [View.read_apply, cast_eq]
  have hx : (x 0).val < 128 := (x 0).isLt
  refine congrArg (m (oLoc d)) (funext fun a => ?_)
  match a with
  | ⟨0, _⟩ =>
    refine Fin.ext ((emb_oBlkM h2 inb2 x).1.trans ?_)
    show _ = (128 * B + (((rSlotM off1 inb1).view.emb x : S2x128x128.Idx) 1).val) % 32768
    rw [(emb_rSlotM h1 inb1 x).1, Nat.mod_eq_of_lt (by omega)]
  | ⟨1, _⟩ => exact Fin.ext ((emb_oBlkM h2 inb2 x).2.trans (emb_rSlotM h1 inb1 x).2.symm)

/-! ## The scatter of a block's rows -/

/-- The words a task reads of a fetched slot are rows of the table. -/
theorem list_inRange (hpre : PreOK (F := F) m) {off : Fin 3 → ℕ} {s B : ℕ} (h : off = ![s, 0, 0])
    (inb : ∀ a, off a + S1x1x128.size a ≤ S2x1x128.size a) (x : S128.Idx) :
    ((iListM off inb).view.read (Elt F) (Gi m d L B) x).toNat < 47104 := by
  rw [View.read_apply, cast_eq]
  exact hpre.lt d _

/-- The words of a fetched slot, by entry. -/
theorem list_word {off : Fin 3 → ℕ} {s B : ℕ} (h : off = ![s, 0, 0]) (inb : ∀ a, off a + S1x1x128.size a ≤ S2x1x128.size a) (x : S128.Idx) :
    (iListM off inb).view.read (Elt F) (Gi m d L B) x = wordAt (m (iLoc d)) (128 * B + (x 0).val) := by
  rw [View.read_apply, cast_eq]
  exact congrArg (fun n => wordAt (m (iLoc d)) (128 * B + n)) (emb_iListM h inb x)

theorem list_distinct (hpre : PreOK (F := F) m) {off : Fin 3 → ℕ} {s B : ℕ} (hB : B < 256) (h : off = ![s, 0, 0])
    (inb : ∀ a, off a + S1x1x128.size a ≤ S2x1x128.size a) :
    Function.Injective fun x => ((iListM off inb).view.read (Elt F) (Gi m d L B) x).toNat := by
  intro x y e
  have hx : (x 0).val < 128 := (x 0).isLt
  have hy : (y 0).val < 128 := (y 0).isLt
  have e : (wordAt (m (iLoc d)) (128 * B + (x 0).val)).toNat = (wordAt (m (iLoc d)) (128 * B + (y 0).val)).toNat :=
    (congrArg BitVec.toNat (list_word m d L h inb x)).symm.trans (e.trans (congrArg BitVec.toNat (list_word m d L h inb y)))
  have e := hpre.inj d _ _ (by omega) (by omega) e
  funext a
  match a with
  | ⟨0, _⟩ => exact Fin.ext (by omega : (x 0).val = (y 0).val)

/-- The credit of a scattered block. -/
abbrev NG : ℕ := sig.dmaCredit .scVector (Kind.scVector.table .vmem) (cc1_scoped0 : Ref sig .scVector).idx S128x128 .f32

theorem rows_credit {h : S47104x128.Gathers 0 S128x128} (r : Fin (S128x128.size h.axis') → Fin (S47104x128.size h.axis)) :
    ∑ j, ((xAllM).slice (S47104x128.rowRect h.axis (r j)) (S47104x128.stride_rowRect h.axis _)).view.dmaCredit = NG := by
  have key : ∀ h : S47104x128.Gathers 0 S128x128,
      ∑ j : Fin (S128x128.size h.axis'), sig.dmaCredit .scVector (Kind.scVector.table .hbm) (main_v11_scv : Ref sig .scVector).idx (S47104x128.rowShape h.axis) .f32 = NG := by
    decide
  exact key h

abbrev hG : S47104x128.Gathers 0 S128x128 := gathers_S47104x128_S128x128

/-- An element lies in the target's row `k` when its first coordinate is `k`. -/
theorem mem_row (k : Fin (S47104x128.size hG.axis)) (j : S47104x128.Idx) :
    j ∈ ((xAllM).view.slice (S47104x128.rowRect hG.axis k)).set ↔ (j 0).val = k.val := by
  constructor
  · intro hj
    obtain ⟨y, -, e⟩ := Finset.mem_map.mp hj
    have e : (S47104x128.rowRect hG.axis k).emb y = j := (emb_xAllM _).symm.trans e
    exact (congrArg (fun z : S47104x128.Idx => (z hG.axis).val) e).symm.trans (congrArg Fin.val (Shape.rowRect_emb_axis hG.axis k y))
  · intro hj
    have hk : j hG.axis = k := Fin.ext hj
    refine Finset.mem_map.mpr ⟨S47104x128.rowProj hG.axis j, Finset.mem_univ _, ?_⟩
    refine (emb_xAllM _).trans ?_
    rw [← hk]; exact Shape.rowRect_emb_rowProj hG.axis j

/-- The row entry `k` of a fetched slot names. -/
theorem row_word {off : Fin 3 → ℕ} {s B : ℕ} (h : off = ![s, 0, 0])
    (inb : ∀ a, off a + S1x1x128.size a ≤ S2x1x128.size a) (hn : S128.numel = S128x128.size hG.axis')
    (hin : ∀ x, ((iListM off inb).view.read (Elt F) (Gi m d L B) x).toNat < S47104x128.size hG.axis) (k : Fin (S128x128.size hG.axis')) :
    (SparseCore.rows ((iListM off inb).view.read (Elt F) (Gi m d L B)) hn hin k).val = (wordAt (m (iLoc d)) (128 * B + k.val)).toNat := by
  refine (congrArg BitVec.toNat (list_word m d L h inb _)).trans (congrArg (fun n => (wordAt (m (iLoc d)) (128 * B + n)).toNat) ?_)
  refine (Shape.rowMajor_val_one _).symm.trans ?_
  rw [Equiv.apply_symm_apply]; rfl

/-- The rows a fetched slot's words name are block `B`'s share of the target. -/
theorem set_named {off : Fin 3 → ℕ} {s B : ℕ} (hB : B < 256) (h : off = ![s, 0, 0])
    (inb : ∀ a, off a + S1x1x128.size a ≤ S2x1x128.size a) (hn : S128.numel = S128x128.size hG.axis')
    (hin : ∀ x, ((iListM off inb).view.read (Elt F) (Gi m d L B) x).toNat < S47104x128.size hG.axis) :
    SparseCore.namedRows (cT d L) (xAllM).view hG.axis (SparseCore.rows ((iListM off inb).view.read (Elt F) (Gi m d L B)) hn hin)
      = xRng (m (iLoc d)) B (B + 1) := by
  ext j
  rw [SparseCore.namedRows_eq, Finset.mem_biUnion, mem_xRng]
  constructor
  · rintro ⟨k, -, hk⟩
    have hk := (mem_row _ j).mp hk
    have h128 : k.val < 128 := k.isLt
    exact ⟨128 * B + k.val, by omega, by omega, ((row_word m d L h inb hn hin k).symm.trans hk.symm)⟩
  · rintro ⟨r, h1, h2, h3⟩
    obtain ⟨n, rfl⟩ : ∃ n, r = 128 * B + n := ⟨r - 128 * B, by omega⟩
    have hn128 : n < 128 := by omega
    let k : Fin (S128x128.size hG.axis') := ⟨n, hn128⟩
    exact ⟨k, Finset.mem_univ _, (mem_row _ j).mpr (h3.symm.trans (row_word m d L h inb hn hin k).symm)⟩

/-- A memref cast along an equation of shapes reads the memref at the index cast back. -/
theorem read_cast {κ : Kind} {sp : Space} {s s' : Shape} (e : s = s') (M : Memref sig κ sp s .f32) (f : M.view.ty.Contents (Elt F)) (y : s'.Idx) :
    (M.cast e rfl).view.read (Elt F) f y = M.view.read (Elt F) f (fun b => (y (b.cast (congrArg Shape.rank e))).cast (by subst e; rfl)) := by
  subst e; rfl

/-- Element `y` of row `k` of a slot of the row buffer. -/
theorem slot_row {off : Fin 3 → ℕ} {s : ℕ} (h : off = ![s, 0, 0]) (inb : ∀ a, off a + S1x128x128.size a ≤ S2x128x128.size a)
    (k : Fin (S128x128.size hG.axis')) (y : (S128x128.rowShape hG.axis').Idx) :
    ((((rSlotM off inb).slice (S128x128.rowRect hG.axis' k) (S128x128.stride_rowRect _ _)).view.emb y : S2x128x128.Idx) 1).val = k.val
      ∧ ((((rSlotM off inb).slice (S128x128.rowRect hG.axis' k) (S128x128.stride_rowRect _ _)).view.emb y : S2x128x128.Idx) 2).val = (y (1 : Fin 2)).val := by
  have e := emb_rSlotM h inb ((S128x128.rowRect hG.axis' k).emb y)
  exact ⟨e.1.trans (congrArg Fin.val (Shape.rowRect_emb_axis hG.axis' k y)),
    e.2.trans (Shape.rowRect_emb_of_ne hG.axis' k y (b := (1 : Fin 2)) (by decide))⟩

/-- A row of the target written: the payload at the element's place in the row. -/
theorem row_write (k : Fin (S47104x128.size hG.axis)) (f : S47104x128.Idx → F .f32) (w : (S47104x128.rowShape hG.axis).Idx → F .f32)
    (j : S47104x128.Idx) (hj : (j 0).val = k.val) :
    (((xAllM).view.slice (S47104x128.rowRect hG.axis k)).write (Elt F) f w Finset.univ : S47104x128.Idx → F .f32) j = w (S47104x128.rowProj hG.axis j) := by
  have hk : j hG.axis = k := Fin.ext hj
  have e : ((xAllM).view.slice (S47104x128.rowRect hG.axis k)).emb (S47104x128.rowProj hG.axis j) = j := by
    refine (emb_xAllM _).trans ?_
    rw [← hk]; exact Shape.rowRect_emb_rowProj hG.axis j
  refine (congrArg (((xAllM).view.slice (S47104x128.rowRect hG.axis k)).write (Elt F) f w Finset.univ) e.symm).trans ?_
  exact (View.write_emb_of_mem _ _ (Finset.mem_univ _)).trans (cast_eq _ _)

/-- Row `k` of a fetched slot, as the scatter's payload. -/
theorem payload_row {off : Fin 3 → ℕ} {s B : ℕ} (hB : B < 256) (h : off = ![s, 0, 0]) (inb : ∀ a, off a + S1x128x128.size a ≤ S2x128x128.size a)
    (k : Fin (S128x128.size hG.axis')) (hk : 128 * B + k.val < 32768) (j : S47104x128.Idx) :
    SparseCore.scatterRowPayload (cT d L) (rSlotM off inb) hG (Gr m d L B) k (S47104x128.rowProj hG.axis j)
      = m (oLoc d) (ix2 (⟨128 * B + k.val, hk⟩ : Fin 32768) (j 1 : Fin 128)) := by
  refine (read_cast hG.rowShape_eq ((rSlotM off inb).slice (S128x128.rowRect hG.axis' k) (S128x128.stride_rowRect _ _)) (Gr m d L B) _).trans ?_
  generalize hy : (fun b : Fin (S128x128.rowShape hG.axis').rank => (S47104x128.rowProj hG.axis j (b.cast (congrArg Shape.rank hG.rowShape_eq))).cast _) = y
  obtain ⟨e0, e1⟩ := slot_row h inb k y
  have e2 : (y (1 : Fin 2)).val = (j 1).val := by rw [← hy]; rfl
  refine (View.read_apply _ _).trans ((cast_eq _ _).trans ?_)
  refine congrArg (m (oLoc d)) (funext fun a => ?_)
  match a with
  | ⟨0, _⟩ => exact Fin.ext ((congrArg (fun n => (128 * B + n) % 32768) e0).trans (Nat.mod_eq_of_lt (by omega)))
  | ⟨1, _⟩ => exact Fin.ext (e1.trans e2)

theorem scattered (hpre : PreOK (F := F) m) {off1 off2 : Fin 3 → ℕ} {s B : ℕ} (hB : B < 256) (h1 : off1 = ![s, 0, 0]) (h2 : off2 = ![s, 0, 0])
    (inb1 : ∀ a, off1 a + S1x128x128.size a ≤ S2x128x128.size a) (inb2 : ∀ a, off2 a + S1x1x128.size a ≤ S2x1x128.size a)
    (hn : S128.numel = S128x128.size hG.axis')
    (hin : ∀ x, ((iListM off2 inb2).view.read (Elt F) (Gi m d L B) x).toNat < S47104x128.size hG.axis)
    (j : S47104x128.Idx) (hj : j ∈ xRng (m (iLoc d)) B (B + 1)) :
    (SparseCore.scatterBuf (cT d L) (xAllM).view hG.axis (SparseCore.rows ((iListM off2 inb2).view.read (Elt F) (Gi m d L B)) hn hin)
      (SparseCore.scatterRowPayload (cT d L) (rSlotM off1 inb1) hG (Gr m d L B)) (m (xLoc d)) : S47104x128.Idx → F .f32) j = G m d j := by
  rw [← set_named m d L hB h2 inb2 hn hin, SparseCore.namedRows_eq, Finset.mem_biUnion] at hj
  obtain ⟨k, -, hk⟩ := hj
  have h128 : k.val < 128 := k.isLt
  have hj0 := (mem_row _ j).mp hk
  have hword : (wordAt (m (iLoc d)) (128 * B + k.val)).toNat = (j 0).val := (row_word m d L h2 inb2 hn hin k).symm.trans hj0.symm
  refine (SparseCore.scatterBuf_of_mem (cT d L) (xAllM).view hG.axis _
    (SparseCore.rows_injective (list_distinct m d L hpre hB h2 inb2)) _ _ hk).trans ?_
  refine (row_write _ _ _ j hj0).trans ((payload_row m d L hB h1 inb1 k (by omega) j).trans ?_)
  exact (xCont_of_word (hpre.inj d) (m (oLoc d)) (m (xLoc d)) ⟨128 * B + k.val, by omega⟩ hword).symm

theorem wp_scatter (hpre : PreOK (F := F) m) (s B : ℕ) (hB : B < 256) {off1 off2 : Fin 3 → ℕ}
    (h1 : off1 = ![s % 2, 0, 0]) (h2 : off2 = ![s % 2, 0, 0])
    {inb1 : ∀ a, off1 a + S1x128x128.size a ≤ S2x128x128.size a} {inb2 : ∀ a, off2 a + S1x1x128.size a ≤ S2x1x128.size a}
    {hn : S128.numel = S128x128.size (gathers_S47104x128_S128x128).axis'} {hp he hsp hr} {α : Type}
    {k : PUnit → Prog (TpuEff nD τ sig (Elt F) Λ₀ (cT d L).2) α} {Q : α → sProp 𝕄} :
    iprop(rPts d L (s % 2) (Gr m d L B) ∗ xPts m d B (B + 1) (m (xLoc d)) ∗ sPts d L (s % 2) (Gi m d L B) ∗ semVal (cT d L, SemLoc.dma semG) 0)
      ⊢ iprop((Transfers.Flight countersEmb (cT d L) (.dma semG) (default : HIx 2) NG
                iprop(xPts m d B (B + 1) (G m d) ∗ rPts d L (s % 2) (Gr m d L B) ∗ sPts d L (s % 2) (Gi m d L B))
              -∗ wp frame (wpE (defs₀ (F := F)) 𝒱₀ (cT d L) none) Set.univ (k ⟨⟩) Q)
          -∗ wp frame (wpE (defs₀ (F := F)) 𝒱₀ (cT d L) none) Set.univ
              (SparseCore.enqueueIndirectScatter hp (rSlotM off1 inb1) xAllM gathers_S47104x128_S128x128 (iListM off2 inb2) hn
                (cc1_scoped4 : DmaSems sig S_).sem he hsp hr >>= k) Q) := by
  have hin := list_inRange m d L hpre (B := B) h2 inb2
  have hset := set_named m d L hB h2 inb2 hn hin
  iintro ⟨Hr, Hx, Hs, Hv⟩ Hk
  ihave Hx' := (Entails.of_eq (show (xPts m d B (B + 1) (m (xLoc d)) : sProp 𝕄)
      = ((xAllM).view.loc (cT d L) ↦[SparseCore.namedRows (cT d L) (xAllM).view (gathers_S47104x128_S128x128).axis
          (SparseCore.rows ((iListM off2 inb2).view.read (Elt F) (Gi m d L B)) hn hin)]{fullShare} m (xLoc d)) by rw [hset])) $$ Hx
  ihave Hr' := (Entails.of_eq (show (rPts d L (s % 2) (Gr m d L B) : sProp 𝕄)
      = ((rSlotM off1 inb1).view.loc (cT d L) ↦[(rSlotM off1 inb1).view.set]{fullShare} Gr m d L B) by rw [set_rSlotM h1])) $$ Hr
  ihave Hs' := (Entails.of_eq (show (sPts d L (s % 2) (Gi m d L B) : sProp 𝕄)
      = ((iListM off2 inb2).view.loc (cT d L) ↦[(iListM off2 inb2).view.set]{fullShare} Gi m d L B) by rw [set_iListM h2])) $$ Hs
  ihave Hv' := (Entails.of_eq (show (semVal (cT d L, SemLoc.dma semG) 0 : sProp 𝕄)
      = semVal (cT d L, SemLoc.dma (cc1_scoped4 : DmaSems sig S_).sem) 0 by rw [semAt_G])) $$ Hv
  iapply (SparseCore.wp_indirectScatterLocal countersEmb 𝒱₀ (cT d L) none (hg := gathers_S47104x128_S128x128) (default : HIx 2)
      NG (by decide) hin (SparseCore.rows_injective (list_distinct m d L hpre hB h2 inb2)) (rows_credit _)) $$ [Hx' Hr' Hs' Hv']
  · isplitl [Hr']; · iexact Hr'
    isplitl [Hx']; · iexact Hx'
    isplitl [Hs']; · iexact Hs'
    iexact Hv'
  iintro Hfl
  iapply Hk
  rw [semAt_G]
  iapply (Transfers.Flight_mono _ _ ?_) $$ Hfl
  rw [hset, pointsTo_congr (g := G m d) (fun j hj => scattered m d L hpre hB h1 h2 inb1 inb2 hn hin j hj), set_rSlotM h1, set_iListM h2]

end Cert.Proof.ScatterKI

end
-- ==== Proof.ScatterWords.lean ====
/-
  The row scatter: the words of a trip, decided over the 32 tasks and the eight trips.
-/
module

public import proofs.«01_k».proof.Proof.ScatterBase

@[expose] public section

noncomputable section

namespace Cert.Proof.ScatterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-! ## The words a trip carries -/

/-- Trip `t`'s carried words: each fetch's count (at most eight), the blocks scattered, the block's number (zero after the last). -/
abbrev A6 (t : ℕ) : BitVec 32 := BitVec.ofNat 32 (min (t + 1) 8)
abbrev A7 (t : ℕ) : BitVec 32 := BitVec.ofNat 32 t
abbrev A10 (t : ℕ) : BitVec 32 := BitVec.ofNat 32 (t % 8)
abbrev carried (t : ℕ) : BitVec 32 × BitVec 32 × BitVec 32 × BitVec 32 × BitVec 32 := (A6 t, A7 t, A6 t, A7 t, A10 t)

set_option maxRecDepth 100000

theorem chk3 : ∀ t : Fin k1_t1_loop.trips, k1_chk3 (A7 t.val) := by decide +kernel
theorem chk2 : ∀ t : Fin k1_t1_loop.trips, k1_chk2 (A7 t.val) := by decide +kernel
theorem chk1 : ∀ (L : grid1.Coords) (t : Fin k1_t1_loop.trips), k1_chk1 L t (A6 t.val) (A7 t.val) (A6 t.val) (A7 t.val) (A10 t.val) := by decide +kernel
theorem cond1_pos : ∀ (L : grid1.Coords) (t : Fin k1_t1_loop.trips), t.val < 7 → k1_cond1 L t (A10 t.val) = 1#1 := by decide +kernel
theorem cond1_neg : ∀ (L : grid1.Coords) (t : Fin k1_t1_loop.trips), ¬ t.val < 7 → ¬ k1_cond1 L t (A10 t.val) = 1#1 := by decide +kernel
theorem cond2_pos : ∀ (L : grid1.Coords) (t : Fin k1_t1_loop.trips), t.val < 7 → k1_cond2 L t (A10 t.val) = 1#1 := by decide +kernel
theorem cond2_neg : ∀ (L : grid1.Coords) (t : Fin k1_t1_loop.trips), ¬ t.val < 7 → ¬ k1_cond2 L t (A10 t.val) = 1#1 := by decide +kernel
theorem cond3_pos : ∀ (L : grid1.Coords) (t : Fin k1_t1_loop.trips), k1_cond3 L t (A10 t.val) = 1#1 := by decide +kernel
theorem cond4_pos : ∀ (L : grid1.Coords) (t : Fin k1_t1_loop.trips), k1_cond4 L t (A10 t.val) = 1#1 := by decide +kernel

theorem off1_eq : k1_off1 = ![0, 0, 0] := by decide +kernel
theorem off2_eq : ∀ L : grid1.Coords, k1_off2 L = ![128 * base L, 0] := by decide +kernel
theorem off3_eq : k1_off3 = ![0] := by decide +kernel
theorem off4_eq : k1_off4 = ![0, 0, 0] := by decide +kernel
theorem off5_eq : ∀ L : grid1.Coords, k1_off5 L = ![0, 128 * base L] := by decide +kernel
theorem off6_eq : ∀ t : Fin k1_t1_loop.trips, t.val < 7 → k1_off6 (A6 t.val) = ![(t.val + 1) % 2, 0, 0] := by decide +kernel
theorem off7_eq : ∀ (L : grid1.Coords) (t : Fin k1_t1_loop.trips), t.val < 7 → k1_off7 L (A10 t.val) = ![128 * (base L + t.val + 1), 0] := by decide +kernel
theorem off8_eq : ∀ t : Fin k1_t1_loop.trips, t.val < 7 → k1_off8 (A6 t.val) = ![(t.val + 1) % 2] := by decide +kernel
theorem off9_eq : ∀ t : Fin k1_t1_loop.trips, t.val < 7 → k1_off9 (A6 t.val) = ![(t.val + 1) % 2, 0, 0] := by decide +kernel
theorem off10_eq : ∀ (L : grid1.Coords) (t : Fin k1_t1_loop.trips), t.val < 7 → k1_off10 L (A10 t.val) = ![0, 128 * (base L + t.val + 1)] := by decide +kernel
theorem off11_eq : ∀ t : Fin k1_t1_loop.trips, t.val < 7 → k1_off11 (A6 t.val) = ![(t.val + 1) % 2] := by decide +kernel
theorem off14_eq : ∀ t : Fin k1_t1_loop.trips, k1_off14 (A7 t.val) = ![t.val % 2] := by decide +kernel
theorem off17_eq : ∀ t : Fin k1_t1_loop.trips, k1_off17 (A7 t.val) = ![t.val % 2] := by decide +kernel
theorem off18_eq : ∀ t : Fin k1_t1_loop.trips, k1_off18 (A7 t.val) = ![t.val % 2, 0, 0] := by decide +kernel
theorem off19_eq : ∀ t : Fin k1_t1_loop.trips, k1_off19 (A7 t.val) = ![t.val % 2, 0, 0] := by decide +kernel

end Cert.Proof.ScatterKI

end
-- ==== Proof.ScatterTile.lean ====
/-
  The row scatter: a task's trip and its whole body.
-/
module

public import proofs.«01_k».proof.Proof.ScatterSteps
public import proofs.«01_k».proof.Proof.ScatterWords

@[expose] public section

noncomputable section

namespace Cert.Proof.ScatterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

variable (m : (ℓ : Loc nD τ sig) → Buf (Elt F) ℓ)

variable (d : Dev nD) (L : grid1.Coords)

/-! ## A guarded operation -/

theorem wp_maybe {c : Prop} [Decidable c] {α : Type} {p : c → Prog (TpuEff nD τ sig (Elt F) Λ₀ (cT d L).2) α}
    {k : Prog (TpuEff nD τ sig (Elt F) Λ₀ (cT d L).2) α} {Q : α → sProp 𝕄} (R R' : sProp 𝕄)
    (hpos : ∀ h : c, R ⊢ iprop((R' -∗ wp frame (wpE (defs₀ (F := F)) 𝒱₀ (cT d L) none) Set.univ k Q)
        -∗ wp frame (wpE (defs₀ (F := F)) 𝒱₀ (cT d L) none) Set.univ (p h) Q))
    (hneg : ¬ c → R ⊢ R') :
    R ⊢ iprop((R' -∗ wp frame (wpE (defs₀ (F := F)) 𝒱₀ (cT d L) none) Set.univ k Q)
        -∗ wp frame (wpE (defs₀ (F := F)) 𝒱₀ (cT d L) none) Set.univ (if h : c then p h else k) Q) := by
  by_cases h : c
  · rw [dif_pos h]; exact hpos h
  · rw [dif_neg h]
    iintro HR Hk
    iapply Hk
    iapply (hneg h) $$ HR

/-! ## The state between trips -/

/-- The index fetches before trip `t`: block `t`'s in flight, the later blocks' row numbers still held; after the last, both slots idle. -/
def inI (t : ℕ) : sProp 𝕄 :=
  if t < 8 then iprop(FI m d L (t % 2) (base L + t) ∗ idleI (F := F) d L ((t + 1) % 2) ∗ iPts m d (base L + t + 1) (base L + 8))
  else iprop(idleI (F := F) d L 0 ∗ idleI (F := F) d L 1)
/-- The row fetches before trip `t`, likewise. -/
def inO (t : ℕ) : sProp 𝕄 :=
  if t < 8 then iprop(FO m d L (t % 2) (base L + t) ∗ idleO (F := F) d L ((t + 1) % 2) ∗ oPts m d (base L + t + 1) (base L + 8))
  else iprop(idleO (F := F) d L 0 ∗ idleO (F := F) d L 1)
/-- The next fetches, as trip `t` leaves them. -/
def nextI (t : ℕ) : sProp 𝕄 :=
  if t < 7 then iprop(FI m d L ((t + 1) % 2) (base L + t + 1) ∗ iPts m d (base L + t + 2) (base L + 8)) else idleI (F := F) d L ((t + 1) % 2)
def nextO (t : ℕ) : sProp 𝕄 :=
  if t < 7 then iprop(FO m d L ((t + 1) % 2) (base L + t + 1) ∗ oPts m d (base L + t + 2) (base L + 8)) else idleO (F := F) d L ((t + 1) % 2)

theorem inI_lt {t : ℕ} (h : t < 8) : inI m d L t
    = iprop(FI m d L (t % 2) (base L + t) ∗ idleI (F := F) d L ((t + 1) % 2) ∗ iPts m d (base L + t + 1) (base L + 8)) := if_pos h
theorem inO_lt {t : ℕ} (h : t < 8) : inO m d L t
    = iprop(FO m d L (t % 2) (base L + t) ∗ idleO (F := F) d L ((t + 1) % 2) ∗ oPts m d (base L + t + 1) (base L + 8)) := if_pos h

theorem inI_succ {t : ℕ} (h : t < 8) : iprop(nextI m d L t ∗ idleI (F := F) d L (t % 2)) ⊢ inI m d L (t + 1) := by
  unfold nextI inI
  by_cases h7 : t < 7
  · rw [if_pos h7, if_pos (by omega), show (t + 1 + 1) % 2 = t % 2 by omega]
    iintro ⟨⟨H1, H2⟩, H3⟩
    isplitl [H1]; · iexact H1
    isplitl [H3]; · iexact H3
    iexact H2
  · obtain rfl : t = 7 := by omega
    rw [if_neg (by omega), if_neg (by omega)]
theorem inO_succ {t : ℕ} (h : t < 8) : iprop(nextO m d L t ∗ idleO (F := F) d L (t % 2)) ⊢ inO m d L (t + 1) := by
  unfold nextO inO
  by_cases h7 : t < 7
  · rw [if_pos h7, if_pos (by omega), show (t + 1 + 1) % 2 = t % 2 by omega]
    iintro ⟨⟨H1, H2⟩, H3⟩
    isplitl [H1]; · iexact H1
    isplitl [H3]; · iexact H3
    iexact H2
  · obtain rfl : t = 7 := by omega
    rw [if_neg (by omega), if_neg (by omega)]

/-- What holds before trip `t`, its carried words `acc`. -/
def inv (O : CellTallies nD τ sig (HIx 2)) (W : Waits sig (HIx 2)) (t : ℕ)
    (acc : BitVec 32 × BitVec 32 × BitVec 32 × BitVec 32 × BitVec 32) : sProp 𝕄 :=
  iprop(⌜acc = carried t⌝ ∗ xPts m d (base L) (base L + t) (G m d) ∗ xPts m d (base L + t) (base L + 8) (m (xLoc d))
    ∗ iPts m d (base L) (base L + t) ∗ oPts m d (base L) (base L + t) ∗ inI m d L t ∗ inO m d L t
    ∗ semVal (cT d L, SemLoc.dma semG) 0 ∗ Owed d L O W)

theorem trip (hpre : PreOK (F := F) m) (O : CellTallies nD τ sig (HIx 2)) (W : Waits sig (HIx 2))
    (v4 v7 : BitVec 32) (hv4 : v4 = BitVec.ofNat 32 (base L)) (hv7 : v7 = Scalar.addi 0#32 v4) (t : Fin k1_t1_loop.trips) (acc : BitVec 32 × BitVec 32 × BitVec 32 × BitVec 32 × BitVec 32) :
    inv m d L O W t.val acc ⊢ wp frame (wpE (defs₀ (F := F)) 𝒱₀ (cT d L) none) Set.univ
      (k1_t1_body L oV (Memref.isWhole_whole _) iV (Memref.isWhole_whole _) xV (Memref.isWhole_whole _) rV (Memref.isWhole_whole _) cc1_scoped1
        sV (Memref.isWhole_whole _) cc1_scoped3 cc1_scoped4 v4 v7 t acc) (inv m d L O W (t.val + 1)) := by
  have ht : t.val < 8 := t.isLt
  have hbase := base_le L
  unfold inv
  rw [inI_lt m d L ht, inO_lt m d L ht]
  iintro ⟨%hacc, Hxd, Hx, Hi, Ho, ⟨Hfi, HidI, HrestI⟩, ⟨Hfo, HidO, HrestO⟩, HvG, HO⟩
  subst hacc
  unfold carried k1_t1_body
  simp only [k1_part1_eq_skeleton, k1_part1_skel, k1_part2_eq_skeleton, k1_part2_skel, Prog.lift, Prog.bind_op, Prog.bind_ret, Prog.pure_eq_ret, Prog.bind_assoc,
    wp_assume_of 𝒱₀ (cT d L) none Set.univ (chk3 t), wp_assume_of 𝒱₀ (cT d L) none Set.univ (chk2 t), wp_assume_of 𝒱₀ (cT d L) none Set.univ (chk1 L t), ite_self, dif_pos (cond3_pos L t), dif_pos (cond4_pos L t)]
  rw [wp_bind]
  subst hv7 hv4
  -- the next row block's fetch
  iapply (wp_maybe d L iprop(idleO (F := F) d L ((t.val + 1) % 2) ∗ oPts m d (base L + t.val + 1) (base L + 8)) (nextO m d L t.val) ?_ ?_) $$ [HidO HrestO]
  case _ =>
    intro h
    have h7 : t.val < 7 := by
      by_contra hc; exact cond1_neg L t hc h
    iintro ⟨Hidle, Ho⟩ Hk
    ihave Ho2 := (oPts_split m d (a := base L + t.val + 1) (b := base L + t.val + 2) (c := base L + 8) (by omega) (by omega)).1 $$ Ho
    icases Ho2 with ⟨Ho, Hrest⟩
    iapply (wp_load m d L (t.val + 1) (base L + t.val + 1) (by omega) (off6_eq t h7) (off7_eq L t h7) (off8_eq t h7)) $$ [Hidle Ho]
    · isplitl [Ho] <;> iassumption
    iintro Hfl
    iapply Hk
    unfold nextO
    rw [if_pos h7]
    isplitl [Hfl] <;> iassumption
  case _ =>
    intro h
    have h7 : ¬ t.val < 7 := fun hc => h (cond1_pos L t hc)
    unfold nextO
    rw [if_neg h7, show base L + t.val + 1 = base L + 8 by omega, oPts_nil]
    iintro ⟨H, -⟩
    iexact H
  · isplitl [HidO] <;> iassumption
  iintro HnextO
  rw [← wp_bind, Prog.bind_ret, wp_bind]
  -- the next index block's
  iapply (wp_maybe d L iprop(idleI (F := F) d L ((t.val + 1) % 2) ∗ iPts m d (base L + t.val + 1) (base L + 8)) (nextI m d L t.val) ?_ ?_) $$ [HidI HrestI]
  case _ =>
    intro h
    have h7 : t.val < 7 := by
      by_contra hc; exact cond2_neg L t hc h
    iintro ⟨Hidle, Hi⟩ Hk
    ihave Hi2 := (iPts_split m d (a := base L + t.val + 1) (b := base L + t.val + 2) (c := base L + 8) (by omega) (by omega)).1 $$ Hi
    icases Hi2 with ⟨Hi, Hrest⟩
    iapply (wp_fetch m d L (t.val + 1) (base L + t.val + 1) (by omega) (off9_eq t h7) (off10_eq L t h7) (off11_eq t h7)) $$ [Hidle Hi]
    · isplitl [Hi] <;> iassumption
    iintro Hfl
    iapply Hk
    unfold nextI
    rw [if_pos h7]
    isplitl [Hfl] <;> iassumption
  case _ =>
    intro h
    have h7 : ¬ t.val < 7 := fun hc => h (cond2_pos L t hc)
    unfold nextI
    rw [if_neg h7, show base L + t.val + 1 = base L + 8 by omega, iPts_nil]
    iintro ⟨H, -⟩
    iexact H
  · isplitl [HidI] <;> iassumption
  iintro HnextI
  -- this block's rows and row numbers
  iapply (wp_wait d L (semAt_O (s := t.val % 2) (by rw [Nat.mod_mod]; exact off14_eq t) _) (N := NO) rfl) $$ [Hfo HO]
  · isplitl [Hfo] <;> iassumption
  iintro ⟨⟨Hr, Hob⟩, HvO, HO⟩
  ihave Ho := (oPts_split m d (a := base L) (b := base L + t.val) (c := base L + (t.val + 1)) (by omega) (by omega)).2 $$ [Ho Hob]
  · isplitl [Ho] <;> iassumption
  iapply (wp_wait d L (semAt_I (s := t.val % 2) (by rw [Nat.mod_mod]; exact off17_eq t) _) (N := NI) rfl) $$ [Hfi HO]
  · isplitl [Hfi] <;> iassumption
  iintro ⟨⟨Hs, Hib⟩, HvI, HO⟩
  ihave Hi := (iPts_split m d (a := base L) (b := base L + t.val) (c := base L + (t.val + 1)) (by omega) (by omega)).2 $$ [Hi Hib]
  · isplitl [Hi] <;> iassumption
  -- the scatter
  ihave Hx2 := (xPts_split m d (hpre.inj d) (a := base L + t.val) (b := base L + t.val + 1) (c := base L + 8) (by omega) (by omega) (by omega) _).1 $$ Hx
  icases Hx2 with ⟨Hxb, Hx⟩
  iapply (wp_scatter m d L hpre t.val (base L + t.val) (by omega) (off18_eq t) (off19_eq t)) $$ [Hxb Hr Hs HvG]
  · isplitl [Hr]; · iexact Hr
    isplitl [Hxb]; · iexact Hxb
    isplitl [Hs]; · iexact Hs
    iexact HvG
  iintro Hfl
  rw [wp_ret]; imodintro
  unfold SparseCore.waitIndirectScatter
  simp only [Prog.lift, Prog.bind_op, Prog.bind_ret]
  iapply (wp_wait d L (sem' := semG) semAt_G (N := NG) rfl) $$ [Hfl HO]
  · isplitl [Hfl] <;> iassumption
  iintro ⟨⟨Hxb, Hr, Hs⟩, HvG, HO⟩
  rw [wp_ret]
  imodintro
  isplitr
  · ipureintro
    clear hpre ht hbase
    revert L t
    set_option maxRecDepth 100000 in decide +kernel
  isplitl [Hxd Hxb]
  · iapply (xPts_split m d (hpre.inj d) (a := base L) (b := base L + t.val) (c := base L + (t.val + 1)) (by omega) (by omega) (by omega) _).2
    isplitl [Hxd] <;> iassumption
  isplitl [Hx]; · iexact Hx
  isplitl [Hi]; · iexact Hi
  isplitl [Ho]; · iexact Ho
  isplitl [HnextI Hs HvI]
  · iapply (inI_succ m d L ht)
    isplitl [HnextI]; · iexact HnextI
    isplitl [Hs]; · iexists _; iexact Hs
    iexact HvI
  isplitl [HnextO Hr HvO]
  · iapply (inO_succ m d L ht)
    isplitl [HnextO]; · iexact HnextO
    isplitl [Hr]; · iexists _; iexact Hr
    iexact HvO
  isplitl [HvG] <;> iassumption

/-! ## A task's body -/

theorem v4_eq : ∀ L : grid1.Coords,
    Scalar.muli (Scalar.addi (Scalar.addi 0#32 (Scalar.muli (BitVec.ofNat 32 (L 1).val) 1#32)) (Scalar.muli (BitVec.ofNat 32 (L 0).val) 16#32)) 8#32
      = BitVec.ofNat 32 (base L) := by
  set_option maxRecDepth 100000 in decide +kernel

theorem body (hpre : PreOK (F := F) m) (O : CellTallies nD τ sig (HIx 2)) (W : Waits sig (HIx 2)) :
    iprop(iPts m d (base L) (base L + 8) ∗ oPts m d (base L) (base L + 8) ∗ xPts m d (base L) (base L + 8) (m (xLoc d))
        ∗ idleI (F := F) d L 0 ∗ idleI (F := F) d L 1 ∗ idleO (F := F) d L 0 ∗ idleO (F := F) d L 1 ∗ semVal (cT d L, SemLoc.dma semG) 0 ∗ Owed d L O W)
      ⊢ wp frame (wpE (defs₀ (F := F)) 𝒱₀ (cT d L) none) Set.univ
        (cc1_k L oV (Memref.isWhole_whole _) iV (Memref.isWhole_whole _) xV (Memref.isWhole_whole _) rV (Memref.isWhole_whole _) cc1_scoped1
          sV (Memref.isWhole_whole _) cc1_scoped3 cc1_scoped4)
        fun _ => iprop(iPts m d (base L) (base L + 8) ∗ oPts m d (base L) (base L + 8) ∗ xPts m d (base L) (base L + 8) (G m d)
          ∗ idleI (F := F) d L 0 ∗ idleI (F := F) d L 1 ∗ idleO (F := F) d L 0 ∗ idleO (F := F) d L 1 ∗ semVal (cT d L, SemLoc.dma semG) 0 ∗ Owed d L O W) := by
  have hbase := base_le L
  iintro ⟨Hi, Ho, Hx, HI0, HI1, HO0, HO1, HvG, HO⟩
  rw [cc1_k_eq_skeleton]
  unfold cc1_k_skel
  simp only [k1_part3_eq_skeleton, k1_part3_skel, k1_part4_eq_skeleton, k1_part4_skel, Prog.lift, Prog.bind_op, Prog.bind_ret, Prog.pure_eq_ret, Prog.bind_assoc]
  ihave Ho2 := (oPts_split m d (a := base L) (b := base L + 1) (c := base L + 8) (by omega) (by omega)).1 $$ Ho
  icases Ho2 with ⟨Ho, HrestO⟩
  iapply (wp_load m d L 0 (base L) (by omega) off1_eq (off2_eq L) off3_eq) $$ [HO0 Ho]
  · isplitl [Ho] <;> iassumption
  iintro Hfo
  ihave Hi2 := (iPts_split m d (a := base L) (b := base L + 1) (c := base L + 8) (by omega) (by omega)).1 $$ Hi
  icases Hi2 with ⟨Hi, HrestI⟩
  iapply (wp_fetch m d L 0 (base L) (by omega) off4_eq (off5_eq L) off3_eq) $$ [HI0 Hi]
  · isplitl [Hi] <;> iassumption
  iintro Hfi
  iapply (Scf.wp_for_bind frame (wpE (defs₀ (F := F)) 𝒱₀ (cT d L) none) Set.univ _ _ _ k1_t1_ok _ _
      (inv m d L O W) (fun t acc => trip m d L hpre O W _ _ (v4_eq L) rfl t acc)) $$ [Hx HI1 HO1 HvG HO Hfo Hfi HrestI HrestO]
  · unfold inv
    rw [inI_lt m d L (by omega), inO_lt m d L (by omega)]
    isplitr; · ipureintro; rfl
    isplitr; · rw [Nat.add_zero, xPts_nil]; iempintro
    isplitl [Hx]; · iexact Hx
    isplitr; · rw [Nat.add_zero, iPts_nil]; iempintro
    isplitr; · rw [Nat.add_zero, oPts_nil]; iempintro
    isplitl [Hfi HI1 HrestI]
    · isplitl [Hfi]; · iexact Hfi
      isplitl [HI1] <;> iassumption
    isplitl [Hfo HO1 HrestO]
    · isplitl [Hfo]; · iexact Hfo
      isplitl [HO1] <;> iassumption
    isplitl [HvG] <;> iassumption
  iintro %acc Hinv
  have h8 : Scf.trips k1_t1_loop.lb k1_t1_loop.ub k1_t1_loop.st = 8 := by decide
  rw [h8]
  unfold inv inI inO
  rw [if_neg (by omega), if_neg (by omega)]
  icases Hinv with ⟨-, Hx, -, Hi, Ho, ⟨HI0, HI1⟩, ⟨HO0, HO1⟩, HvG, HO⟩
  rw [wp_ret]; imodintro
  isplitl [Hi]; · iexact Hi
  isplitl [Ho]; · iexact Ho
  isplitl [Hx]; · iexact Hx
  isplitl [HI0]; · iexact HI0
  isplitl [HI1]; · iexact HI1
  isplitl [HO0]; · iexact HO0
  isplitl [HO1]; · iexact HO1
  isplitl [HvG] <;> iassumption

end Cert.Proof.ScatterKI

end
-- ==== Proof.ScatterTask.lean ====
/-
  The row scatter: a task's body from what a launch hands its subcore.
-/
module

public import proofs.«01_k».proof.Proof.ScatterTile

@[expose] public section

noncomputable section

namespace Cert.Proof.ScatterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Cert.Proof.GatherKI (iSlot rSlot mem_iSlot mem_rSlot iSlot_union rSlot_union iSlot_disjoint rSlot_disjoint)

variable (m : (ℓ : Loc nD τ sig) → Buf (Elt F) ℓ)

variable (d : Dev nD) (L : grid1.Coords)

/-! ## A task's own cells and buffers -/

/-- The five cells of the body are among the subcore's own. -/
theorem ownSems0_V :
    ∃ R : sProp 𝕄, (ownSems0 (cT d L) : sProp 𝕄)
      = iprop(semVal (cT d L, SemLoc.dma (semI 0)) 0 ∗ semVal (cT d L, SemLoc.dma (semI 1)) 0 ∗ semVal (cT d L, SemLoc.dma (semO 0)) 0
          ∗ semVal (cT d L, SemLoc.dma (semO 1)) 0 ∗ semVal (cT d L, SemLoc.dma semG) 0 ∗ R) := by
  have own : ∀ s : DmaSem sig, (SemLoc.dma s : SemLoc sig).isScoped .scVector = true →
      ((cT d L, SemLoc.dma s) : GSem nD τ sig) ∈ ownCells (cT d L) := fun s h => mem_ownCells.mpr ⟨rfl, h⟩
  have ne : ∀ {s s' : DmaSem sig}, s ≠ s' → ((cT d L, SemLoc.dma s) : GSem nD τ sig) ≠ (cT d L, SemLoc.dma s') :=
    fun h e => h (SemLoc.dma.inj (congrArg Prod.snd e))
  unfold SparseCore.Cfg.ownSems0
  rw [SparseCore.bigSep_erase' (own (semI 0) (by decide)),
    SparseCore.bigSep_erase' (Finset.mem_erase.mpr ⟨ne (s := semI 1) (by decide), own _ (by decide)⟩),
    SparseCore.bigSep_erase' (Finset.mem_erase.mpr ⟨ne (s := semO 0) (by decide), Finset.mem_erase.mpr ⟨ne (by decide), own _ (by decide)⟩⟩),
    SparseCore.bigSep_erase' (Finset.mem_erase.mpr ⟨ne (s := semO 1) (by decide), Finset.mem_erase.mpr ⟨ne (by decide),
      Finset.mem_erase.mpr ⟨ne (by decide), own _ (by decide)⟩⟩⟩),
    SparseCore.bigSep_erase' (Finset.mem_erase.mpr ⟨ne (s := semG) (by decide), Finset.mem_erase.mpr ⟨ne (by decide),
      Finset.mem_erase.mpr ⟨ne (by decide), Finset.mem_erase.mpr ⟨ne (by decide), own _ (by decide)⟩⟩⟩⟩)]
  exact ⟨_, rfl⟩

/-- The two buffers of the body are among the subcore's own. -/
theorem ownBufs_V :
    ∃ R : sProp 𝕄, (ownBufs (cT d L) : sProp 𝕄)
      = iprop((∃ f, (cT d L).loc cc1_scoped2 ↦{fullShare} f) ∗ (∃ f, (cT d L).loc cc1_scoped0 ↦{fullShare} f) ∗ R) := by
  unfold SparseCore.Cfg.ownBufs
  rw [SparseCore.bigSep_erase' (SparseCore.Cfg.mem_ownRefs_of_owner (p := Proc.scVector (cV L) (jV L))
    (b := (Proc.scVector (cV L) (jV L)).devRef cc1_scoped2) rfl),
    SparseCore.bigSep_erase' (Finset.mem_erase.mpr ⟨fun e => absurd (Proc.devRef_injective _ e) (show (cc1_scoped0 : Ref sig .scVector) ≠ cc1_scoped2 by decide),
    SparseCore.Cfg.mem_ownRefs_of_owner (p := Proc.scVector (cV L) (jV L)) (b := (Proc.scVector (cV L) (jV L)).devRef cc1_scoped0) rfl⟩)]
  exact ⟨_, rfl⟩

theorem slots_split (f : Buf (Elt F) ((cT d L).loc cc1_scoped2)) :
    ((cT d L).loc cc1_scoped2 ↦{fullShare} f : sProp 𝕄) ⊣⊢ iprop(sPts d L 0 f ∗ sPts d L 1 f) := by
  show ((cT d L).loc cc1_scoped2 ↦[Finset.univ]{fullShare} f : sProp 𝕄) ⊣⊢ _
  rw [← iSlot_union]; exact pointsTo_union iSlot_disjoint
theorem rows_split (f : Buf (Elt F) ((cT d L).loc cc1_scoped0)) :
    ((cT d L).loc cc1_scoped0 ↦{fullShare} f : sProp 𝕄) ⊣⊢ iprop(rPts d L 0 f ∗ rPts d L 1 f) := by
  show ((cT d L).loc cc1_scoped0 ↦[Finset.univ]{fullShare} f : sProp 𝕄) ⊣⊢ _
  rw [← rSlot_union]; exact pointsTo_union rSlot_disjoint
theorem slots_join : iprop((∃ f, sPts d L 0 f) ∗ ∃ f, sPts d L 1 f) ⊢ (iprop(∃ f, (cT d L).loc cc1_scoped2 ↦{fullShare} f) : sProp 𝕄) := by
  iintro ⟨⟨%f, H0⟩, %g, H1⟩
  iexists (fun j => if (j 0).val = 0 then f j else g j : S2x1x128.Idx → BitVec 32)
  iapply (slots_split d L _).2
  isplitl [H0]
  · iapply (Entails.of_eq (pointsTo_congr fun j hj => (if_pos (mem_iSlot.mp hj)).symm)) $$ H0
  · iapply (Entails.of_eq (pointsTo_congr fun j hj => (if_neg (by rw [mem_iSlot.mp hj]; decide)).symm)) $$ H1
theorem rows_join : iprop((∃ f, rPts d L 0 f) ∗ ∃ f, rPts d L 1 f) ⊢ (iprop(∃ f, (cT d L).loc cc1_scoped0 ↦{fullShare} f) : sProp 𝕄) := by
  iintro ⟨⟨%f, H0⟩, %g, H1⟩
  iexists (fun j => if (j 0).val = 0 then f j else g j : S2x128x128.Idx → F .f32)
  iapply (rows_split d L _).2
  isplitl [H0]
  · iapply (Entails.of_eq (pointsTo_congr fun j hj => (if_pos (mem_rSlot.mp hj)).symm)) $$ H0
  · iapply (Entails.of_eq (pointsTo_congr fun j hj => (if_neg (by rw [mem_rSlot.mp hj]; decide)).symm)) $$ H1

/-! ## The task, from what a launch hands it -/

/-- What a task is handed, and hands back with the named rows in `f`. -/
abbrev opd (f : Buf (Elt F) (xLoc d)) : sProp 𝕄 :=
  iprop(iPts m d (base L) (base L + 8) ∗ oPts m d (base L) (base L + 8) ∗ xPts m d (base L) (base L + 8) f)

theorem tile_body (hF : (K (F := F)).Facts) (hpre : PreOK (F := F) m) (O : CellTallies nD τ sig (HIx 2)) (W : Waits sig (HIx 2)) (hO : ∀ g, O g none = 0) :
    iprop(levAts (K (F := F)).L (K (F := F)).lev ∗ emp ∗ opd m d L (m (xLoc d))
        ∗ scopedBufs (cT d L) ∗ scopedSems0 (cT d L) ∗ owes (cT d L) O W)
      ⊢ wp frame (wpE (defs₀ (F := F)) 𝒱₀ (cT d L) none) Set.univ
        (cc1_k L oV (Memref.isWhole_whole _) iV (Memref.isWhole_whole _) xV (Memref.isWhole_whole _) rV (Memref.isWhole_whole _) cc1_scoped1
          sV (Memref.isWhole_whole _) cc1_scoped3 cc1_scoped4)
        fun _ => iprop(opd m d L (G m d) ∗ scopedBufs (cT d L) ∗ scopedSems0 (cT d L)
            ∗ ∃ W', ⌜∀ p ∈ W', p ∈ W ∨ p.2 = none⌝ ∗ owes (cT d L) O W') := by
  obtain ⟨RS, hRS⟩ := ownSems0_V (F := F) d L
  obtain ⟨RB, hRB⟩ := ownBufs_V (F := F) d L
  rw [(K (F := F)).scopedBufs_V hF d (cV L) (jV L), SparseCore.Cfg.scopedSems0_V (Val := Elt F) d (cV L) (jV L), hRS, hRB]
  iintro ⟨#Hlv, -, ⟨Hi, Ho, Hx⟩, ⟨⟨%fs, Hs⟩, ⟨%fr, Hr⟩, Hbufs⟩, ⟨Hv0, Hv1, Hv2, Hv3, Hv4, Hsems⟩, HO⟩
  ihave Hmw := (show levAts (K (F := F)).L (K (F := F)).lev ⊢ Transfers.MayWaits (cT d L) (default : HIx 2) O from
    (K (F := F)).mayWaits_none (thr := cT d L) hO) $$ Hlv
  ihave Hs' := (slots_split d L fs).1 $$ Hs
  icases Hs' with ⟨Hs0, Hs1⟩
  ihave Hr' := (rows_split d L fr).1 $$ Hr
  icases Hr' with ⟨Hr0, Hr1⟩
  iapply (wp_wand frame (wpE (defs₀ (F := F)) 𝒱₀ (cT d L) none) Set.univ) $$ [Hx Hi Ho Hs0 Hs1 Hr0 Hr1 Hv0 Hv1 Hv2 Hv3 Hv4 HO Hmw]
  · iapply (body m d L hpre O W)
    isplitl [Hi]; · iexact Hi
    isplitl [Ho]; · iexact Ho
    isplitl [Hx]; · iexact Hx
    isplitl [Hs0 Hv0]
    · isplitl [Hs0]; · iexists _; iexact Hs0
      iexact Hv0
    isplitl [Hs1 Hv1]
    · isplitl [Hs1]; · iexists _; iexact Hs1
      iexact Hv1
    isplitl [Hr0 Hv2]
    · isplitl [Hr0]; · iexists _; iexact Hr0
      iexact Hv2
    isplitl [Hr1 Hv3]
    · isplitl [Hr1]; · iexists _; iexact Hr1
      iexact Hv3
    isplitl [Hv4]; · iexact Hv4
    isplitl [Hmw]; · iexact Hmw
    iexists W
    isplitr; · ipureintro; exact fun p hp => .inl hp
    iexact HO
  iintro %a ⟨Hi, Ho, Hx, ⟨Hs0, Hv0⟩, ⟨Hs1, Hv1⟩, ⟨Hr0, Hv2⟩, ⟨Hr1, Hv3⟩, Hv4, -, HO⟩
  isplitl [Hx Hi Ho]
  · isplitl [Hi]; · iexact Hi
    isplitl [Ho] <;> iassumption
  isplitl [Hs0 Hs1 Hr0 Hr1 Hbufs]
  · isplitl [Hs0 Hs1]
    · iapply (slots_join d L); isplitl [Hs0] <;> iassumption
    isplitl [Hr0 Hr1]
    · iapply (rows_join d L); isplitl [Hr0] <;> iassumption
    iexact Hbufs
  isplitr [HO]
  · isplitl [Hv0]; · iexact Hv0
    isplitl [Hv1]; · iexact Hv1
    isplitl [Hv2]; · iexact Hv2
    isplitl [Hv3]; · iexact Hv3
    isplitl [Hv4]; · iexact Hv4
    iexact Hsems
  iexact HO

end Cert.Proof.ScatterKI

end
-- ==== Proof.ScatterDeal.lean ====
/-
  The row scatter: the arrays dealt to the SparseCores and to their tasks.
-/
module

public import proofs.«01_k».proof.Proof.ScatterTask

@[expose] public section

noncomputable section

namespace Cert.Proof.ScatterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Cert.Proof.GatherKI (iRng oRng mem_iRng mem_oRng iRng_disjoint oRng_disjoint iRng_all oRng_all wordAt)

variable (m : (ℓ : Loc nD τ sig) → Buf (Elt F) ℓ)

def coordsV (c : Fin (grid1.bound 0)) (s : Fin (grid1.bound 1)) : grid1.Coords :=
  fun | 0 => c | 1 => s | ⟨_ + 2, h⟩ => absurd h (Nat.not_lt.2 (Nat.le_add_left _ _))

/-- A SparseCore's half of the row numbers, of the source and of the target's named rows, the latter at `f`. -/
abbrev half (d : Dev nD) (c : Fin 2) (f : Buf (Elt F) (xLoc d)) : sProp 𝕄 :=
  iprop(iPts m d (128 * c.val) (128 * c.val + 128) ∗ oPts m d (128 * c.val) (128 * c.val + 128)
    ∗ xPts m d (128 * c.val) (128 * c.val + 128) f)

/-- What task `(c, i)` is handed, the target's part at `f`. -/
abbrev part (d : Dev nD) (c : Fin 2) (i : Fin 16) (f : Buf (Elt F) (xLoc d)) : sProp 𝕄 := opd m d (coordsV c i) f

theorem iPts_parts (d : Dev nD) (n a w : ℕ) :
    (iPts m d a (a + n * w) : sProp 𝕄) = bigSep Finset.univ fun i : Fin n => iPts m d (a + i.val * w) (a + i.val * w + w) := by
  have hmul : ∀ {i j : ℕ}, i < j → i * w + w ≤ j * w := fun {i j} h => by
    have := Nat.mul_le_mul_right w (Nat.succ_le_of_lt h); rw [Nat.succ_mul] at this; exact this
  rw [← pointsTo_biUnion Finset.univ (ℓ := iLoc d) (fun i : Fin n => iRng (a + i.val * w) (a + i.val * w + w))
    (fun i _ j _ h => by
      rcases Nat.lt_or_gt_of_ne (fun e => h (Fin.ext e)) with h | h
      · exact iRng_disjoint (by have := hmul h; omega)
      · exact (iRng_disjoint (by have := hmul h; omega)).symm)]
  refine congrArg (fun S => (iLoc d ↦[S]{fullShare} m (iLoc d) : sProp 𝕄)) ?_
  ext j
  simp only [Finset.mem_biUnion, Finset.mem_univ, true_and, mem_iRng]
  constructor
  · rintro ⟨h1, h2⟩
    have hw : 0 < w := Nat.pos_of_ne_zero fun e => by subst e; omega
    have hd := Nat.div_add_mod ((j 1).val / 128 - a) w
    have hm := Nat.mod_lt ((j 1).val / 128 - a) hw
    have hq : ((j 1).val / 128 - a) / w < n := Nat.div_lt_of_lt_mul (by rw [Nat.mul_comm]; omega)
    rw [Nat.mul_comm] at hd
    exact ⟨⟨_, hq⟩, by show a + ((j 1).val / 128 - a) / w * w ≤ _ ∧ _ < a + ((j 1).val / 128 - a) / w * w + w; omega⟩
  · rintro ⟨i, h1, h2⟩
    have := hmul i.isLt
    omega
theorem oPts_parts (d : Dev nD) (n a w : ℕ) :
    (oPts m d a (a + n * w) : sProp 𝕄) = bigSep Finset.univ fun i : Fin n => oPts m d (a + i.val * w) (a + i.val * w + w) := by
  have hmul : ∀ {i j : ℕ}, i < j → i * w + w ≤ j * w := fun {i j} h => by
    have := Nat.mul_le_mul_right w (Nat.succ_le_of_lt h); rw [Nat.succ_mul] at this; exact this
  rw [← pointsTo_biUnion Finset.univ (ℓ := oLoc d) (fun i : Fin n => oRng (a + i.val * w) (a + i.val * w + w))
    (fun i _ j _ h => by
      rcases Nat.lt_or_gt_of_ne (fun e => h (Fin.ext e)) with h | h
      · exact oRng_disjoint (by have := hmul h; omega)
      · exact (oRng_disjoint (by have := hmul h; omega)).symm)]
  refine congrArg (fun S => (oLoc d ↦[S]{fullShare} m (oLoc d) : sProp 𝕄)) ?_
  ext j
  simp only [Finset.mem_biUnion, Finset.mem_univ, true_and, mem_oRng]
  constructor
  · rintro ⟨h1, h2⟩
    have hw : 0 < w := Nat.pos_of_ne_zero fun e => by subst e; omega
    have hd := Nat.div_add_mod ((j 0).val / 128 - a) w
    have hm := Nat.mod_lt ((j 0).val / 128 - a) hw
    have hq : ((j 0).val / 128 - a) / w < n := Nat.div_lt_of_lt_mul (by rw [Nat.mul_comm]; omega)
    rw [Nat.mul_comm] at hd
    exact ⟨⟨_, hq⟩, by show a + ((j 0).val / 128 - a) / w * w ≤ _ ∧ _ < a + ((j 0).val / 128 - a) / w * w + w; omega⟩
  · rintro ⟨i, h1, h2⟩
    have := hmul i.isLt
    omega

theorem xPts_parts (d : Dev nD) (hX : Distinct (m (iLoc d))) (f : Buf (Elt F) (xLoc d)) (n a w : ℕ) (hn : a + n * w ≤ 256) :
    (xPts m d a (a + n * w) f : sProp 𝕄) = bigSep Finset.univ fun i : Fin n => xPts m d (a + i.val * w) (a + i.val * w + w) f := by
  have hmul : ∀ {i j : ℕ}, i < j → i * w + w ≤ j * w := fun {i j} h => by
    have := Nat.mul_le_mul_right w (Nat.succ_le_of_lt h); rw [Nat.succ_mul] at this; exact this
  rw [← pointsTo_biUnion Finset.univ (ℓ := xLoc d) (fun i : Fin n => xRng (m (iLoc d)) (a + i.val * w) (a + i.val * w + w))
    (fun i _ j _ h => by
      have hi := hmul i.isLt
      have hj := hmul j.isLt
      rcases Nat.lt_or_gt_of_ne (fun e => h (Fin.ext e)) with h | h
      · exact xRng_disjoint hX (by have := hmul h; omega) (by omega)
      · exact (xRng_disjoint hX (by have := hmul h; omega) (by omega)).symm)]
  refine congrArg (fun S => (xLoc d ↦[S]{fullShare} f : sProp 𝕄)) ?_
  ext j
  simp only [Finset.mem_biUnion, Finset.mem_univ, true_and, mem_xRng]
  constructor
  · rintro ⟨r, h1, h2, h3⟩
    have hw : 0 < w := Nat.pos_of_ne_zero fun e => by subst e; omega
    have hd := Nat.div_add_mod (r / 128 - a) w
    have hm := Nat.mod_lt (r / 128 - a) hw
    have hq : (r / 128 - a) / w < n := Nat.div_lt_of_lt_mul (by rw [Nat.mul_comm]; omega)
    rw [Nat.mul_comm] at hd
    exact ⟨⟨_, hq⟩, r, by show 128 * (a + (r / 128 - a) / w * w) ≤ r; omega, by show r < 128 * (a + (r / 128 - a) / w * w + w); omega, h3⟩
  · rintro ⟨i, r, h1, h2, h3⟩
    have := hmul i.isLt
    exact ⟨r, by omega, by omega, h3⟩

theorem opd_eq (d : Dev nD) (c : Fin 2) (i : Fin 16) (f : Buf (Elt F) (xLoc d)) :
    part m d c i f
      = iprop(iPts m d (128 * c.val + i.val * 8) (128 * c.val + i.val * 8 + 8) ∗ oPts m d (128 * c.val + i.val * 8) (128 * c.val + i.val * 8 + 8)
          ∗ xPts m d (128 * c.val + i.val * 8) (128 * c.val + i.val * 8 + 8) f) := by
  have hb : base (coordsV c i) = 128 * c.val + i.val * 8 := by
    show 8 * (16 * c.val + i.val) = _; omega
  unfold part opd; rw [hb]

/-- A half is its tasks' parts. -/
theorem half_tasks (d : Dev nD) (hX : Distinct (m (iLoc d))) (c : Fin 2) (f : Buf (Elt F) (xLoc d)) :
    half m d c f = bigSep Finset.univ fun i : Fin 16 => part m d c i f := by
  rw [show (fun i : Fin 16 => part m d c i f) = fun i => _ from funext fun i => opd_eq m d c i f, bigSep_sep', bigSep_sep',
    ← iPts_parts m d 16 (128 * c.val) 8, ← oPts_parts m d 16 (128 * c.val) 8, ← xPts_parts m d hX f 16 (128 * c.val) 8 (by omega)]

/-- The arrays, the target's named rows, are their halves. -/
theorem halves (d : Dev nD) (hX : Distinct (m (iLoc d))) (f : Buf (Elt F) (xLoc d)) :
    iprop((iLoc d ↦{fullShare} m (iLoc d)) ∗ (oLoc d ↦{fullShare} m (oLoc d)) ∗ xPts m d 0 256 f)
      = bigSep Finset.univ fun c : Fin 2 => half m d c f := by
  have hi := iPts_parts m d 2 0 128
  have ho := oPts_parts m d 2 0 128
  have hx := xPts_parts m d hX f 2 0 128 (by norm_num)
  unfold half
  rw [bigSep_sep', bigSep_sep']
  simp only [Nat.zero_add, Nat.mul_comm _ 128] at hi ho hx
  rw [← hi, ← ho, ← hx]
  unfold iPts oPts
  rw [show iRng 0 (128 * 2) = Finset.univ from iRng_all, show oRng 0 (128 * 2) = Finset.univ from oRng_all]

/-- The target is its named rows and the rest; the rest is kept. -/
theorem target_split (d : Dev nD) (f : Buf (Elt F) (xLoc d)) :
    (xLoc d ↦{fullShare} f : sProp 𝕄) ⊣⊢ iprop(xPts m d 0 256 f ∗ xLoc d ↦[Finset.univ \ xRng (m (iLoc d)) 0 256]{fullShare} f) :=
  pointsTo_split_subset (Finset.subset_univ _)

theorem rest_congr (d : Dev nD) : (xLoc d ↦[Finset.univ \ xRng (m (iLoc d)) 0 256]{fullShare} m (xLoc d) : sProp 𝕄)
    = xLoc d ↦[Finset.univ \ xRng (m (iLoc d)) 0 256]{fullShare} G m d :=
  pointsTo_congr fun j hj => (xCont_of_not _ _ (Finset.mem_sdiff.mp hj).2).symm

end Cert.Proof.ScatterKI

end
-- ==== Proof.LaunchPay.lean ====
/-
  The SparseCore calls: what their handshakes carry, the tasks' obligations and the split of a half over its tasks.
-/
module

public import proofs.«01_k».proof.Proof.GatherDeal
public import proofs.«01_k».proof.Proof.ScatterDeal

@[expose] public section

noncomputable section

namespace Cert.Proof.Launch

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

variable (ms mg : (ℓ : Loc nD τ sig) → Buf (Elt F) ℓ)

/-! ## What the handshakes carry -/

/-- In each call each SparseCore takes its half of the call's arrays and brings it back with the result; each task the like of
    its part. `ms`, `mg`: memory at the two calls. -/
def P : (K (F := F)).Pay (nD := nD) (Val := Elt F) (Name := ℕ) (U := UU) where
  st := fun q d c => match q with
    | 0 => ScatterKI.half ms d (Fin.cast nCore_zero c) (ms (ScatterKI.xLoc d))
    | 1 => GatherKI.half mg d (Fin.cast nCore_one c) (mg (GatherKI.oLoc d))
  dn := fun q d c => match q with
    | 0 => ScatterKI.half ms d (Fin.cast nCore_zero c) (ScatterKI.G ms d)
    | 1 => GatherKI.half mg d (Fin.cast nCore_one c) (GatherKI.G mg d)
  go := fun q d c i => match q with
    | 0 => ScatterKI.part ms d (Fin.cast nCore_zero c) (Fin.cast nSub_zero i) (ms (ScatterKI.xLoc d))
    | 1 => GatherKI.part mg d (Fin.cast nCore_one c) (Fin.cast nSub_one i) (mg (GatherKI.oLoc d))
  td := fun q d c i => match q with
    | 0 => ScatterKI.part ms d (Fin.cast nCore_zero c) (Fin.cast nSub_zero i) (ScatterKI.G ms d)
    | 1 => GatherKI.part mg d (Fin.cast nCore_one c) (Fin.cast nSub_one i) (GatherKI.G mg d)
  x := fun _ _ => iprop(emp)

instance P_storable : (P (F := F) ms mg).IsStorable where
  st q d c := match q with
    | 0 => (inferInstance : BI.Storable (upEmb : UEmb _ 𝕄) (ScatterKI.half ms d (Fin.cast nCore_zero c) (ms (ScatterKI.xLoc d))))
    | 1 => (inferInstance : BI.Storable (upEmb : UEmb _ 𝕄) (GatherKI.half mg d (Fin.cast nCore_one c) (mg (GatherKI.oLoc d))))
  dn q d c := match q with
    | 0 => (inferInstance : BI.Storable (upEmb : UEmb _ 𝕄) (ScatterKI.half ms d (Fin.cast nCore_zero c) (ScatterKI.G ms d)))
    | 1 => (inferInstance : BI.Storable (upEmb : UEmb _ 𝕄) (GatherKI.half mg d (Fin.cast nCore_one c) (GatherKI.G mg d)))
  go q d c i := match q with
    | 0 => (inferInstance : BI.Storable (upEmb : UEmb _ 𝕄) (ScatterKI.part ms d (Fin.cast nCore_zero c) (Fin.cast nSub_zero i) (ms (ScatterKI.xLoc d))))
    | 1 => (inferInstance : BI.Storable (upEmb : UEmb _ 𝕄) (GatherKI.part mg d (Fin.cast nCore_one c) (Fin.cast nSub_one i) (mg (GatherKI.oLoc d))))
  td q d c i := match q with
    | 0 => (inferInstance : BI.Storable (upEmb : UEmb _ 𝕄) (ScatterKI.part ms d (Fin.cast nCore_zero c) (Fin.cast nSub_zero i) (ScatterKI.G ms d)))
    | 1 => (inferInstance : BI.Storable (upEmb : UEmb _ 𝕄) (GatherKI.part mg d (Fin.cast nCore_one c) (Fin.cast nSub_one i) (GatherKI.G mg d)))

/-! ## The tasks' obligations -/

theorem defs₀_scatter (c : Fin τ.nSC) (s : Fin τ.nSub) :
    defs₀ (F := F) (.scVector c s) 1 ()
      = SparseCore.onTile hcore1 hsub1 (fun c s => cc1_k (ScatterKI.coordsV c s)
          ScatterKI.oV (Memref.isWhole_whole _) ScatterKI.iV (Memref.isWhole_whole _) ScatterKI.xV (Memref.isWhole_whole _) ScatterKI.rV (Memref.isWhole_whole _) cc1_scoped1
          ScatterKI.sV (Memref.isWhole_whole _) cc1_scoped3 cc1_scoped4) ⟨⟩ c s := rfl

theorem defs₀_gather (c : Fin τ.nSC) (s : Fin τ.nSub) :
    defs₀ (F := F) (.scVector c s) 3 ()
      = SparseCore.onTile hcore3 hsub3 (fun c s => cc3_k (GatherKI.coordsV c s)
          GatherKI.xV (Memref.isWhole_whole _) GatherKI.iV (Memref.isWhole_whole _) GatherKI.oV (Memref.isWhole_whole _) GatherKI.sV (Memref.isWhole_whole _) cc3_scoped1
          GatherKI.rV (Memref.isWhole_whole _) cc3_scoped3 cc3_scoped4) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem scatterObl (hF : (K (F := F)).Facts) (hpre : ScatterKI.PreOK (F := F) ms) : (K (F := F)).TileObl (D (F := F)) 𝒱 (P ms mg) v₀ 0 := by
  intro d c i O W hO _ _
  simp only [show (P ms mg).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_scatter]; simp only [SparseCore.onTile, hci, and_self, ↓reduceDIte]
  exact (ScatterKI.tile_body ms d (ScatterKI.coordsV ⟨_, hci.1⟩ ⟨_, hci.2⟩) hF hpre O W hO).trans (wp_mono frame _ _ fun _ => obl_post)

set_option maxRecDepth 16384 in
theorem gatherObl (hF : (K (F := F)).Facts) (hpre : GatherKI.PreOK (F := F) mg) : (K (F := F)).TileObl (D (F := F)) 𝒱 (P ms mg) v₀ 1 := by
  intro d c i O W hO _ _
  simp only [show (P ms mg).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_gather]; simp only [SparseCore.onTile, hci, and_self, ↓reduceDIte]
  exact (GatherKI.tile_body mg d (GatherKI.coordsV ⟨_, hci.1⟩ ⟨_, hci.2⟩) hF hpre O W hO).trans (wp_mono frame _ _ fun _ => obl_post)

/-! ## The halves dealt to the tasks, the arrays to the halves -/

theorem bigSep_tasks0 (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores0 (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks1 (Φ : Fin 16 → sProp 𝕄) :
    (bigSep Finset.univ fun i : Fin ((K (F := F)).nSub 1) => Φ (Fin.cast nSub_one i)) = bigSep Finset.univ Φ :=
  bigSep_congr fun _ _ => congrArg Φ (Fin.ext rfl)
theorem bigSep_cores1 (Φ : Fin 2 → sProp 𝕄) :
    (bigSep Finset.univ fun c : Fin ((K (F := F)).nCore 1) => Φ (Fin.cast nCore_one c)) = bigSep Finset.univ Φ :=
  bigSep_congr fun _ _ => congrArg Φ (Fin.ext rfl)

theorem scatterSplit (hpre : ScatterKI.PreOK (F := F) ms) : (K (F := F)).VecSplit' (P ms mg) 0 := by
  intro d c
  have hX := hpre.inj d
  show ScatterKI.half ms d (Fin.cast nCore_zero c) (ms (ScatterKI.xLoc d)) ⊢ |={Set.univ}=> iprop(
      (bigSep Finset.univ fun i : Fin ((K (F := F)).nSub 0) => ScatterKI.part ms d (Fin.cast nCore_zero c) (Fin.cast nSub_zero i) (ms (ScatterKI.xLoc d)))
      ∗ ((bigSep Finset.univ fun i : Fin ((K (F := F)).nSub 0) => ScatterKI.part ms d (Fin.cast nCore_zero c) (Fin.cast nSub_zero i) (ScatterKI.G ms d))
          -∗ ScatterKI.half ms d (Fin.cast nCore_zero c) (ScatterKI.G ms d)))
  rw [bigSep_tasks0 (F := F) (fun i => ScatterKI.part ms d (Fin.cast nCore_zero c) i (ms (ScatterKI.xLoc d))),
    bigSep_tasks0 (F := F) (fun i => ScatterKI.part ms d (Fin.cast nCore_zero c) i (ScatterKI.G ms d)), ScatterKI.half_tasks ms d hX, ScatterKI.half_tasks ms d hX]
  iintro H; imodintro
  isplitl [H]; · iexact H
  iintro H; iexact H

theorem gatherSplit : (K (F := F)).VecSplit' (P ms mg) 1 := by
  intro d c
  show GatherKI.half mg d (Fin.cast nCore_one c) (mg (GatherKI.oLoc d)) ⊢ |={Set.univ}=> iprop(
      (bigSep Finset.univ fun i : Fin ((K (F := F)).nSub 1) => GatherKI.part mg d (Fin.cast nCore_one c) (Fin.cast nSub_one i) (mg (GatherKI.oLoc d)))
      ∗ ((bigSep Finset.univ fun i : Fin ((K (F := F)).nSub 1) => GatherKI.part mg d (Fin.cast nCore_one c) (Fin.cast nSub_one i) (GatherKI.G mg d))
          -∗ GatherKI.half mg d (Fin.cast nCore_one c) (GatherKI.G mg d)))
  rw [bigSep_tasks1 (F := F) (fun i => GatherKI.part mg d (Fin.cast nCore_one c) i (mg (GatherKI.oLoc d))),
    bigSep_tasks1 (F := F) (fun i => GatherKI.part mg d (Fin.cast nCore_one c) i (GatherKI.G mg d)), GatherKI.half_tasks, GatherKI.half_tasks]
  iintro H; imodintro
  isplitl [H]; · iexact H
  iintro H; iexact H

theorem st0_eq (hX : ∀ d, ScatterKI.Distinct (ms (ScatterKI.iLoc d))) (d : Dev nD) : (bigSep Finset.univ fun c : Fin ((K (F := F)).nCore 0) => (P ms mg).st 0 d c)
    = iprop((ScatterKI.iLoc d ↦{fullShare} ms (ScatterKI.iLoc d)) ∗ (ScatterKI.oLoc d ↦{fullShare} ms (ScatterKI.oLoc d)) ∗ ScatterKI.xPts ms d 0 256 (ms (ScatterKI.xLoc d))) :=
  (bigSep_cores0 (F := F) (fun c => ScatterKI.half ms d c (ms (ScatterKI.xLoc d)))).trans (ScatterKI.halves ms d (hX d) (ms (ScatterKI.xLoc d))).symm
theorem dn0_eq (hX : ∀ d, ScatterKI.Distinct (ms (ScatterKI.iLoc d))) (d : Dev nD) : (bigSep Finset.univ fun c : Fin ((K (F := F)).nCore 0) => (P ms mg).dn 0 d c)
    = iprop((ScatterKI.iLoc d ↦{fullShare} ms (ScatterKI.iLoc d)) ∗ (ScatterKI.oLoc d ↦{fullShare} ms (ScatterKI.oLoc d)) ∗ ScatterKI.xPts ms d 0 256 (ScatterKI.G ms d)) :=
  (bigSep_cores0 (F := F) (fun c => ScatterKI.half ms d c (ScatterKI.G ms d))).trans (ScatterKI.halves ms d (hX d) (ScatterKI.G ms d)).symm
theorem st1_eq (d : Dev nD) : (bigSep Finset.univ fun c : Fin ((K (F := F)).nCore 1) => (P ms mg).st 1 d c)
    = iprop(GatherKI.xPts mg d fullShare ∗ (GatherKI.iLoc d ↦{fullShare} mg (GatherKI.iLoc d)) ∗ GatherKI.oLoc d ↦{fullShare} mg (GatherKI.oLoc d)) :=
  (bigSep_cores1 (F := F) (fun c => GatherKI.half mg d c (mg (GatherKI.oLoc d)))).trans (GatherKI.halves mg d (mg (GatherKI.oLoc d))).symm
theorem dn1_eq (d : Dev nD) : (bigSep Finset.univ fun c : Fin ((K (F := F)).nCore 1) => (P ms mg).dn 1 d c)
    = iprop(GatherKI.xPts mg d fullShare ∗ (GatherKI.iLoc d ↦{fullShare} mg (GatherKI.iLoc d)) ∗ GatherKI.oLoc d ↦{fullShare} GatherKI.G mg d) :=
  (bigSep_cores1 (F := F) (fun c => GatherKI.half mg d c (GatherKI.G mg d))).trans (GatherKI.halves mg d (GatherKI.G mg d)).symm

end Cert.Proof.Launch

end
-- ==== Proof.RouterMath.lean ====
/-
  Counting facts of a grouped layout, and running sums by doubling.
-/
module

public import proofs.«01_k».proof.Proof.LayerBase

@[expose] public section

noncomputable section

namespace Cert.Proof.RouterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-! ## A grouped layout: rows sorted by group, each group's rows padded to whole tiles of 256 -/

section Layout

variable (ex : ℕ → ℕ)

/-- How many of the rows up to `t`, it included, are in group `e`. -/
def cnt (e t : ℕ) : ℕ := ∑ s ∈ Finset.range (t + 1), if ex s = e then 1 else 0
/-- The tiles a group takes. -/
def ntile (e : ℕ) : ℕ := (cnt ex e 4095 + 255) / 256
/-- The tiles of the groups before `e`. -/
def first (e : ℕ) : ℕ := ∑ l ∈ Finset.range e, ntile ex l
/-- The tiles in use. -/
def act : ℕ := first ex 8
/-- Where row `t` lies. -/
def place (t : ℕ) : ℕ := first ex (ex t) * 256 + cnt ex (ex t) t - 1
/-- The group a tile belongs to. -/
def owner (g : ℕ) : ℕ := (∑ e ∈ Finset.range 8, if first ex e ≤ g then 1 else 0) - 1

theorem cnt_mono (e : ℕ) {t t' : ℕ} (h : t ≤ t') : cnt ex e t ≤ cnt ex e t' :=
  Finset.sum_le_sum_of_subset (Finset.range_mono (by omega))

theorem cnt_self_pos (t : ℕ) : 1 ≤ cnt ex (ex t) t := by
  unfold cnt
  rw [Finset.sum_range_succ, if_pos rfl]; omega

theorem cnt_lt (e : ℕ) {t t' : ℕ} (h : t < t') (he : ex t' = e) : cnt ex e t < cnt ex e t' := by
  have h1 := cnt_mono ex e (show t ≤ t' - 1 by omega)
  have h2 : cnt ex e t' = cnt ex e (t' - 1) + 1 := by
    unfold cnt
    rw [Finset.sum_range_succ, if_pos he, show t' - 1 + 1 = t' by omega]
  omega

theorem first_succ (e : ℕ) : first ex (e + 1) = first ex e + ntile ex e := Finset.sum_range_succ _ _

theorem first_mono {e e' : ℕ} (h : e ≤ e') : first ex e ≤ first ex e' :=
  Finset.sum_le_sum_of_subset (Finset.range_mono h)

theorem cnt_le_tiles (e t : ℕ) (ht : t < 4096) : cnt ex e t ≤ ntile ex e * 256 := by
  have := cnt_mono ex e (show t ≤ 4095 by omega)
  unfold ntile; omega

variable (hex : ∀ t < 4096, ex t < 8)

include hex

theorem cnt_sum : ∑ e ∈ Finset.range 8, cnt ex e 4095 = 4096 := by
  unfold cnt
  rw [Finset.sum_comm]
  refine (Finset.sum_congr rfl fun s hs => ?_).trans (by rw [Finset.sum_const, Finset.card_range]; rfl : ∑ _s ∈ Finset.range (4095 + 1), 1 = 4096)
  rw [Finset.sum_ite_eq, if_pos (Finset.mem_range.mpr (hex s (Finset.mem_range.mp hs)))]

theorem cnt_big (e t : ℕ) (he : 8 ≤ e) (ht : t < 4096) : cnt ex e t = 0 :=
  Finset.sum_eq_zero fun s hs => if_neg (by have := hex s (by have := Finset.mem_range.mp hs; omega); omega)

theorem ntile_big (e : ℕ) (he : 8 ≤ e) : ntile ex e = 0 := by
  unfold ntile; rw [cnt_big ex hex e 4095 he (by omega)]

theorem first_big (e : ℕ) (he : 8 ≤ e) : first ex e = act ex := by
  induction e, he using Nat.le_induction with
  | base => rfl
  | succ n hn ih => rw [first_succ, ih, ntile_big ex hex n hn, Nat.add_zero]

theorem act_le : act ex ≤ 23 := by
  have h := cnt_sum ex hex
  unfold act first ntile
  simp only [Finset.sum_range_succ, Finset.sum_range_zero] at h ⊢
  omega

theorem act_pos : 1 ≤ act ex := by
  have h := cnt_sum ex hex
  unfold act first ntile
  simp only [Finset.sum_range_succ, Finset.sum_range_zero] at h ⊢
  omega

theorem place_tile (t : ℕ) (ht : t < 4096) : first ex (ex t) ≤ place ex t / 256 ∧ place ex t / 256 < first ex (ex t + 1) := by
  have h1 := cnt_self_pos ex t
  have h2 := cnt_le_tiles ex (ex t) t ht
  rw [first_succ]
  unfold place
  generalize first ex (ex t) = a at *
  generalize cnt ex (ex t) t = b at *
  generalize ntile ex (ex t) = n at *
  constructor <;> omega

theorem place_tile_lt (t : ℕ) (ht : t < 4096) : place ex t / 256 < act ex :=
  lt_of_lt_of_le (place_tile ex hex t ht).2 (first_mono ex (by have := hex t ht; omega))

theorem place_lt (t : ℕ) (ht : t < 4096) : place ex t < 5888 := by
  have := place_tile_lt ex hex t ht
  have := act_le ex hex
  omega

theorem place_inj {t t' : ℕ} (ht : t < 4096) (ht' : t' < 4096) (h : place ex t = place ex t') : t = t' := by
  have h1 := place_tile ex hex t ht
  have h2 := place_tile ex hex t' ht'
  rw [h] at h1
  have he : ex t = ex t' := by
    rcases Nat.lt_trichotomy (ex t) (ex t') with hl | hl | hl
    · have := first_mono ex (show ex t + 1 ≤ ex t' by omega); omega
    · exact hl
    · have := first_mono ex (show ex t' + 1 ≤ ex t by omega); omega
  have hc : cnt ex (ex t') t = cnt ex (ex t') t' := by
    have p1 := cnt_self_pos ex t
    have p2 := cnt_self_pos ex t'
    unfold place at h
    rw [he] at h p1
    omega
  rcases Nat.lt_trichotomy t t' with hl | hl | hl
  · exact absurd hc (cnt_lt ex (ex t') hl rfl).ne
  · exact hl
  · exact absurd hc (cnt_lt ex (ex t') hl he).ne'

theorem owner_lt (g : ℕ) : owner ex g < 8 := by
  have : (∑ e ∈ Finset.range 8, if first ex e ≤ g then 1 else 0) ≤ ∑ _e ∈ Finset.range 8, 1 :=
    Finset.sum_le_sum fun e _ => by split <;> omega
  rw [Finset.sum_const, Finset.card_range] at this
  unfold owner
  have h8 : 8 • 1 = 8 := rfl
  omega

theorem owner_pos (g : ℕ) : 1 ≤ ∑ e ∈ Finset.range 8, if first ex e ≤ g then 1 else 0 := by
  rw [Finset.sum_range_succ', if_pos (by show ∑ l ∈ Finset.range 0, _ ≤ g; simp)]; omega

theorem owner_place (t : ℕ) (ht : t < 4096) : owner ex (place ex t / 256) = ex t := by
  have h := place_tile ex hex t ht
  have he := hex t ht
  generalize place ex t / 256 = g at h
  have hs : (∑ e ∈ Finset.range 8, if first ex e ≤ g then 1 else 0) = ∑ e ∈ Finset.range 8, if e ≤ ex t then 1 else 0 := by
    refine Finset.sum_congr rfl fun e _ => ?_
    by_cases hle : e ≤ ex t
    · rw [if_pos hle, if_pos ((first_mono ex hle).trans h.1)]
    · rw [if_neg hle, if_neg (by have := first_mono ex (show ex t + 1 ≤ e by omega); omega)]
  have hc : (∑ e ∈ Finset.range 8, if e ≤ ex t then 1 else 0) = ex t + 1 := by
    generalize ex t = k at he
    interval_cases k <;> rfl
  unfold owner; omega

end Layout

/-! ## Running sums by doubling -/

section Scan

variable (f : ℕ → ℕ)

/-- The sum of the last `w` terms up to and including `j`. -/
def win (w j : ℕ) : ℕ := ∑ l ∈ Finset.Ico (j + 1 - w) (j + 1), f l

theorem win_one (j : ℕ) : win f 1 j = f j := by
  unfold win; rw [show j + 1 - 1 = j by omega, Finset.sum_Ico_succ_top (le_refl j), Finset.Ico_self, Finset.sum_empty, Nat.zero_add]

theorem win_double (w j : ℕ) : win f w j + (if j < w then 0 else win f w (j - w)) = win f (2 * w) j := by
  unfold win
  by_cases h : j < w
  · rw [if_pos h, show j + 1 - w = 0 by omega, show j + 1 - 2 * w = 0 by omega, Nat.add_zero]
  · rw [if_neg h, show j - w + 1 - w = j + 1 - 2 * w by omega, show j - w + 1 = j + 1 - w by omega, Nat.add_comm]
    exact Finset.sum_Ico_consecutive _ (by omega) (by omega)

theorem win_full (w j : ℕ) (h : j + 1 ≤ w) : win f w j = ∑ l ∈ Finset.range (j + 1), f l := by
  unfold win; rw [show j + 1 - w = 0 by omega, Finset.range_eq_Ico]

end Scan

end Cert.Proof.RouterKI

end
-- ==== Proof.RouterWords.lean ====
/-
  The router's words: running sums of indicators, the rows' places and the grouped product's tables.
-/
module

public import proofs.«01_k».proof.Proof.RouterMath
public import Idealize.ShloMosaic.Lib.Pointwise
public import Idealize.ShloMosaic.Lib.WordSum
public import proofs.«01_k».proof.Proof.Gen.KernelIdeal.Skeleton

@[expose] public section

noncomputable section

namespace Cert.Proof.RouterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-! ## Words that are numbers -/

/-- A two-dimensional array of words holding the numbers `f`. -/
def Is {R C : ℕ} (v : (⟨2, ![R, C]⟩ : Shape).Idx → BitVec 32) (f : ℕ → ℕ → ℕ) : Prop :=
  ∀ (i : Fin R) (j : Fin C), v (ix2 i j) = BitVec.ofNat 32 (f i.val j.val)

section Steps

variable {R C k C' : ℕ}

theorem concat_lane (z : (⟨2, ![R, k]⟩ : Shape).Idx → BitVec 32) (x : (⟨2, ![R, C']⟩ : Shape).Idx → BitVec 32)
    (h : Shape.Concatenates [(⟨2, ![R, k]⟩ : Shape), ⟨2, ![R, C']⟩] ⟨2, ![R, C]⟩ 1) (hC : C = k + C') (i : Fin R) (j : Fin C) :
    concatenate ⟨2, ![R, C]⟩ 1 [⟨⟨2, ![R, k]⟩, z⟩, ⟨⟨2, ![R, C']⟩, x⟩] h (ix2 i j)
      = if hj : j.val < k then z (ix2 i ⟨j.val, hj⟩) else x (ix2 i ⟨j.val - k, by omega⟩) := by
  rw [concatenate_pair_apply]
  by_cases hj : j.val < k
  · rw [dif_pos hj]
    refine (dif_pos hj).trans ?_
    exact congrArg z (eq_ix2 _)
  · rw [dif_neg hj]
    refine (dif_neg hj).trans ?_
    exact congrArg x (eq_ix2 _)

theorem concat_row (z : (⟨2, ![k, R]⟩ : Shape).Idx → BitVec 32) (x : (⟨2, ![C', R]⟩ : Shape).Idx → BitVec 32)
    (h : Shape.Concatenates [(⟨2, ![k, R]⟩ : Shape), ⟨2, ![C', R]⟩] ⟨2, ![C, R]⟩ 0) (hC : C = k + C') (i : Fin R) (j : Fin C) :
    concatenate ⟨2, ![C, R]⟩ 0 [⟨⟨2, ![k, R]⟩, z⟩, ⟨⟨2, ![C', R]⟩, x⟩] h (ix2 j i)
      = if hj : j.val < k then z (ix2 ⟨j.val, hj⟩ i) else x (ix2 ⟨j.val - k, by omega⟩ i) := by
  rw [concatenate_pair_apply]
  by_cases hj : j.val < k
  · rw [dif_pos hj]
    refine (dif_pos hj).trans ?_
    exact congrArg z (eq_ix2 _)
  · rw [dif_neg hj]
    refine (dif_neg hj).trans ?_
    exact congrArg x (eq_ix2 _)

/-- One doubling step along the lanes. -/
theorem step_lane {v : (⟨2, ![R, C]⟩ : Shape).Idx → BitVec 32} {g : ℕ → ℕ → ℕ} (hv : Is v fun i j => win (g i) k j)
    (z : (⟨2, ![R, k]⟩ : Shape).Idx → BitVec 32) (hz : ∀ i, z i = 0#32) (hs : (⟨2, ![R, C]⟩ : Shape).Slices ![0, 0] ⟨2, ![R, C']⟩)
    (h : Shape.Concatenates [(⟨2, ![R, k]⟩ : Shape), ⟨2, ![R, C']⟩] ⟨2, ![R, C]⟩ 1) (hC : C = k + C') :
    Is (addi v (concatenate ⟨2, ![R, C]⟩ 1 [⟨⟨2, ![R, k]⟩, z⟩, ⟨⟨2, ![R, C']⟩, extractStridedSlice ⟨2, ![R, C']⟩ ![0, 0] v hs⟩] h))
      fun i j => win (g i) (2 * k) j := fun i j => by
  refine (congrArg (v (ix2 i j) + ·) (concat_lane _ _ h hC i j)).trans ?_
  show v (ix2 i j) + _ = BitVec.ofNat 32 (win (g i) (2 * k) j)
  rw [hv i j, ← win_double, BitVec.ofNat_add]
  refine congrArg _ ?_
  by_cases hj : j.val < k
  · rw [dif_pos hj, if_pos hj, hz]
  · rw [dif_neg hj, if_neg hj]
    refine Eq.trans (congrArg v ((eq_ix2 _).trans ?_)) (hv i ⟨j.val - k, by omega⟩)
    exact congr (congrArg Idealize.ShloMosaic.ix2 (Fin.ext (Nat.zero_add _))) (Fin.ext (Nat.zero_add _))

/-- One doubling step along the rows. -/
theorem step_row {v : (⟨2, ![C, R]⟩ : Shape).Idx → BitVec 32} {g : ℕ → ℕ → ℕ} (hv : Is v fun j i => win (fun s => g s i) k j)
    (z : (⟨2, ![k, R]⟩ : Shape).Idx → BitVec 32) (hz : ∀ i, z i = 0#32) (hs : (⟨2, ![C, R]⟩ : Shape).Slices ![0, 0] ⟨2, ![C', R]⟩)
    (h : Shape.Concatenates [(⟨2, ![k, R]⟩ : Shape), ⟨2, ![C', R]⟩] ⟨2, ![C, R]⟩ 0) (hC : C = k + C') :
    Is (addi v (concatenate ⟨2, ![C, R]⟩ 0 [⟨⟨2, ![k, R]⟩, z⟩, ⟨⟨2, ![C', R]⟩, extractStridedSlice ⟨2, ![C', R]⟩ ![0, 0] v hs⟩] h))
      fun j i => win (fun s => g s i) (2 * k) j := fun j i => by
  refine (congrArg (v (ix2 j i) + ·) (concat_row _ _ h hC i j)).trans ?_
  show v (ix2 j i) + _ = BitVec.ofNat 32 (win (fun s => g s i) (2 * k) j)
  rw [hv j i, ← win_double, BitVec.ofNat_add]
  refine congrArg _ ?_
  by_cases hj : j.val < k
  · rw [dif_pos hj, if_pos hj, hz]
  · rw [dif_neg hj, if_neg hj]
    refine Eq.trans (congrArg v ((eq_ix2 _).trans ?_)) (hv ⟨j.val - k, by omega⟩ i)
    exact congr (congrArg Idealize.ShloMosaic.ix2 (Fin.ext (Nat.zero_add _))) (Fin.ext (Nat.zero_add _))

end Steps

section Sums

variable {v14 v42 v43 : IVec S4096x128 32} {q : ℕ → ℕ → ℕ}

theorem pay6_is (x : Vec F S4096x1024 .f32) (w : Vec F S1024x128 .f32) (hv : Is (k0_pay5 (F := F) x w) q) :
    Is (k0_pay6 (F := F) x w) fun i j => ∑ l ∈ Finset.range (j + 1), q i l := by
  have h0 : Is (k0_pay5 (F := F) x w) fun i j => win (q i) 1 j := fun i j => (hv i j).trans (congrArg (BitVec.ofNat 32) (win_one _ _).symm)
  have h1 := step_lane h0 (broadcast S4096x1 0#32) (fun _ => rfl) slices_S4096x128_o0_0_S4096x127 concatenates_S4096x1_S4096x127_S4096x128_d1 rfl
  have h2 := step_lane h1 (broadcast S4096x2 0#32) (fun _ => rfl) slices_S4096x128_o0_0_S4096x126 concatenates_S4096x2_S4096x126_S4096x128_d1 rfl
  have h3 := step_lane h2 (broadcast S4096x4 0#32) (fun _ => rfl) slices_S4096x128_o0_0_S4096x124 concatenates_S4096x4_S4096x124_S4096x128_d1 rfl
  have h4 := step_lane h3 (broadcast S4096x8 0#32) (fun _ => rfl) slices_S4096x128_o0_0_S4096x120 concatenates_S4096x8_S4096x120_S4096x128_d1 rfl
  have h5 := step_lane h4 (broadcast S4096x16 0#32) (fun _ => rfl) slices_S4096x128_o0_0_S4096x112 concatenates_S4096x16_S4096x112_S4096x128_d1 rfl
  have h6 := step_lane h5 (broadcast S4096x32 0#32) (fun _ => rfl) slices_S4096x128_o0_0_S4096x96 concatenates_S4096x32_S4096x96_S4096x128_d1 rfl
  have h7 := step_lane h6 (broadcast S4096x64 0#32) (fun _ => rfl) slices_S4096x128_o0_0_S4096x64 concatenates_S4096x64_S4096x64_S4096x128_d1 rfl
  exact fun i j => (h7 i j).trans (congrArg (BitVec.ofNat 32) (win_full _ _ _ (by have := j.isLt; omega)))

/-- The rows' running sums: six doublings in the first piece, six in the second. -/
theorem rank_is (hv : Is (k0_pay8 v14 v42 v43) q) :
    Is (k0_pay13 (k0_pay10 v14 v42 v43) k0_pay11 (k0_pay12 v14 v42 v43)) fun i j => ∑ l ∈ Finset.range (i + 1), q l j := by
  have h0 : Is (k0_pay8 v14 v42 v43) fun i j => win (fun s => q s j) 1 i := fun i j => (hv i j).trans (congrArg (BitVec.ofNat 32) (win_one (fun s => q s j.val) i.val).symm)
  have h1 := step_row h0 (broadcast S1x128 0#32) (fun _ => rfl) slices_S4096x128_o0_0_S4095x128 concatenates_S1x128_S4095x128_S4096x128_d0 rfl
  have h2 := step_row h1 (broadcast S2x128 0#32) (fun _ => rfl) slices_S4096x128_o0_0_S4094x128 concatenates_S2x128_S4094x128_S4096x128_d0 rfl
  have h3 := step_row h2 (broadcast S4x128 0#32) (fun _ => rfl) slices_S4096x128_o0_0_S4092x128 concatenates_S4x128_S4092x128_S4096x128_d0 rfl
  have h4 := step_row h3 (broadcast S8x128 0#32) (fun _ => rfl) slices_S4096x128_o0_0_S4088x128 concatenates_S8x128_S4088x128_S4096x128_d0 rfl
  have h5 := step_row h4 (broadcast S16x128 0#32) (fun _ => rfl) slices_S4096x128_o0_0_S4080x128 concatenates_S16x128_S4080x128_S4096x128_d0 rfl
  have h6 : Is (k0_pay10 v14 v42 v43) fun j i => win (fun s => q s i) 64 j :=
    step_row h5 (broadcast S32x128 0#32) (fun _ => rfl) slices_S4096x128_o0_0_S4064x128 concatenates_S32x128_S4064x128_S4096x128_d0 rfl
  have h7 := step_row h6 (broadcast S64x128 0#32) (fun _ => rfl) slices_S4096x128_o0_0_S4032x128 concatenates_S64x128_S4032x128_S4096x128_d0 rfl
  have h8 := step_row h7 (broadcast S128x128 0#32) (fun _ => rfl) slices_S4096x128_o0_0_S3968x128 concatenates_S128x128_S3968x128_S4096x128_d0 rfl
  have h9 := step_row h8 (broadcast S256x128 0#32) (fun _ => rfl) slices_S4096x128_o0_0_S3840x128 concatenates_S256x128_S3840x128_S4096x128_d0 rfl
  have h10 := step_row h9 (broadcast S512x128 0#32) (fun _ => rfl) slices_S4096x128_o0_0_S3584x128 concatenates_S512x128_S3584x128_S4096x128_d0 rfl
  have h11 := step_row h10 (broadcast S1024x128 0#32) (fun _ => rfl) slices_S4096x128_o0_0_S3072x128 concatenates_S1024x128_S3072x128_S4096x128_d0 rfl
  have h12 := step_row h11 (broadcast S2048x128 0#32) (fun _ => rfl) slices_S4096x128_o0_0_S2048x128 concatenates_S2048x128_S2048x128_S4096x128_d0 rfl
  exact fun i j => (h12 i j).trans (congrArg (BitVec.ofNat 32) (win_full _ _ _ (by have := i.isLt; omega)))

/-- The tile counts' running sums. -/
theorem tileSum_is {a b c} {g : ℕ → ℕ} (hv : Is (k0_pay14 a b c) fun _ j => g j) :
    Is (k0_pay16 (k0_pay15 a b c) 0#32) fun _ j => ∑ l ∈ Finset.range (j + 1), g l := by
  have h0 : Is (k0_pay14 a b c) fun _ j => win g 1 j := fun i j => (hv i j).trans (congrArg (BitVec.ofNat 32) (win_one _ _).symm)
  have h1 := step_lane (g := fun _ => g) h0 (broadcast S1x1 0#32) (fun _ => rfl) slices_S1x128_o0_0_S1x127 concatenates_S1x1_S1x127_S1x128_d1 rfl
  have h2 := step_lane (g := fun _ => g) h1 (broadcast S1x2 0#32) (fun _ => rfl) slices_S1x128_o0_0_S1x126 concatenates_S1x2_S1x126_S1x128_d1 rfl
  have h3 := step_lane (g := fun _ => g) h2 (broadcast S1x4 0#32) (fun _ => rfl) slices_S1x128_o0_0_S1x124 concatenates_S1x4_S1x124_S1x128_d1 rfl
  have h4 := step_lane (g := fun _ => g) h3 (broadcast S1x8 0#32) (fun _ => rfl) slices_S1x128_o0_0_S1x120 concatenates_S1x8_S1x120_S1x128_d1 rfl
  have h5 := step_lane (g := fun _ => g) h4 (broadcast S1x16 0#32) (fun _ => rfl) slices_S1x128_o0_0_S1x112 concatenates_S1x16_S1x112_S1x128_d1 rfl
  have h6 := step_lane (g := fun _ => g) h5 (broadcast S1x32 0#32) (fun _ => rfl) slices_S1x128_o0_0_S1x96 concatenates_S1x32_S1x96_S1x128_d1 rfl
  have h7 := step_lane (g := fun _ => g) h6 (broadcast S1x64 0#32) (fun _ => rfl) slices_S1x128_o0_0_S1x64 concatenates_S1x64_S1x64_S1x128_d1 rfl
  exact fun i j => (h7 i j).trans (congrArg (BitVec.ofNat 32) (win_full _ _ _ (by have := j.isLt; omega)))

end Sums

end Cert.Proof.RouterKI

end
-- ==== Proof.RouterTables.lean ====
/-
  The router's words: the rows' places and the grouped product's tables, as numbers.
-/
module

public import proofs.«01_k».proof.Proof.RouterWords
public import Idealize.ShloMosaic.Lib.ValueLayoutCasts

@[expose] public section

noncomputable section

namespace Cert.Proof.RouterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-! ## Reading the vector operations as numbers -/

section Read

variable {R C : ℕ}

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · intro h; rw [h]

theorem ofNat_sub {a b : ℕ} (h : b ≤ a) : BitVec.ofNat 32 a - BitVec.ofNat 32 b = BitVec.ofNat 32 (a - b) := by
  rw [sub_eq_iff_eq_add, ← BitVec.ofNat_add, Nat.sub_add_cancel h]

theorem ofNat_sum {ι : Type} (S : Finset ι) (f : ι → ℕ) : ∑ i ∈ S, BitVec.ofNat 32 (f i) = BitVec.ofNat 32 (∑ i ∈ S, f i) := by
  classical
  induction S using Finset.induction_on with
  | empty => rfl
  | insert a S ha ih => rw [Finset.sum_insert ha, Finset.sum_insert ha, ih, BitVec.ofNat_add]

theorem Is.add {u v : IVec ⟨2, ![R, C]⟩ 32} {f g : ℕ → ℕ → ℕ} (hu : Is u f) (hv : Is v g) : Is (addi u v) fun i j => f i j + g i j :=
  fun i j => (congrArg₂ (· + ·) (hu i j) (hv i j)).trans (BitVec.ofNat_add _ _).symm

theorem Is.mul {u v : IVec ⟨2, ![R, C]⟩ 32} {f g : ℕ → ℕ → ℕ} (hu : Is u f) (hv : Is v g) : Is (muli u v) fun i j => f i j * g i j :=
  fun i j => (congrArg₂ (· * ·) (hu i j) (hv i j)).trans (BitVec.ofNat_mul _ _).symm

theorem Is.sub {u v : IVec ⟨2, ![R, C]⟩ 32} {f g : ℕ → ℕ → ℕ} (hu : Is u f) (hv : Is v g) (h : ∀ i < R, ∀ j < C, g i j ≤ f i j) :
    Is (subi u v) fun i j => f i j - g i j :=
  fun i j => (congrArg₂ (· - ·) (hu i j) (hv i j)).trans (ofNat_sub (h _ i.isLt _ j.isLt))

theorem Is.congr {u : IVec ⟨2, ![R, C]⟩ 32} {f g : ℕ → ℕ → ℕ} (hu : Is u f) (h : ∀ i < R, ∀ j < C, f i j = g i j) : Is u g :=
  fun i j => (hu i j).trans (congrArg _ (h _ i.isLt _ j.isLt))

theorem is_splat (n : ℕ) : Is (broadcast (⟨2, ![R, C]⟩ : Shape) (BitVec.ofNat 32 n)) fun _ _ => n := fun _ _ => rfl

theorem is_lane (h : (⟨2, ![R, C]⟩ : Shape).Iotas .tc 32 [1]) : Is (iota .tc ⟨2, ![R, C]⟩ 32 [1] h) fun _ j => j := fun i j => by
  show BitVec.ofNat 32 (0 * C + j.val) = _
  rw [Nat.zero_mul, Nat.zero_add]

theorem is_row (h : (⟨2, ![R, C]⟩ : Shape).Iotas .tc 32 [0]) : Is (iota .tc ⟨2, ![R, C]⟩ 32 [0] h) fun i _ => i := fun i j => by
  show BitVec.ofNat 32 (0 * R + i.val) = _
  rw [Nat.zero_mul, Nat.zero_add]

/-- A row of `C` lanes under one another `R` times. -/
theorem Is.rows {u : IVec ⟨2, ![1, C]⟩ 32} {f : ℕ → ℕ → ℕ} (hu : Is u f) (h : (⟨2, ![1, C]⟩ : Shape).Broadcasts ⟨2, ![R, C]⟩) :
    Is (broadcastTo ⟨2, ![R, C]⟩ u h) fun _ j => f 0 j := fun i j =>
  (broadcastTo_apply u h (Idealize.ShloMosaic.ix2 i j) (Idealize.ShloMosaic.ix2 (0 : Fin 1) j) fun ax => by
    match ax with
    | ⟨0, _⟩ => rfl
    | ⟨1, _⟩ =>
      show j.val = if C = 1 then 0 else j.val
      split
      · have := j.isLt; omega
      · rfl).trans (hu 0 j)

/-- A column of `R` rows beside itself `C` times. -/
theorem Is.lanes {u : IVec ⟨2, ![R, 1]⟩ 32} {f : ℕ → ℕ → ℕ} (hu : Is u f) (h : (⟨2, ![R, 1]⟩ : Shape).Broadcasts ⟨2, ![R, C]⟩) :
    Is (broadcastTo ⟨2, ![R, C]⟩ u h) fun i _ => f i 0 := fun i j =>
  (broadcastTo_apply u h (Idealize.ShloMosaic.ix2 i j) (Idealize.ShloMosaic.ix2 i (0 : Fin 1)) fun ax => by
    match ax with
    | ⟨1, _⟩ => rfl
    | ⟨0, _⟩ =>
      show i.val = if R = 1 then 0 else i.val
      split
      · have := i.isLt; omega
      · rfl).trans (hu i 0)

/-- One word everywhere. -/
theorem Is.all {u : IVec ⟨2, ![1, 1]⟩ 32} {f : ℕ → ℕ → ℕ} (hu : Is u f) (h : (⟨2, ![1, 1]⟩ : Shape).Broadcasts ⟨2, ![R, C]⟩) :
    Is (broadcastTo ⟨2, ![R, C]⟩ u h) fun _ _ => f 0 0 := fun i j =>
  (broadcastTo_apply u h (Idealize.ShloMosaic.ix2 i j) (Idealize.ShloMosaic.ix2 (0 : Fin 1) (0 : Fin 1)) fun ax => by
    match ax with
    | ⟨0, _⟩ => rfl
    | ⟨1, _⟩ => rfl).trans (hu 0 0)

theorem Is.cast {u : IVec ⟨2, ![R, C]⟩ 32} {f : ℕ → ℕ → ℕ} (hu : Is u f) (h : (⟨2, ![R, C]⟩ : Shape).ShapeCasts ⟨2, ![R, C]⟩) :
    Is (shapeCast ⟨2, ![R, C]⟩ u h) f := by
  rw [shapeCast_id]; exact hu

/-- The sums along the lanes, kept as a column. -/
theorem Is.laneSum {u : IVec ⟨2, ![R, C]⟩ 32} {f : ℕ → ℕ → ℕ} (hu : Is u f) (h : (⟨2, ![R, C]⟩ : Shape).Reduces [1] ⟨1, ![R]⟩)
    (hc : (⟨1, ![R]⟩ : Shape).ShapeCasts ⟨2, ![R, 1]⟩) (hn : (0#32 : BitVec 32) = IKind.add.neutral) :
    Is (shapeCast ⟨2, ![R, 1]⟩ (multiReductionI .add [1] ⟨1, ![R]⟩ u 0#32 h hn) hc) fun i _ => ∑ l ∈ Finset.range C, f i l := fun i j => by
  rw [shapeCast_apply _ hc _ (Idealize.ShloMosaic.ix1 i) (by
    have hj : j.val = 0 := by omega
    rw [Shape.rowMajor_val_two, Shape.rowMajor_val_one]
    show i.val = i.val * 1 + j.val
    rw [hj, Nat.mul_one, Nat.add_zero]), multiReductionI_eq_reduceFold]
  show reduceFold h (· + ·) (0#32 : BitVec 32) u _ = _
  rw [reduceFold_add_eq_sum, show (0#32 : BitVec 32) = 0 from rfl, zero_add, Shape.Reduces.sum_fiber_r2_a1]
  refine (Finset.sum_congr rfl fun l _ => hu i l).trans ?_
  rw [ofNat_sum, Fin.sum_univ_eq_sum_range (fun l => f i.val l) C]

/-- The sums along the rows, kept as one row. -/
theorem Is.rowSum {u : IVec ⟨2, ![R, C]⟩ 32} {f : ℕ → ℕ → ℕ} (hu : Is u f) (h : (⟨2, ![R, C]⟩ : Shape).Reduces [0] ⟨1, ![C]⟩)
    (hc : (⟨1, ![C]⟩ : Shape).ShapeCasts ⟨2, ![1, C]⟩) (hn : (0#32 : BitVec 32) = IKind.add.neutral) :
    Is (shapeCast ⟨2, ![1, C]⟩ (multiReductionI .add [0] ⟨1, ![C]⟩ u 0#32 h hn) hc) fun _ j => ∑ l ∈ Finset.range R, f l j := fun i j => by
  rw [shapeCast_apply _ hc _ (Idealize.ShloMosaic.ix1 j) (by
    have hi : i.val = 0 := by omega
    rw [Shape.rowMajor_val_two, Shape.rowMajor_val_one]
    show j.val = i.val * C + j.val
    rw [hi, Nat.zero_mul, Nat.zero_add]), multiReductionI_eq_reduceFold]
  show reduceFold h (· + ·) (0#32 : BitVec 32) u _ = _
  rw [reduceFold_add_eq_sum, show (0#32 : BitVec 32) = 0 from rfl, zero_add, Shape.Reduces.sum_fiber_r2_a0]
  refine (Finset.sum_congr rfl fun l _ => hu l j).trans ?_
  rw [ofNat_sum, Fin.sum_univ_eq_sum_range (fun l => f l j.val) R]

/-- Part of an array. -/
theorem Is.slice {u : IVec ⟨2, ![R, C]⟩ 32} {f : ℕ → ℕ → ℕ} (hu : Is u f) {R' C' a b : ℕ} (h : (⟨2, ![R, C]⟩ : Shape).Slices ![a, b] ⟨2, ![R', C']⟩) :
    Is (extractStridedSlice ⟨2, ![R', C']⟩ ![a, b] u h) fun i j => f (a + i) (b + j) := fun _ _ =>
  (congrArg u (eq_ix2 _)).trans (hu _ _)

theorem Is.shift8 {u : IVec ⟨2, ![R, C]⟩ 32} {f : ℕ → ℕ → ℕ} (hu : Is u f) (h : ∀ i < R, ∀ j < C, f i j < 2 ^ 32) :
    Is (shrui u (broadcast (⟨2, ![R, C]⟩ : Shape) 8#32)) fun i j => f i j / 256 := fun i j => by
  have hb := h _ i.isLt _ j.isLt
  refine (congrArg (fun a => IntOp.shrui .vector a 8#32) (hu i j)).trans ?_
  show IntOp.shrui .vector (BitVec.ofNat 32 (f i.val j.val)) 8#32 = BitVec.ofNat 32 (f i.val j.val / 256)
  generalize f i.val j.val = n at hb
  refine BitVec.eq_of_toNat_eq ?_
  have h1 : (IntOp.shrui .vector (BitVec.ofNat 32 n) 8#32).toNat = (BitVec.ofNat 32 n).toNat >>> 8 := rfl
  rw [h1, BitVec.toNat_ofNat, BitVec.toNat_ofNat, Nat.shiftRight_eq_div_pow]
  omega

theorem Is.diag {R : ℕ} (h0 : (⟨2, ![R, R]⟩ : Shape).Iotas .tc 32 [0]) (h1 : (⟨2, ![R, R]⟩ : Shape).Iotas .tc 32 [1]) (hR : R < 2 ^ 32) (hw : 1 < 32) :
    Is (extui 32 (cmpi .eq (iota .tc ⟨2, ![R, R]⟩ 32 [0] h0) (iota .tc ⟨2, ![R, R]⟩ 32 [1] h1)) hw) fun i j => if i = j then 1 else 0 := fun i j => by
  have h := congrArg₂ (IntOp.cmpi .eq) (is_row h0 i j) (is_lane h1 i j)
  refine (congrArg (fun c : BitVec 1 => c.setWidth 32) h).trans ?_
  show (BitVec.ofBool (BitVec.ofNat 32 i.val == BitVec.ofNat 32 j.val)).setWidth 32 = BitVec.ofNat 32 (if i.val = j.val then 1 else 0)
  have hi := i.isLt
  have hj := j.isLt
  by_cases hij : i.val = j.val
  · rw [if_pos hij, hij, beq_self_eq_true]; rfl
  · rw [if_neg hij, beq_eq_false_iff_ne.mpr fun hn => hij ((ofNat_inj (by omega) (by omega)).mp hn)]; rfl

theorem pick_sum (f : ℕ → ℕ) {e : ℕ} (he : e < 128) : ∑ l ∈ Finset.range 128, (if e = l then 1 else 0) * f l = f e := by
  rw [Finset.sum_eq_single e]
  · rw [if_pos rfl, one_mul]
  · intro b _ hb; rw [if_neg (Ne.symm hb), zero_mul]
  · intro hn; exact absurd (Finset.mem_range.mpr he) hn

theorem bit_ofNat {w : BitVec 1} {p : Prop} [Decidable p] (h : w = if p then 1#1 else 0#1) : w.setWidth 32 = BitVec.ofNat 32 (if p then 1 else 0) := by
  subst h; split <;> rfl

end Read

/-! ## The indicator, the tile counts and the places -/

section Places

theorem word_eq_bit (a b : BitVec 32) : (IntOp.cmpi .eq a b = 1#1) ↔ a = b := by
  show BitVec.ofBool (a == b) = 1#1 ↔ a = b
  by_cases h : a = b
  · subst h; simp
  · rw [beq_eq_false_iff_ne.mpr h]; exact ⟨fun h' => absurd h' (by decide), fun h' => absurd h' h⟩

theorem slt_bit {a b : ℕ} (ha : a < 2 ^ 31) (hb : b < 2 ^ 31) : IntOp.cmpi .slt (BitVec.ofNat 32 a) (BitVec.ofNat 32 b) = if a < b then 1#1 else 0#1 := by
  show BitVec.ofBool ((BitVec.ofNat 32 a).slt (BitVec.ofNat 32 b)) = _
  have h : (BitVec.ofNat 32 a).slt (BitVec.ofNat 32 b) = decide (a < b) := by
    rw [BitVec.slt_eq_decide, BitVec.toInt_ofNat', BitVec.toInt_ofNat']
    refine decide_eq_decide.mpr ?_
    norm_num
    rw [Int.bmod_eq_of_le (by omega) (by omega), Int.bmod_eq_of_le (by omega) (by omega)]
    omega
  rw [h]
  by_cases hl : a < b <;> simp [hl]

theorem sle_bit {a b : ℕ} (ha : a < 2 ^ 31) (hb : b < 2 ^ 31) : IntOp.cmpi .sle (BitVec.ofNat 32 a) (BitVec.ofNat 32 b) = if a ≤ b then 1#1 else 0#1 := by
  show BitVec.ofBool ((BitVec.ofNat 32 a).sle (BitVec.ofNat 32 b)) = _
  have h : (BitVec.ofNat 32 a).sle (BitVec.ofNat 32 b) = decide (a ≤ b) := by
    rw [BitVec.sle_eq_decide, BitVec.toInt_ofNat', BitVec.toInt_ofNat']
    refine decide_eq_decide.mpr ?_
    norm_num
    rw [Int.bmod_eq_of_le (by omega) (by omega), Int.bmod_eq_of_le (by omega) (by omega)]
    omega
  rw [h]
  by_cases hl : a ≤ b <;> simp [hl]

theorem minsi_ofNat {a b : ℕ} (ha : a < 2 ^ 31) (hb : b < 2 ^ 31) : IntOp.minsi (BitVec.ofNat 32 a) (BitVec.ofNat 32 b) = BitVec.ofNat 32 (min a b) := by
  have h : (BitVec.ofNat 32 a).slt (BitVec.ofNat 32 b) = decide (a < b) := by
    rw [BitVec.slt_eq_decide, BitVec.toInt_ofNat', BitVec.toInt_ofNat']
    refine decide_eq_decide.mpr ?_
    norm_num
    rw [Int.bmod_eq_of_le (by omega) (by omega), Int.bmod_eq_of_le (by omega) (by omega)]
    omega
  unfold IntOp.minsi
  rw [h]
  by_cases hl : a < b
  · simp only [hl, decide_true]; rw [min_eq_left hl.le]; rfl
  · simp only [hl, decide_false]; rw [min_eq_right (by omega)]; rfl

variable (ex : ℕ → ℕ)

/-- The indicator of the first lane at which `p` holds. -/
theorem hot_is {v14 v42 : IVec S4096x128 32} {p : ℕ → ℕ → Prop} [∀ t e, Decidable (p t e)]
    (h14 : Is v14 fun t e => if p t e then 1 else 0) (h42 : Is v42 fun t e => ∑ l ∈ Finset.range (e + 1), if p t l then 1 else 0)
    (hp : ∀ t < 4096, p t (ex t)) (hmin : ∀ t < 4096, ∀ l < ex t, ¬ p t l) :
    Is (k0_pay8 v14 v42 k0_pay7) fun t e => if ex t = e then 1 else 0 := fun i j => by
  have hi := i.isLt
  have hj := j.isLt
  have hval : k0_pay8 v14 v42 k0_pay7 (Idealize.ShloMosaic.ix2 i j)
      = if IntOp.andi (IntOp.cmpi .eq (v14 (Idealize.ShloMosaic.ix2 i j)) 1#32) (IntOp.cmpi .eq (v42 (Idealize.ShloMosaic.ix2 i j)) 1#32) = 1#1 then 1#32 else 0#32 := rfl
  rw [hval]
  have hand : ∀ a b : BitVec 1, IntOp.andi a b = 1#1 ↔ a = 1#1 ∧ b = 1#1 := by decide
  rw [if_congr (by rw [hand, word_eq_bit, word_eq_bit, h14 i j, h42 i j]) rfl rfl]
  have hone : (1#32 : BitVec 32) = BitVec.ofNat 32 1 := rfl
  have hle : ∑ l ∈ Finset.range (j.val + 1), (if p i.val l then 1 else 0) ≤ j.val + 1 := by
    refine (Finset.sum_le_sum fun l _ => (by split <;> omega : (if p i.val l then 1 else 0) ≤ 1)).trans ?_
    rw [Finset.sum_const, Finset.card_range]; simp
  rw [if_congr (by rw [hone, ofNat_inj (by dsimp only; split <;> norm_num) (by norm_num), ofNat_inj (by dsimp only; omega) (by norm_num)]) rfl rfl]
  have hiff : ((if p i.val j.val then 1 else 0) = 1 ∧ ∑ l ∈ Finset.range (j.val + 1), (if p i.val l then 1 else 0) = 1) ↔ ex i.val = j.val := by
    constructor
    · rintro ⟨h1, h2⟩
      have hpj : p i.val j.val := by by_contra hn; rw [if_neg hn] at h1; exact absurd h1 (by decide)
      rcases Nat.lt_trichotomy (ex i.val) j.val with hl | hl | hl
      · rw [Finset.sum_range_succ, if_pos hpj] at h2
        have h3 : ∑ l ∈ Finset.range j.val, (if p i.val l then 1 else 0) = 0 := by omega
        have h4 := Finset.sum_eq_zero_iff.mp h3 (ex i.val) (Finset.mem_range.mpr hl)
        rw [if_pos (hp i.val hi)] at h4
        exact absurd h4 (by decide)
      · exact hl
      · exact absurd hpj (hmin i.val hi j.val hl)
    · intro he
      have hpj : p i.val j.val := he ▸ hp i.val hi
      refine ⟨if_pos hpj, ?_⟩
      rw [Finset.sum_range_succ, if_pos hpj, Finset.sum_eq_zero fun l hl => if_neg (hmin i.val hi l (by rw [he]; exact Finset.mem_range.mp hl))]
  by_cases he : ex i.val = j.val
  · rw [if_pos (hiff.mpr he)]; simp only [if_pos he]
  · rw [if_neg fun h => he (hiff.mp h)]; simp only [if_neg he]

theorem cnt_le (e t : ℕ) (ht : t < 4096) : cnt ex e t ≤ 4096 := by
  refine (Finset.sum_le_sum fun l _ => (by split <;> omega : (if ex l = e then 1 else 0) ≤ 1)).trans ?_
  rw [Finset.sum_const, Finset.card_range, smul_eq_mul]; omega

variable (hex : ∀ t < 4096, ex t < 8)
include hex

theorem first_le (e : ℕ) : first ex e ≤ 23 := by
  have h := act_le ex hex
  rcases Nat.lt_or_ge e 8 with he | he
  · exact (first_mono ex he.le).trans h
  · rw [first_big ex hex e he]; exact h

/-- The tile counts and their running sums, as words. -/
abbrev T14 (v14 v42 v43 : IVec S4096x128 32) : IVec S1x128 32 := k0_pay14 (k0_pay10 v14 v42 v43) k0_pay11 (k0_pay12 v14 v42 v43)
abbrev T15 (v14 v42 v43 : IVec S4096x128 32) : IVec S1x128 32 := k0_pay15 (k0_pay10 v14 v42 v43) k0_pay11 (k0_pay12 v14 v42 v43)

variable {v14 v42 v43 : IVec S4096x128 32} (hh : Is (k0_pay8 v14 v42 v43) fun t e => if ex t = e then 1 else 0)
include hh

theorem rank_cnt : Is (k0_pay13 (k0_pay10 v14 v42 v43) k0_pay11 (k0_pay12 v14 v42 v43)) fun t e => cnt ex e t := rank_is hh

theorem tiles_is : Is (k0_pay14 (k0_pay10 v14 v42 v43) k0_pay11 (k0_pay12 v14 v42 v43)) fun _ e => ntile ex e := by
  have h := (((rank_cnt ex hex hh).slice slices_S4096x128_o4095_0_S1x128).add (is_splat 255)).shift8 fun i hi j _ => by
    have := cnt_le ex (0 + j) (4095 + i) (by omega)
    omega
  refine Is.congr (R := 1) (C := 128) h fun i hi j _ => ?_
  obtain rfl : i = 0 := by omega
  show (cnt ex (0 + j) (4095 + 0) + 255) / 256 = ntile ex j
  rw [Nat.zero_add]; rfl

theorem incl_is : Is (k0_pay16 (T15 v14 v42 v43) 0#32) fun _ e => first ex (e + 1) := tileSum_is (tiles_is ex hex hh)

theorem excl_is : Is (k0_pay17 (T14 v14 v42 v43) (T15 v14 v42 v43) 0#32) fun _ e => first ex e := fun i j => by
  show k0_pay16 (T15 v14 v42 v43) 0#32 (Idealize.ShloMosaic.ix2 i j) - T14 v14 v42 v43 (Idealize.ShloMosaic.ix2 i j) = _
  refine (congrArg₂ (· - ·) (incl_is ex hex hh i j) (tiles_is ex hex hh i j)).trans ?_
  show BitVec.ofNat 32 (first ex (j.val + 1)) - BitVec.ofNat 32 (ntile ex j.val) = BitVec.ofNat 32 (first ex j.val)
  rw [first_succ, ofNat_sub (Nat.le_add_left _ _), Nat.add_sub_cancel]

theorem act_is : Is (k0_pay18 (T15 v14 v42 v43) 0#32) fun _ _ => act ex := by
  have h := (incl_is ex hex hh).slice slices_S1x128_o0_127_S1x1
  refine Is.congr (R := 1) (C := 1) h fun i _ j _ => ?_
  exact first_big ex hex _ (by omega)

/-! ## The places and the tables -/

theorem pos_is : Is (k0_pay19 (k0_pay8 v14 v42 v43) (k0_pay13 (k0_pay10 v14 v42 v43) k0_pay11 (k0_pay12 v14 v42 v43)) (T14 v14 v42 v43) (T15 v14 v42 v43) 0#32)
    fun t s => place ex t * 8 + s := by
  have h1 := (hh.mul ((((excl_is ex hex hh).mul (is_splat 256)).cast shapeCasts_S1x128_S1x128).rows broadcasts_S1x128_S4096x128)).laneSum
    reduces_S4096x128_S4096 shapeCasts_S4096_S4096x1 rfl
  have h2 := (hh.mul (rank_cnt ex hex hh)).laneSum reduces_S4096x128_S4096 shapeCasts_S4096_S4096x1 rfl
  have h3 := (h1.add h2).congr (g := fun t _ => first ex (ex t) * 256 + cnt ex (ex t) t) fun t ht _ _ => by
    have he := hex t ht
    exact congrArg₂ (· + ·) (pick_sum (fun l => first ex l * 256) (by omega)) (pick_sum (fun l => cnt ex l t) (by omega))
  have h4 := (((h3.sub (is_splat 1) fun t _ _ _ => by have := cnt_self_pos ex t; omega).mul (is_splat 8)).lanes
    broadcasts_S4096x1_S4096x128).add (is_lane iota_S4096x128_d1_w32)
  have h5 := h4.slice slices_S4096x128_o0_0_S4096x8
  refine Is.congr (R := 4096) (C := 8) h5 fun t _ s _ => ?_
  show (first ex (ex (0 + t)) * 256 + cnt ex (ex (0 + t)) (0 + t) - 1) * 8 + (0 + s) = place ex t * 8 + s
  rw [Nat.zero_add, Nat.zero_add]; rfl

theorem act_le_one : 1 ≤ act ex := act_pos ex hex

theorem ve_is : Is (k0_pay20 (T15 v14 v42 v43) 0#32) fun _ g => min g (act ex - 1) := fun i j => by
  have ha := act_le ex hex
  have h := (((act_is ex hex hh).sub (is_splat 1) (fun _ _ _ _ => act_pos ex hex)).all broadcasts_S1x1_S1x128) i j
  have hl := is_lane iota_S1x128_d1_w32 i j
  refine (congrArg₂ IntOp.minsi hl h).trans (minsi_ofNat (by have := j.isLt; dsimp only; omega) (by dsimp only; omega))

theorem ac_is : Is (k0_pay21 (T15 v14 v42 v43) 0#32) fun _ g => if g < act ex then 1 else 0 := fun i j => by
  have ha := act_le ex hex
  have h := ((act_is ex hex hh).all broadcasts_S1x1_S1x128) i j
  have hl := is_lane iota_S1x128_d1_w32 i j
  exact bit_ofNat ((congrArg₂ (IntOp.cmpi .slt) hl h).trans (slt_bit (by have := j.isLt; dsimp only; omega) (by dsimp only; omega)))

theorem owner_sum_is : Is (shapeCast S128x1 (multiReductionI .add [1] S128 (select (andi (k0_pay22 (T14 v14 v42 v43) (T15 v14 v42 v43) 0#32)
      (cmpi .slt (iota .tc S128x128 32 [1] iota_S128x128_d1_w32) k0_pay23)) (broadcast S128x128 1#32) (broadcast S128x128 0#32)) 0#32 reduces_S128x128_S128 rfl) shapeCasts_S128_S128x1)
    fun g _ => ∑ e ∈ Finset.range 8, if first ex e ≤ min g (act ex - 1) then 1 else 0 := by
  have ha := act_le ex hex
  have hsel : Is (select (andi (k0_pay22 (T14 v14 v42 v43) (T15 v14 v42 v43) 0#32)
      (cmpi .slt (iota .tc S128x128 32 [1] iota_S128x128_d1_w32) k0_pay23)) (broadcast S128x128 1#32) (broadcast S128x128 0#32))
      fun g e => if e < 8 then (if first ex e ≤ min g (act ex - 1) then 1 else 0) else 0 := fun i j => by
    have hi := i.isLt
    have hj := j.isLt
    have h1 := ((excl_is ex hex hh).cast shapeCasts_S1x128_S1x128 |>.rows broadcasts_S1x128_S128x128) i j
    have h2 := (((act_is ex hex hh).sub (is_splat 1) (fun _ _ _ _ => act_pos ex hex)).all broadcasts_S1x1_S128x128) i j
    have h3 := (congrArg₂ IntOp.minsi (is_row iota_S128x128_d0_w32 i j) h2).trans (minsi_ofNat (by dsimp only; omega) (by dsimp only; omega))
    have h4 := (congrArg₂ (IntOp.cmpi .sle) h1 h3).trans (sle_bit (by have := first_le ex hex j.val; dsimp only; omega) (by dsimp only; omega))
    have h5 := (congrArg₂ (IntOp.cmpi .slt) (is_lane iota_S128x128_d1_w32 i j) (is_splat (R := 128) (C := 128) 8 i j)).trans (slt_bit (by dsimp only; omega) (by dsimp only; omega))
    have h6 := congrArg₂ IntOp.andi h4 h5
    refine (congrArg (fun c => Scalar.select c (1#32 : BitVec 32) 0#32) h6).trans ?_
    by_cases c1 : first ex j.val ≤ min i.val (act ex - 1) <;> by_cases c2 : j.val < 8 <;> simp only [c1, c2, if_true, if_false] <;> rfl
  refine (hsel.laneSum reduces_S128x128_S128 shapeCasts_S128_S128x1 rfl).congr fun g hg j hj => ?_
  rw [← Finset.sum_subset (Finset.range_subset_range.mpr (by norm_num : 8 ≤ 128))]
  · exact Finset.sum_congr rfl fun e he => if_pos (Finset.mem_range.mp he)
  · intro e _ he
    exact if_neg fun h => he (Finset.mem_range.mpr h)

/-- The tables' words: which tile, whose, and whether it is taken. -/
abbrev mdWords (v14 v42 v43 : IVec S4096x128 32) : IVec S8x128 32 :=
  k0_pay1 (k0_pay20 (T15 v14 v42 v43) 0#32) (k0_pay21 (T15 v14 v42 v43) 0#32) (iota .tc S128x128 32 [0] iota_S128x128_d0_w32)
    (iota .tc S128x128 32 [1] iota_S128x128_d1_w32) (k0_pay22 (T14 v14 v42 v43) (T15 v14 v42 v43) 0#32) k0_pay23

theorem md_tile (j : Fin 128) : mdWords v14 v42 v43 (Idealize.ShloMosaic.ix2 (0 : Fin 8) j) = BitVec.ofNat 32 (min j.val (act ex - 1)) :=
  Eq.trans (by unfold mdWords k0_pay1; pointwise) (ve_is ex hex hh 0 j)

theorem md_active (j : Fin 128) : mdWords v14 v42 v43 (Idealize.ShloMosaic.ix2 (2 : Fin 8) j) = BitVec.ofNat 32 (if j.val < act ex then 1 else 0) :=
  Eq.trans (by unfold mdWords k0_pay1; pointwise) (ac_is ex hex hh 0 j)

theorem expert_is : Is (shapeCast S1x128 (multiReductionI .add [0] S128 (muli (broadcastTo S128x128 (shapeCast S128x1 (subi
      (shapeCast S128x1 (multiReductionI .add [1] S128 (select (andi (k0_pay22 (T14 v14 v42 v43) (T15 v14 v42 v43) 0#32)
        (cmpi .slt (iota .tc S128x128 32 [1] iota_S128x128_d1_w32) k0_pay23)) (broadcast S128x128 1#32) (broadcast S128x128 0#32)) 0#32 reduces_S128x128_S128 rfl) shapeCasts_S128_S128x1)
      (broadcast S128x1 1#32)) shapeCasts_S128x1_S128x1) broadcasts_S128x1_S128x128)
      (extui 32 (cmpi .eq (iota .tc S128x128 32 [0] iota_S128x128_d0_w32) (iota .tc S128x128 32 [1] iota_S128x128_d1_w32)) natLt_1_32)) 0#32 reduces_S128x128_S128_2 rfl)
      shapeCasts_S128_S1x128) fun _ g => owner ex (min g (act ex - 1)) := by
  have h1 := (owner_sum_is ex hex hh).sub (is_splat 1) fun g _ _ _ => owner_pos ex hex _
  have h2 := (((h1.cast shapeCasts_S128x1_S128x1).lanes broadcasts_S128x1_S128x128).mul
    (Is.diag iota_S128x128_d0_w32 iota_S128x128_d1_w32 (by norm_num) natLt_1_32)).rowSum reduces_S128x128_S128_2 shapeCasts_S128_S1x128 rfl
  refine Is.congr (R := 1) (C := 128) h2 fun i _ j hj => ?_
  rw [Finset.sum_eq_single j]
  · rw [if_pos rfl, mul_one]; rfl
  · intro b _ hb; rw [if_neg hb, mul_zero]
  · intro hn; exact absurd (Finset.mem_range.mpr hj) hn

theorem md_expert (j : Fin 128) : mdWords v14 v42 v43 (Idealize.ShloMosaic.ix2 (1 : Fin 8) j) = BitVec.ofNat 32 (owner ex (min j.val (act ex - 1))) :=
  Eq.trans (by unfold mdWords k0_pay1; pointwise) (expert_is ex hex hh 0 j)

end Places

end Cert.Proof.RouterKI

end
-- ==== Proof.RegionBase.lean ====
/-
  What the TensorCore's regions share: what it owes across them, and its buffers as a valuation.
-/
module

public import proofs.«01_k».proof.Proof.LayerBase
public import Idealize.ShloMosaic.Lib.VecWindow

@[expose] public section

noncomputable section

namespace Cert.Proof.Region

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe

/-! ## What the TensorCore owes while a region runs

Between SparseCore calls `n - 1` and `n` the TensorCore owes the start signals of the calls from `n` on, and its waits
so far lie at or below the levels of the calls before. A region's own waits are at the bottom level, so it keeps both. -/

/-- The (cell, index) pairs a wait of the TensorCore may have recorded before call `n`. -/
def recTc (c : Dev nD) (n : ℕ) : Set (SemLoc sig × HIx 2) := {p | (K (F := F)).lev (nD := nD) (T c, p.1) p.2 ≤ 8 * n}

/-- The TensorCore's `owes` before call `n`, its recorded pairs bounded. -/
def owesTc (c : Dev nD) (n : ℕ) : sProp (MT nD τ sig (HIx 2) (Elt F) ℕ UU ℕ) :=
  iprop(∃ W, ⌜(K (F := F)).WBelow (T c) W (8 * n)⌝ ∗ owes (T c) ((K (F := F)).Otc c n) W)

theorem Otc_none (c : Dev nD) (n : ℕ) (g : GSem nD τ sig) : (K (F := F)).Otc (N := 2) c n g none = 0 := by
  unfold SparseCore.Cfg.Otc
  have hadd : ∀ x y : CellTallies nD τ sig (HIx 2), x g none = 0 → y g none = 0 → (x + y) g none = 0 := fun x y hx hy => by
    show x g none + y g none = 0
    rw [hx, hy]
  refine Finset.sum_induction _ (fun x : CellTallies nD τ sig (HIx 2) => x g none = 0) hadd rfl fun q _ => ?_
  split
  · refine Finset.sum_induction _ (fun x : CellTallies nD τ sig (HIx 2) => x g none = 0) hadd rfl fun k _ => ?_
    rw [tallyAt_apply]
    exact if_neg fun h => Option.some_ne_none _ h.2.symm
  · rfl

variable {cfg : Pipeline.Cfg sig Λ₀} {c : Dev nD} (dat : Pipeline.Dat τ (Elt F) (HIx 2) ℕ UU ℕ cfg c)

theorem owesAt_of {n : ℕ} (t : Fin (cfg.N + 1)) (ho : dat.owed t = (K (F := F)).Otc c n) (hr : dat.recorded t = recTc (F := F) c n) :
    owesTc (F := F) c n ⊢ dat.owesAt none t := by
  unfold owesTc Pipeline.Dat.owesAt Pipeline.owesWithin
  rw [ho]
  iintro ⟨%W, %hW, H⟩
  iexists W
  isplitr
  · ipureintro
    intro p hp
    refine Or.inl ?_
    rw [hr]
    exact hW p hp
  · iexact H

theorem of_owesAt {n : ℕ} (t : Fin (cfg.N + 1)) (ho : dat.owed t = (K (F := F)).Otc c n) (hr : dat.recorded t = recTc (F := F) c n) :
    dat.owesAt none t ⊢ owesTc (F := F) c n := by
  unfold owesTc Pipeline.Dat.owesAt Pipeline.owesWithin
  rw [ho]
  iintro ⟨%W, %hW, H⟩
  iexists W
  isplitr
  · ipureintro
    intro p hp
    rcases hW hp with h | h
    · rw [hr] at h; exact h
    · obtain ⟨w, s, rfl⟩ := h
      exact Nat.zero_le _
  · iexact H

/-! ## A region the certificate does not run at this entry -/

/-- Proof data nothing reads. -/
def junkDat [∀ e, Nonempty (Elt F e)] {cfg : Pipeline.Cfg sig Λ₀} (c : Dev nD) : Pipeline.Dat τ (Elt F) (HIx 2) ℕ UU ℕ cfg c where
  A _ := fun _ => Classical.arbitrary _
  after _ _ := fun _ => Classical.arbitrary _
  Φ _ := iprop(emp)
  q _ := fullShare
  owed _ := 0

/-! ## The thread state: every unscoped buffer of the TensorCore at a valuation -/

/-- A TensorCore buffer's contents by reference. -/
abbrev VTc (F : FTy → Type) (c : Dev nD) : Type := (b : Ref sig .tc) → Buf (Elt F) ((c.tc : Thread nD τ).loc b)

/-- The references of the TensorCore's unscoped buffers. -/
def ucRefs : Finset (DevRef τ sig) := (StableHlo.tcRefs τ sig).filter fun b => ¬ b.isScoped

theorem unscopedBufs_held (c : Dev nD) (W : Valuation τ sig (Elt F)) :
    (unscopedBufs c (fun b => W b) : sProp (MT nD τ sig (HIx 2) (Elt F) ℕ UU ℕ)) = StableHlo.held (T c) ucRefs W := by
  unfold unscopedBufs StableHlo.held ucRefs StableHlo.tcRefs
  rw [Finset.filter_map, bigSep_map]
  rfl

/-! ## A memref owned at a value, loaded and stored whole -/

section Steps

variable {sh : Shape} {e : EltTy} {α : Type} {cs : CoreSpace}

theorem wp_load_owns (c : Dev nD) (M : Memref sig .tc cs sh e) {off : Fin sh.rank → ℕ} (inb : ∀ a, off a + sh.size a ≤ sh.size a)
    (q : PosShare TreeShare) (X : sh.Idx → Elt F e) {hl} (k : (sh.Idx → Elt F e) → Prog (TpuEff nD τ sig (Elt F) Λ₀ .tc) α) (E : Set ℕ)
    (Q : α → sProp (MT nD τ sig (HIx 2) (Elt F) ℕ UU ℕ)) :
    owns (c.tc : Thread nD τ) M q X
      ⊢ iprop((owns (c.tc : Thread nD τ) M q X -∗ wp frame (wpE (defs₀ (F := F)) Variants.none (c.tc : Thread nD τ) none) E (k X) Q)
        -∗ wp frame (wpE (defs₀ (F := F)) Variants.none (c.tc : Thread nD τ) none) E (.op (.load M (Rect.unit off sh.size inb).toLoadRect hl) k) Q) := by
  unfold owns
  iintro ⟨%f, %hf, H⟩ Hk
  iapply (wp_load Variants.none (c.tc : Thread nD τ) none E (m := M) (r := (Rect.unit off sh.size inb).toLoadRect) (k := k)
    (S := M.view.set) (View.setOn_subset_set _ _)) $$ H
  iintro H
  rw [View.readAt_full, hf]
  iapply Hk
  iexists f
  isplitr
  · ipureintro; exact hf
  · iexact H

theorem wp_store_owns (c : Dev nD) (M : Memref sig .tc cs sh e) {off : Fin sh.rank → ℕ} (inb : ∀ a, off a + sh.size a ≤ sh.size a)
    (X w : sh.Idx → Elt F e) {hx hm} (k : PUnit → Prog (TpuEff nD τ sig (Elt F) Λ₀ .tc) α) (E : Set ℕ)
    (Q : α → sProp (MT nD τ sig (HIx 2) (Elt F) ℕ UU ℕ)) :
    owns (c.tc : Thread nD τ) M fullShare X
      ⊢ iprop((owns (c.tc : Thread nD τ) M fullShare w -∗ wp frame (wpE (defs₀ (F := F)) Variants.none (c.tc : Thread nD τ) none) E (k ⟨⟩) Q)
        -∗ wp frame (wpE (defs₀ (F := F)) Variants.none (c.tc : Thread nD τ) none) E (.op (.store M (Rect.unit off sh.size inb) w Finset.univ hx hm) k) Q) := by
  unfold owns
  iintro ⟨%f, %hf, H⟩ Hk
  iapply (wp_store Variants.none (c.tc : Thread nD τ) none E (m := M) (r := Rect.unit off sh.size inb) (w := w) (Mk := Finset.univ) (k := k)
    (S := M.view.set) (by exact Memref.setOn_access_subset _ _ _)) $$ H
  iintro H
  iapply Hk
  iexists _
  isplitr
  swap
  · iexact H
  · ipureintro
    refine (View.readAt_full M.view _ inb).symm.trans ?_
    exact View.read_write_univ (v := M.view.slice (Rect.unit off sh.size inb)) _ _

end Steps

end Cert.Proof.Region

end
-- ==== Proof.RouterRegion.lean ====
/-
  The router's region: its body, its proof data and its passage over the thread state.
-/
module

public import proofs.«01_k».proof.Proof.RegionBase
public import Idealize.ShloMosaic.Lib.Pipeline.RegionsLoop
public import proofs.«01_k».proof.Proof.Gen.KernelIdeal.Points

@[expose] public section

noncomputable section

namespace Cert.Proof.RouterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe
open Idealize.ShloMosaic.Pipeline (Dat Cfg Window BodyObligation cellOf)
open Cert.Proof.Region

/-! ## What the router computes -/

section Values

variable (x : S4096x1024.Idx → Elt F .f32) (w : S1024x128.Idx → Elt F .f32)

/-- The indicator of each token's expert, as words. -/
abbrev hot : IVec S4096x128 32 := k0_pay8 (k0_pay5 (F := F) x w) (k0_pay6 (F := F) x w) k0_pay7
/-- The indicators' sums over the rows, six steps in. -/
abbrev sum5 : IVec S4096x128 32 := k0_pay10 (k0_pay5 (F := F) x w) (k0_pay6 (F := F) x w) k0_pay7
abbrev sumCut : IVec S4032x128 32 := k0_pay12 (k0_pay5 (F := F) x w) (k0_pay6 (F := F) x w) k0_pay7
/-- Each token's rank within its expert. -/
abbrev rank : IVec S4096x128 32 := k0_pay13 (sum5 x w) k0_pay11 (sumCut x w)
/-- The experts' tile counts, and their running sums, five steps in. -/
abbrev tiles : IVec S1x128 32 := k0_pay14 (sum5 x w) k0_pay11 (sumCut x w)
abbrev tileSum : IVec S1x128 32 := k0_pay15 (sum5 x w) k0_pay11 (sumCut x w)
/-- The scaled rows, each token's eight chunks. -/
abbrev rowsOut : S32768x128.Idx → Elt F .f32 := k0_pay9 (k0_pay2 x) (k0_pay4 x w)
/-- The chunks' places. -/
abbrev posOut : S4096x8.Idx → Elt F .i32 := k0_pay19 (hot x w) (rank x w) (tiles x w) (tileSum x w) 0#32
/-- The tables of the grouped product. -/
abbrev mdOut : S8x128.Idx → Elt F .i32 :=
  k0_pay1 (k0_pay20 (tileSum x w) 0#32) (k0_pay21 (tileSum x w) 0#32) (iota .tc S128x128 32 [0] iota_S128x128_d0_w32) (iota .tc S128x128 32 [1] iota_S128x128_d1_w32)
    (k0_pay22 (tiles x w) (tileSum x w) 0#32) k0_pay23

end Values

/-! ## The body's run -/

theorem routerRun (c : Dev nD)
    (M1 : Memref sig .tc .vmem S4096x1024 .f32) (h1 : M1.IsWhole) (M2 : Memref sig .tc .vmem S1024x128 .f32) (h2 : M2.IsWhole)
    (M3 : Memref sig .tc .vmem S32768x128 .f32) (h3 : M3.IsWhole) (M4 : Memref sig .tc .vmem S4096x8 .i32) (h4 : M4.IsWhole)
    (M5 : Memref sig .tc .vmem S8x128 .i32) (h5 : M5.IsWhole)
    (x : S4096x1024.Idx → Elt F .f32) (w : S1024x128.Idx → Elt F .f32)
    (o3 : S32768x128.Idx → Elt F .f32) (o4 : S4096x8.Idx → Elt F .i32) (o5 : S8x128.Idx → Elt F .i32) (E : Set ℕ) (Q : PUnit → sProp (MT nD τ sig (HIx 2) (Elt F) ℕ UU ℕ)) :
    iprop(owns c M1 fullShare x ∗ owns c M2 fullShare w ∗ owns c M3 fullShare o3 ∗ owns c M4 fullShare o4 ∗ owns c M5 fullShare o5
        ∗ (owns c M1 fullShare x ∗ owns c M2 fullShare w ∗ owns c M3 fullShare (rowsOut x w) ∗ owns c M4 fullShare (posOut x w) ∗ owns c M5 fullShare (mdOut x w) -∗ Q ⟨⟩))
      ⊢ wp frame (wpE (defs₀ (F := F)) Variants.none c none) E
          (cc0__router_body M1 h1 M2 h2 M3 h3 M4 h4 M5 h5) Q := by
  rw [cc0__router_body_eq_skeleton]
  unfold cc0__router_body_skel
  rw [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret]
  iintro ⟨H1, H2, H3, H4, H5, Hk⟩
  iapply (wp_load_owns c M1 _ _ x _ E Q) $$ H1
  iintro H1
  iapply (wp_load_owns c M2 _ _ w _ E Q) $$ H2
  iintro H2
  iapply (wp_load_owns c M3 _ _ o3 _ E Q) $$ H3
  iintro H3
  iapply (wp_store_owns c M3 _ o3 (rowsOut x w) _ E Q) $$ H3
  iintro H3
  iapply (wp_load_owns c M4 _ _ o4 _ E Q) $$ H4
  iintro H4
  iapply (wp_store_owns c M4 _ o4 (posOut x w) _ E Q) $$ H4
  iintro H4
  iapply (wp_load_owns c M5 _ _ o5 _ E Q) $$ H5
  iintro H5
  iapply (wp_store_owns c M5 _ o5 (mdOut x w) _ E Q) $$ H5
  iintro H5
  rw [wp_ret]; imodintro
  iapply Hk
  isplitl [H1]; · iexact H1
  isplitl [H2]; · iexact H2
  isplitl [H3]; · iexact H3
  isplitl [H4]; · iexact H4
  iexact H5

/-! ## The proof data, at an entry valuation -/

variable (Vi : (c : Dev nD) → VTc F c)

/-- A window's array at the entry valuation. -/
abbrev arrs (c : Dev nD) (w : Fin 5) : Buf (Elt F) ((cfg0.win w).arr.view.loc (c : Thread nD τ)) := Vi c (Pipeline.arrRef spec0 w)

/-- A window's block of its array at the entry valuation. -/
abbrev stg (c : Dev nD) (w : Fin 5) (t : Fin cfg0.N) : ((cfg0.win w).xblock (cfg0.grid.coords t)).Idx → Elt F (cfg0.win w).elt :=
  ((cfg0.win w).blk t).view.read (Elt F) (arrs Vi c w)

/-- The invariant: the scoped buffers the pipeline does not stage. -/
abbrev Φc (c : Dev nD) : sProp (MT nD τ sig (HIx 2) (Elt F) ℕ UU ℕ) :=
  Pipeline.scopedRest (Ix := HIx 2) (Name := ℕ) (U := UU) (Lvl := ℕ) (Val := Elt F) spec0 c

/-- The region's proof data: entered before call `n`, its arrays at `Vi`. -/
def dat (n : ℕ) (c : Dev nD) : Dat τ (Elt F) (HIx 2) ℕ UU ℕ cfg0 c where
  A w := Vi c (Pipeline.arrRef spec0 w)
  after w t := match w with
    | ⟨0, _⟩ => stg Vi c 0 t
    | ⟨1, _⟩ => stg Vi c 1 t
    | ⟨2, _⟩ => rowsOut (stg Vi c 0 t) (stg Vi c 1 t)
    | ⟨3, _⟩ => posOut (stg Vi c 0 t) (stg Vi c 1 t)
    | ⟨4, _⟩ => mdOut (stg Vi c 0 t) (stg Vi c 1 t)
  Φ _ := Φc c
  q _ := fullShare
  owed _ := (K (F := F)).Otc c n
  recorded _ := recTc (F := F) c n

theorem before_0 (n : ℕ) (c : Dev nD) (t : Fin cfg0.N) (d : (cfg0.win 0).block.Idx → Elt F (cfg0.win 0).elt) : (dat Vi n c).before 0 t d = stg Vi c 0 t :=
  ((dat Vi n c).before_in_eq_fetched 0 rfl (fun _ => rfl) (fun _ _ _ => rfl) (fun _ => rfl) t d).trans rfl
theorem before_1 (n : ℕ) (c : Dev nD) (t : Fin cfg0.N) (d : (cfg0.win 1).block.Idx → Elt F (cfg0.win 1).elt) : (dat Vi n c).before 1 t d = stg Vi c 1 t :=
  ((dat Vi n c).before_in_eq_fetched 1 rfl (fun _ => rfl) (fun _ _ _ => rfl) (fun _ => rfl) t d).trans rfl

theorem body_obligation (n : ℕ) (c : Dev nD) : BodyObligation (dat Vi n c) (defs₀ (F := F)) 𝒱₀ none Set.univ := fun t => by
  rw [bigSep_W0, bigSep_W0]
  rw [show (dat Vi n c).Φ t.castSucc = Φc c from rfl, show (dat Vi n c).Φ t.succ = Φc c from rfl,
    show (dat Vi n c).owesAt none t.succ = (dat Vi n c).owesAt none t.castSucc from rfl]
  iintro ⟨HΦ, Howes, ⟨%d0, H0⟩, ⟨%d1, H1⟩, ⟨%d2, H2⟩, ⟨%d3, H3⟩, ⟨%d4, H4⟩⟩
  rw [before_0 Vi n c t, before_1 Vi n c t]
  change _ ⊢ wp frame (wpE (defs₀ (F := F)) Variants.none c none) Set.univ (bodyAt0 t) fun _ => iprop(Φc c ∗ (dat Vi n c).owesAt none t.castSucc ∗ owns c (win0_0.stage (cfg0.slots t 0)) fullShare (stg Vi c 0 t) ∗ owns c (win0_1.stage (cfg0.slots t 1)) fullShare (stg Vi c 1 t) ∗ owns c (win0_2.stage (cfg0.slots t 2)) fullShare (rowsOut (stg Vi c 0 t) (stg Vi c 1 t)) ∗ owns c (win0_3.stage (cfg0.slots t 3)) fullShare (posOut (stg Vi c 0 t) (stg Vi c 1 t)) ∗ owns c (win0_4.stage (cfg0.slots t 4)) fullShare (mdOut (stg Vi c 0 t) (stg Vi c 1 t)))
  have hrun := (routerRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0)
    (stg Vi c 0 t) (stg Vi c 1 t) ((dat Vi n c).before 2 t d2) ((dat Vi n c).before 3 t d3) ((dat Vi n c).before 4 t d4) Set.univ
    (fun _ => iprop(Φc c ∗ (dat Vi n c).owesAt none t.castSucc ∗ owns c (win0_0.stage (cfg0.slots t 0)) fullShare (stg Vi c 0 t) ∗ owns c (win0_1.stage (cfg0.slots t 1)) fullShare (stg Vi c 1 t) ∗ owns c (win0_2.stage (cfg0.slots t 2)) fullShare (rowsOut (stg Vi c 0 t) (stg Vi c 1 t)) ∗ owns c (win0_3.stage (cfg0.slots t 3)) fullShare (posOut (stg Vi c 0 t) (stg Vi c 1 t)) ∗ owns c (win0_4.stage (cfg0.slots t 4)) fullShare (mdOut (stg Vi c 0 t) (stg Vi c 1 t)))))
  refine BIBase.Entails.trans ?_ hrun
  iintro ⟨⟨⟨⟨⟨⟨HΦ, Howes⟩, H0⟩, H1⟩, H2⟩, H3⟩, H4⟩
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The region over the thread state -/

variable [∀ e, Nonempty (Elt F e)] (adm : (p : Fin 3) → (pcfgs (F := F) p).Adm)

/-- This region's proof data among the program's. -/
def pdats (n : ℕ) : (p : Fin 3) → (c : Dev nD) → Dat τ (Elt F) (HIx 2) ℕ UU ℕ (Pipeline.pin (pcfgs (F := F)) adm p) c
  | ⟨0, _⟩ => fun c => dat Vi n c
  | ⟨1, _⟩ => fun c => junkDat c
  | ⟨2, _⟩ => fun c => junkDat c

variable (Vp : (c : Dev nD) → VTc F c)

set_option backward.isDefEq.respectTransparency.types false in
/-- The region between a valuation and the valuation with the three output arrays replaced. -/
def reg (n : ℕ) (R : Dev nD → sProp (MT nD τ sig (HIx 2) (Elt F) ℕ UU ℕ)) (hout0 : ∀ c, Vp c main_v3_0 = (dat Vi n c).arrAt 2 cfg0.N)
    (hout1 : ∀ c, Vp c main_v3_1 = (dat Vi n c).arrAt 3 cfg0.N) (hout2 : ∀ c, Vp c main_v3_2 = (dat Vi n c).arrAt 4 cfg0.N)
    (hne : ∀ c (b : Ref sig .tc), b ≠ main_v3_0 → b ≠ main_v3_1 → b ≠ main_v3_2 → Vp c b = Vi c b) :
    Pipeline.RegionSeg (pcfgs (F := F)) adm (pdats Vi adm n) none defs₀ 𝒱₀ (K (F := F)).L (K (F := F)).lev 0 where
  win := (launch0 (F := F)).win.to₀
  block_pos := (launch0 (F := F)).block_pos
  stage_whole := (launch0 (F := F)).stage_whole
  K := PEmpty
  osem k := k.elim
  ho := Pipeline.OwnSemFacts.none _
  hbody c := (body_obligation Vi n c).loose
  hwaits c := by
    refine Pipeline.cellsWaits_intro _ (pdats Vi adm n) none 0 c fun w s t => ?_
    exact (K (F := F)).mayWait_none _ (Otc_none c n)
  pre c := iprop(unscopedBufs c (Vi c) ∗ R c ∗ owesTc (F := F) c n)
  post c := iprop(unscopedBufs c (Vp c) ∗ R c ∗ owesTc (F := F) c n)
  X _ := iprop(emp)
  Y _ := iprop(emp)
  Z c := iprop(Pipeline.unscopedRest (Ix := HIx 2) (Name := ℕ) (U := UU) (Lvl := ℕ) spec0 c (Vi c) ∗ R c)
  hentry c := by
    rw [Pipeline.ownSems0_none]
    have hsplit := Pipeline.arrays_of_unscopedBufs (p := 0) (pcfgs (F := F)) adm (pdats Vi adm n) (launch0 (F := F)).win (launch0 (F := F)).arr_whole c
      ((pdats Vi adm n 0 c).share_full fun _ => rfl) (Vi c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of (pdats Vi adm n 0 c) 0 rfl rfl); iexact HO
    isplitr; · iempintro
    isplitl [Hrest] <;> iassumption
  hin c := by
    rw [show (pdats Vi adm n 0 c).Φ 0 = Φc c from rfl]
    iintro ⟨-, -, Hr⟩; iexact Hr
  hout c := by
    rw [Pipeline.ownSems0_none, show (pdats Vi adm n 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) (launch0 (F := F)).win (launch0 (F := F)).arr_whole c
      (pdats Vi adm n) ((pdats Vi adm n 0 c).share_full fun _ => rfl) (Vi c) (Vp c) ((pdats Vi adm n 0 c).arrAt · cfg0.N)
      (fun w => by
        fin_cases w
        · exact ((pdats Vi adm n 0 c).arrAt_in 0 rfl _).trans (hne c main_v0 (by decide) (by decide) (by decide)).symm
        · exact ((pdats Vi adm n 0 c).arrAt_in 1 rfl _).trans (hne c main_v2 (by decide) (by decide) (by decide)).symm
        · exact (hout0 c).symm
        · exact (hout1 c).symm
        · exact (hout2 c).symm)
      (fun b hb => hne c b (fun h => hb (h ▸ Finset.mem_image.mpr ⟨2, Finset.mem_univ _, rfl⟩)) (fun h => hb (h ▸ Finset.mem_image.mpr ⟨3, Finset.mem_univ _, rfl⟩))
        fun h => hb (h ▸ Finset.mem_image.mpr ⟨4, Finset.mem_univ _, rfl⟩))
    iintro ⟨Ha, HO, -, Hrest, HR⟩
    imodintro
    isplitl [Ha Hrest]
    · iapply hjoin; isplitl [Ha] <;> iassumption
    isplitl [HR]; · iexact HR
    iapply (of_owesAt (pdats Vi adm n 0 c) _ rfl rfl); iexact HO

end Cert.Proof.RouterKI

end
-- ==== Proof.RouterValue.lean ====
/-
  The router's values over the extended reals: the chosen expert of a token and its score.
-/
module

public import proofs.«01_k».proof.Proof.RouterTables
public import proofs.«01_k».proof.Proof.RouterRegion

@[expose] public section

noncomputable section

namespace Cert.Proof.RouterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

variable (x : FVec Ideal S4096x1024 .f32) (w : FVec Ideal S1024x128 .f32)

theorem pay3_at (i : Fin 4096) (j : Fin 128) : k0_pay3 (F := Ideal) x w (Idealize.ShloMosaic.ix2 i j)
    = if j.val < 8 then ∑ k : Fin 1024, x (Idealize.ShloMosaic.ix2 i k) * w (Idealize.ShloMosaic.ix2 k j) else ⊥ := by
  have hj := j.isLt
  pointwise [k0_pay3, k0_pay2]
  rw [slt_bit (b := 8) (by omega) (by norm_num)]
  by_cases h : j.val < 8
  · rw [if_pos h, if_pos h]; rfl
  · rw [if_neg h, if_neg h]; rfl

theorem pay4_at (i : Fin 4096) (j : Fin 1) : k0_pay4 (F := Ideal) x w (Idealize.ShloMosaic.ix2 i j)
    = Finset.univ.sup fun l : Fin 128 => k0_pay3 (F := Ideal) x w (Idealize.ShloMosaic.ix2 i l) := by
  have hb : Ideal.ofBits FTy.f32 4286578688#32 = ⊥ := by simp [Ideal.ofBits, Ideal.ieee]
  unfold k0_pay4
  pointwise
  rw [hb]
  rfl

theorem pay5_at (i : Fin 4096) (j : Fin 128) : k0_pay5 (F := Ideal) x w (Idealize.ShloMosaic.ix2 i j)
    = if k0_pay3 (F := Ideal) x w (Idealize.ShloMosaic.ix2 i j) = k0_pay4 (F := Ideal) x w (Idealize.ShloMosaic.ix2 i (0 : Fin 1)) then 1#32 else 0#32 := by
  unfold k0_pay5
  pointwise
  by_cases h : k0_pay3 (F := Ideal) x w (Idealize.ShloMosaic.ix2 i j) = k0_pay4 (F := Ideal) x w (Idealize.ShloMosaic.ix2 i (0 : Fin 1))
  · rw [if_pos h, decide_eq_true h]; rfl
  · rw [if_neg h, decide_eq_false h]; rfl

/-- The score of a token of peak `a`. -/
def score (a : EReal) : EReal := Ideal.div 1 (1 + Ideal.exp (0 - a))

theorem pay9_at (r : Fin 32768) (l : Fin 128) : k0_pay9 (F := Ideal) (k0_pay2 x) (k0_pay4 x w) (Idealize.ShloMosaic.ix2 r l)
    = x (Idealize.ShloMosaic.ix2 ⟨r.val / 8, by omega⟩ ⟨r.val % 8 * 128 + l.val, by omega⟩)
      * score (k0_pay4 (F := Ideal) x w (Idealize.ShloMosaic.ix2 ⟨r.val / 8, by omega⟩ (0 : Fin 1))) := by
  unfold k0_pay9 k0_pay2 score
  pointwise

/-! ## The chosen expert -/

/-- The masked logits by numbers, and a token's largest one. -/
def lg (t e : ℕ) : EReal := if h : t < 4096 ∧ e < 128 then k0_pay3 (F := Ideal) x w (Idealize.ShloMosaic.ix2 ⟨t, h.1⟩ ⟨e, h.2⟩) else ⊥
def peak (t : ℕ) : EReal := if h : t < 4096 then k0_pay4 (F := Ideal) x w (Idealize.ShloMosaic.ix2 ⟨t, h⟩ (0 : Fin 1)) else ⊥

/-- The chosen expert: the first lane that holds the largest logit. -/
def expert (t : ℕ) : ℕ := sInf {e | lg x w t e = peak x w t}

theorem lg_at (i : Fin 4096) (j : Fin 128) : lg x w i.val j.val = k0_pay3 (F := Ideal) x w (Idealize.ShloMosaic.ix2 i j) := dif_pos ⟨i.isLt, j.isLt⟩
theorem peak_at (i : Fin 4096) : peak x w i.val = k0_pay4 (F := Ideal) x w (Idealize.ShloMosaic.ix2 i (0 : Fin 1)) := dif_pos i.isLt

theorem lg_big (t e : ℕ) (he : 8 ≤ e) : lg x w t e = ⊥ := by
  unfold lg
  split
  · rename_i h
    rw [pay3_at, if_neg (by show ¬ e < 8; omega)]
  · rfl

theorem lg_le (t e : ℕ) : lg x w t e ≤ peak x w t := by
  unfold lg peak
  split
  · rename_i h
    rw [dif_pos h.1, pay4_at]
    exact Finset.le_sup (f := fun l : Fin 128 => k0_pay3 (F := Ideal) x w (Idealize.ShloMosaic.ix2 ⟨t, h.1⟩ l)) (Finset.mem_univ _)
  · exact bot_le

theorem lg_hit (t : ℕ) : ∃ e < 8, lg x w t e = peak x w t := by
  have key : ∃ e, lg x w t e = peak x w t := by
    by_cases h : t < 4096
    · obtain ⟨l, _, hl⟩ := Finset.exists_mem_eq_sup Finset.univ (Finset.univ_nonempty)
        (fun l : Fin 128 => k0_pay3 (F := Ideal) x w (Idealize.ShloMosaic.ix2 (⟨t, h⟩ : Fin 4096) l))
      refine ⟨l.val, (lg_at x w ⟨t, h⟩ l).trans ?_⟩
      rw [← hl, ← pay4_at x w ⟨t, h⟩ 0, ← peak_at x w ⟨t, h⟩]
    · exact ⟨0, by unfold lg peak; rw [dif_neg fun hn => h hn.1, dif_neg h]⟩
  obtain ⟨e, he⟩ := key
  by_cases h8 : e < 8
  · exact ⟨e, h8, he⟩
  · refine ⟨0, by norm_num, le_antisymm (lg_le x w t 0) ?_⟩
    rw [← he, lg_big x w t e (by omega)]
    exact bot_le

theorem expert_hit (t : ℕ) : lg x w t (expert x w t) = peak x w t := by
  obtain ⟨e, _, h⟩ := lg_hit x w t
  exact Nat.sInf_mem (s := {e | lg x w t e = peak x w t}) ⟨e, h⟩

theorem expert_lt (t : ℕ) : expert x w t < 8 := by
  obtain ⟨e, he, h⟩ := lg_hit x w t
  exact lt_of_le_of_lt (Nat.sInf_le (s := {e | lg x w t e = peak x w t}) h) he

theorem expert_first (t l : ℕ) (h : l < expert x w t) : lg x w t l ≠ peak x w t := fun hn =>
  Nat.notMem_of_lt_sInf (s := {e | lg x w t e = peak x w t}) h hn

theorem hot_expert : Is (hot (F := Ideal) x w) fun t e => if expert x w t = e then 1 else 0 := by
  classical
  have h14 : Is (k0_pay5 (F := Ideal) x w) fun t e => if lg x w t e = peak x w t then 1 else 0 := fun i j => by
    rw [pay5_at]
    simp only [lg_at, peak_at]
    split <;> rfl
  have h42 := pay6_is (F := Ideal) x w h14
  exact hot_is (expert x w) (p := fun t e => lg x w t e = peak x w t) h14 h42
    (fun t _ => expert_hit x w t) (fun t _ l hl => expert_first x w t l hl)

/-! ## The router's three results -/

theorem rowsOut_at (r : Fin 32768) (l : Fin 128) : rowsOut (F := Ideal) x w (Idealize.ShloMosaic.ix2 r l)
    = x (Idealize.ShloMosaic.ix2 ⟨r.val / 8, by omega⟩ ⟨r.val % 8 * 128 + l.val, by omega⟩) * score (peak x w (r.val / 8)) := by
  refine (pay9_at x w r l).trans ?_
  rw [← peak_at]

theorem posOut_is : Is (posOut (F := Ideal) x w) fun t s => place (expert x w) t * 8 + s :=
  pos_is _ (fun t _ => expert_lt x w t) (hot_expert x w)

theorem mdOut_tile (j : Fin 128) : mdOut (F := Ideal) x w (Idealize.ShloMosaic.ix2 (0 : Fin 8) j) = BitVec.ofNat 32 (min j.val (act (expert x w) - 1)) :=
  md_tile _ (fun t _ => expert_lt x w t) (hot_expert x w) j

theorem mdOut_expert (j : Fin 128) : mdOut (F := Ideal) x w (Idealize.ShloMosaic.ix2 (1 : Fin 8) j)
    = BitVec.ofNat 32 (owner (expert x w) (min j.val (act (expert x w) - 1))) :=
  md_expert _ (fun t _ => expert_lt x w t) (hot_expert x w) j

theorem mdOut_active (j : Fin 128) : mdOut (F := Ideal) x w (Idealize.ShloMosaic.ix2 (2 : Fin 8) j)
    = BitVec.ofNat 32 (if j.val < act (expert x w) then 1 else 0) :=
  md_active _ (fun t _ => expert_lt x w t) (hot_expert x w) j

end Cert.Proof.RouterKI

end
-- ==== Proof.RouterArrays.lean ====
/-
  The router's region: what its three result arrays hold after it.
-/
module

public import proofs.«01_k».proof.Proof.RouterRegion
public import Idealize.ShloMosaic.Lib.Pipeline.ValueKit

@[expose] public section

noncomputable section

namespace Cert.Proof.RouterKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe
open Cert.Proof.Region
open Idealize.ShloMosaic.Pipeline

variable (Vi : (c : Dev nD) → VTc F c)

/-- The one point of the grid. -/
def t0 : Fin cfg0.N := ⟨0, by decide⟩

/-- Every window's block index at the one point. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

theorem stg_x (c : Dev nD) : (stg Vi c 0 t0 : S4096x1024.Idx → Elt F .f32) = Vi c main_v0 := by
  blk_ext! [stg, arrs, idx t0]

theorem stg_w (c : Dev nD) : (stg Vi c 1 t0 : S1024x128.Idx → Elt F .f32) = Vi c main_v2 := by
  blk_ext! [stg, arrs, idx t0]

theorem rows_arr (n : ℕ) (c : Dev nD) : (dat Vi n c).arrAt 2 cfg0.N = rowsOut (F := F) (Vi c main_v0) (Vi c main_v2) := by
  refine (dat Vi n c).arrAt_eq_of_after_last 2 t0 (by decide +kernel) _ fun j => ?_
  blk_simp [idx t0]
  rw [← stg_x Vi c, ← stg_w Vi c]
  rfl

theorem pos_arr (n : ℕ) (c : Dev nD) : (dat Vi n c).arrAt 3 cfg0.N = posOut (F := F) (Vi c main_v0) (Vi c main_v2) := by
  refine (dat Vi n c).arrAt_eq_of_after_last 3 t0 (by decide +kernel) _ fun j => ?_
  blk_simp [idx t0]
  rw [← stg_x Vi c, ← stg_w Vi c]
  rfl

theorem md_arr (n : ℕ) (c : Dev nD) : (dat Vi n c).arrAt 4 cfg0.N = mdOut (F := F) (Vi c main_v0) (Vi c main_v2) := by
  refine (dat Vi n c).arrAt_eq_of_after_last 4 t0 (by decide +kernel) _ fun j => ?_
  blk_simp [idx t0]
  rw [← stg_x Vi c, ← stg_w Vi c]
  rfl

end Cert.Proof.RouterKI

end
-- ==== Proof.GmmTables.lean ====
/-
  The grouped product's tables: what its windows' indices and its idle points are at the router's tables.
-/
module

public import proofs.«01_k».proof.Proof.RegionBase
public import Idealize.ShloMosaic.Lib.Pipeline.RegionsLoop
public import Idealize.ShloMosaic.Lib.Pipeline.TableIdle
public import proofs.«01_k».proof.Proof.Gen.KernelIdeal.Points

@[expose] public section

noncomputable section

namespace Cert.Proof.GmmKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe
open Idealize.ShloMosaic.Pipeline (Dat Cfg Window BodyObligation cellOf)
open Cert.Proof.Region

/-! ## The tables, and the windows' indices at them -/

/-- An entry's index. -/
abbrev at1 (g : Fin 128) : S128.Idx := fun b => match b with
  | ⟨0, _⟩ => g

/-- The tables' contents as three vectors of 128 words. -/
abbrev tab (a : pre2.Contents (Elt F)) (k : Fin 3) (g : Fin 128) : BitVec 32 :=
  match k with
  | 0 => a 0 (at1 g)
  | 1 => a 1 (at1 g)
  | 2 => a 2 (at1 g)

theorem lt23 (t : Fin grid2.N) : t.val < 23 := lt_of_lt_of_eq t.isLt N_2

/-- A grid point as an entry of a table. -/
abbrev ent (t : Fin grid2.N) : Fin 128 := ⟨t.val, lt_of_lt_of_le t.isLt (by rw [N_2]; decide)⟩

theorem off_val (t : Fin grid2.N) : k2_off1 (grid2.coords t) 0 = t.val := by
  have ht := lt23 t
  have h0 : (grid2.coords t 0).val = t.val := by
    refine (Pipeline.Grid.coords_val t 0 (S := 1) (B := 23) (by decide) (by decide)).trans ?_
    omega
  show (BitVec.ofNat 32 (grid2.coords t 0).val).toNat = t.val
  rw [h0, BitVec.toNat_ofNat]; omega

theorem emb_eq (t : Fin grid2.N) (x : Shape.Idx S1) : (Rect.unit (s := S128) (k2_off1 (grid2.coords t)) S1.size (k2_off1_inb _)).emb x = at1 (ent t) := by
  funext b
  match b with
  | ⟨0, _⟩ =>
  refine Fin.ext ?_
  show k2_off1 (grid2.coords t) 0 + 1 * (x 0).val = t.val
  have hx : (x 0).val < 1 := (x 0).isLt
  rw [off_val]; omega

theorem index_0 (a : (pcfg2 (F := F)).Adm) (t : Fin grid2.N) : ((cfg2 a).win 0).index t = ![(tab a.1 0 (ent t)).toNat, 0] := by
  exact congrArg (fun x : S128.Idx => ![(a.1 0 x).toNat, 0]) (emb_eq t _)
theorem index_1 (a : (pcfg2 (F := F)).Adm) (t : Fin grid2.N) : ((cfg2 a).win 1).index t = ![(tab a.1 1 (ent t)).toNat, 0, 0] := by
  exact congrArg (fun x : S128.Idx => ![(a.1 1 x).toNat, 0, 0]) (emb_eq t _)
theorem index_2 (a : (pcfg2 (F := F)).Adm) (t : Fin grid2.N) : ((cfg2 a).win 2).index t = ![(tab a.1 1 (ent t)).toNat, 0, 1] := by
  exact congrArg (fun x : S128.Idx => ![(a.1 1 x).toNat, 0, 1]) (emb_eq t _)
theorem index_3 (a : (pcfg2 (F := F)).Adm) (t : Fin grid2.N) : ((cfg2 a).win 3).index t = ![(tab a.1 1 (ent t)).toNat, 0, 0] := by
  exact congrArg (fun x : S128.Idx => ![(a.1 1 x).toNat, 0, 0]) (emb_eq t _)
theorem index_4 (a : (pcfg2 (F := F)).Adm) (t : Fin grid2.N) : ((cfg2 a).win 4).index t = ![(tab a.1 0 (ent t)).toNat, 0] := by
  exact congrArg (fun x : S128.Idx => ![(a.1 0 x).toNat, 0]) (emb_eq t _)

theorem word_eq (a : pre2.Contents (Elt F)) (t : Fin grid2.N) : a.atD 2 (k2_off1 (grid2.coords t)) = tab a 2 (ent t) := by
  have ht := lt23 t
  have h : ∀ b, k2_off1 (grid2.coords t) b + 1 ≤ (pre2.ref 2).ty.shape.size b := fun b => by
    match b with
    | ⟨0, _⟩ => show k2_off1 (grid2.coords t) 0 + 1 ≤ 128; rw [off_val]; show t.val + 1 ≤ 128; omega
  refine (dif_pos h).trans ?_
  refine congrArg (a 2) (funext fun b => Fin.ext ?_)
  match b with
  | ⟨0, _⟩ => exact off_val t

theorem cond_iff (v : BitVec 32) : k2_cond1 v = if v = 1#32 then 1#1 else 0#1 := by
  by_cases h : v = 1#32
  · subst h; rfl
  · rw [if_neg h]
    unfold k2_cond1
    have h1 : Scalar.cmpi .eq v 1#32 = 0#1 := by
      show BitVec.ofBool (v == 1#32) = 0#1
      rw [beq_eq_false_iff_ne.mpr h]; rfl
    show Scalar.cmpi .ne (Scalar.extui (Scalar.cmpi .eq v 1#32)) 0#32 = 0#1
    rw [h1]; rfl

/-- What the router's tables satisfy: `nA` tiles in use, the tile of a point beyond them the last one's. -/
structure Good (a : pre2.Contents (Elt F)) (nA : ℕ) : Prop where
  pos : 1 ≤ nA
  le : nA ≤ 23
  tile : ∀ g : Fin 128, g.val < 23 → (tab a 0 g).toNat = min g.val (nA - 1)
  expert_lt : ∀ g : Fin 128, g.val < 23 → (tab a 1 g).toNat < 8
  expert_last : ∀ g : Fin 128, g.val < 23 → nA ≤ g.val → ∀ h : nA - 1 < 128, tab a 1 g = tab a 1 ⟨nA - 1, h⟩
  active : ∀ g : Fin 128, g.val < 23 → tab a 2 g = if g.val < nA then 1#32 else 0#32

theorem Good.ok {a : pre2.Contents (Elt F)} {nA : ℕ} (h : Good a nA) : ok2 a := by
  have hlt : ∀ i : grid2.Coords, (i 0).val < 23 := fun i => (i 0).isLt
  have hoff : ∀ i : grid2.Coords, k2_off1 i 0 = (i 0).val := fun i => by
    have := hlt i
    show (BitVec.ofNat 32 (i 0).val).toNat = (i 0).val
    rw [BitVec.toNat_ofNat]; omega
  have hemb : ∀ (i : grid2.Coords) (x : Shape.Idx S1), (Rect.unit (s := S128) (k2_off1 i) S1.size (k2_off1_inb i)).emb x = at1 ⟨(i 0).val, (hlt i).trans (by decide)⟩ := fun i x => by
    funext b
    match b with
    | ⟨0, _⟩ =>
    refine Fin.ext ?_
    show k2_off1 i 0 + 1 * (x 0).val = (i 0).val
    have hx : (x 0).val < 1 := (x 0).isLt
    rw [hoff]; omega
  have e0 : ∀ (i : grid2.Coords) (x : Shape.Idx S1), ((a 0) ((Rect.unit (s := S128) (k2_off1 i) S1.size (k2_off1_inb i)).emb x)).toNat ≤ 22 := fun i x => by
    rw [hemb i x]
    have := h.tile ⟨(i 0).val, (hlt i).trans (show 23 < 128 by decide)⟩ (hlt i)
    have h2 := h.le
    show (tab a 0 ⟨(i 0).val, (hlt i).trans (show 23 < 128 by decide)⟩).toNat ≤ 22
    omega
  have e1 : ∀ (i : grid2.Coords) (x : Shape.Idx S1), ((a 1) ((Rect.unit (s := S128) (k2_off1 i) S1.size (k2_off1_inb i)).emb x)).toNat < 8 := fun i x => by
    rw [hemb i x]
    exact h.expert_lt ⟨(i 0).val, (hlt i).trans (show 23 < 128 by decide)⟩ (hlt i)
  refine ⟨fun i => ⟨fun b => ?_, .inl rfl⟩, fun i => ⟨fun b => ?_, .inl rfl⟩, fun i => ⟨fun b => ?_, .inl rfl⟩, fun i => ⟨fun b => ?_, .inl rfl⟩, fun i => ⟨fun b => ?_, .inl rfl⟩⟩
  · match b with
    | 0 => exact (Nat.mul_le_mul_right 2048 (Nat.succ_le_succ (e0 i _))).trans (by decide)
    | 1 => exact show (0 + 1) * 128 ≤ 128 by decide
  · match b with
    | 0 => exact (Nat.mul_le_mul_right 1 (Nat.succ_le_of_lt (e1 i _))).trans (by decide)
    | 1 => exact show (0 + 1) * 1024 ≤ 1024 by decide
    | 2 => exact show (0 + 1) * 2048 ≤ 4096 by decide
  · match b with
    | 0 => exact (Nat.mul_le_mul_right 1 (Nat.succ_le_of_lt (e1 i _))).trans (by decide)
    | 1 => exact show (0 + 1) * 1024 ≤ 1024 by decide
    | 2 => exact show (1 + 1) * 2048 ≤ 4096 by decide
  · match b with
    | 0 => exact (Nat.mul_le_mul_right 1 (Nat.succ_le_of_lt (e1 i _))).trans (by decide)
    | 1 => exact show (0 + 1) * 2048 ≤ 2048 by decide
    | 2 => exact show (0 + 1) * 1024 ≤ 1024 by decide
  · match b with
    | 0 => exact (Nat.mul_le_mul_right 2048 (Nat.succ_le_succ (e0 i _))).trans (by decide)
    | 1 => exact show (0 + 1) * 128 ≤ 128 by decide

/-! ## Idle points, write-backs and fresh buffers of the output's window -/

section Schedule

variable {a : (pcfg2 (F := F)).Adm} {nA : ℕ} (h : Good a.1 nA)

include h

theorem idle_eq (t : Fin grid2.N) : (cfg2 a).idle 4 (grid2.coords t) = decide (nA ≤ t.val) := by
  have ht := lt23 t
  show (!(k2_cond1 (a.1.atD 2 (k2_off1 (grid2.coords t))) == 1#1)) = _
  rw [word_eq, h.active (ent t) ht, cond_iff]
  by_cases hn : t.val < nA
  · rw [if_pos hn, if_pos rfl, decide_eq_false (by omega)]; rfl
  · rw [if_neg hn, if_neg (by decide), decide_eq_true (by omega)]; rfl

theorem tile_eq (t : Fin grid2.N) : (tab a.1 0 (ent t)).toNat = min t.val (nA - 1) :=
  h.tile (ent t) (by have ht := lt23 t; exact ht)

theorem same_tab (t t' : Fin grid2.N) (ht : t'.val + 1 = t.val) (hn : nA ≤ t.val) :
    (tab a.1 0 (ent t)).toNat = (tab a.1 0 (ent t')).toNat ∧ tab a.1 1 (ent t) = tab a.1 1 (ent t') := by
  have hp := h.pos
  have hlt := lt23 t
  have e1 := tile_eq h t
  have e2 := tile_eq h t'
  refine ⟨by omega, ?_⟩
  have hb : nA - 1 < 128 := by have := h.le; omega
  rw [h.expert_last (ent t) hlt hn hb]
  by_cases hq : nA ≤ t'.val
  · rw [h.expert_last (ent t') (by show t'.val < 23; omega) hq hb]
  · refine congrArg (tab a.1 1) (Fin.ext ?_)
    show nA - 1 = t'.val
    omega

theorem flush_eq (t : Fin grid2.N) : ((cfg2 a).win 4).flush t = decide (t.val + 1 = 23 ∨ t.val + 1 < nA) := by
  have hN : grid2.N = 23 := N_2
  have hlt := lt23 t
  have hp := h.pos
  unfold Pipeline.Window.flush
  show (true && (decide (t.val + 1 = grid2.N) || decide (∃ h : t.val + 1 < grid2.N, ((cfg2 a).win 4).index ⟨t.val + 1, h⟩ ≠ ((cfg2 a).win 4).index t))) = _
  by_cases h1 : t.val + 1 = 23
  · rw [decide_eq_true (by omega : t.val + 1 = grid2.N), decide_eq_true (Or.inl h1)]; rfl
  · rw [decide_eq_false (by omega : ¬ t.val + 1 = grid2.N), Bool.false_or, Bool.true_and]
    refine decide_eq_decide.mpr ⟨fun ⟨hb, hne⟩ => ?_, fun ho => ?_⟩
    · right
      by_contra hge
      refine hne ?_
      rw [index_4, index_4, (same_tab h ⟨t.val + 1, hb⟩ t rfl (by show nA ≤ t.val + 1; omega)).1]
    · refine ⟨by omega, fun he => ?_⟩
      rw [index_4, index_4] at he
      have h0 : (tab a.1 0 (ent ⟨t.val + 1, by omega⟩)).toNat = (tab a.1 0 (ent t)).toNat := congrFun he 0
      have e1 := tile_eq h ⟨t.val + 1, by omega⟩
      have e2 := tile_eq h t
      have e3 : (tab a.1 0 (ent ⟨t.val + 1, by omega⟩)).toNat = min (t.val + 1) (nA - 1) := e1
      omega

theorem fresh_idle (n : ℕ) (hn : n ≤ 22) (hi : nA ≤ n) : (cfg2 a).fresh 4 n = false := by
  have hN : grid2.N = 23 := N_2
  have hp := h.pos
  induction n with
  | zero => omega
  | succ n ih =>
    have hb : n < (cfg2 a).N := by show n < grid2.N; omega
    rw [Pipeline.Cfg.fresh_succ _ _ n hb]
    have hf : ((cfg2 a).win 4).flush ⟨n, hb⟩ = false := by
      refine (flush_eq h ⟨n, hb⟩).trans (decide_eq_false ?_)
      show ¬ (n + 1 = 23 ∨ n + 1 < nA); omega
    rw [hf, Bool.false_or]
    by_cases hq : nA ≤ n
    · rw [ih (by omega) hq, Bool.and_false]
    · have : (cfg2 a).idle 4 ((cfg2 a).grid.coords ⟨n, hb⟩) = false :=
        (idle_eq h ⟨n, hb⟩).trans (decide_eq_false (by show ¬ nA ≤ n; omega))
      rw [this, Bool.false_and]

end Schedule

end Cert.Proof.GmmKI

end
-- ==== Proof.GmmRegion.lean ====
/-
  The grouped product's pipeline as a region between two valuations, its tables the valuation's.
-/
module

public import proofs.«01_k».proof.Proof.GmmTables
public import Idealize.ShloMosaic.Lib.VecWindow

@[expose] public section

noncomputable section

namespace Cert.Proof.GmmKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe
open Idealize.ShloMosaic.Pipeline (Dat Cfg Window BodyObligation cellOf)
open Cert.Proof.Region

/-! ## The body's run -/

/-- The table of active points, whole at its contents. -/
abbrev actPt (c : Dev nD) (f : Buf (Elt F) ((c : Thread nD τ).loc main_v9)) : sProp (MT nD τ sig (HIx 2) (Elt F) ℕ UU ℕ) :=
  ((c : Thread nD τ).loc main_v9) ↦{fullShare} f

theorem act_read (c : Dev nD) (f : Buf (Elt F) ((c : Thread nD τ).loc main_v9)) (t : Fin grid2.N) (x : Shape.Idx S1) :
    ((Memref.whole main_v9).access (Rect.unit (s := S128) (k2_off1 (grid2.coords t)) S1.size (k2_off1_inb _))).read (Elt F) f x = f (at1 (ent t)) :=
  congrArg (fun x : S128.Idx => (f x : BitVec 32)) (emb_eq t x)

section Run

variable (c : Dev nD) (t : Fin grid2.N)
    (M4 : Memref sig .tc .vmem S2048x128 .f32) (h4 : M4.IsWhole) (M5 : Memref sig .tc .vmem S1x1024x2048 .f32) (h5 : M5.IsWhole)
    (M6 : Memref sig .tc .vmem S1x1024x2048 .f32) (h6 : M6.IsWhole) (M7 : Memref sig .tc .vmem S1x2048x1024 .f32) (h7 : M7.IsWhole)
    (M8 : Memref sig .tc .vmem S2048x128 .f32) (h8 : M8.IsWhole)
    (f : Buf (Elt F) ((c : Thread nD τ).loc main_v9))
    (E : Set ℕ) (Q : PUnit → sProp (MT nD τ sig (HIx 2) (Elt F) ℕ UU ℕ))

/-- The body's run at an active point: it leaves the inputs and the output at the block's value. -/
theorem gmmRun_active (hf : f (at1 (ent t)) = 1#32)
    (x : S2048x128.Idx → Elt F .f32) (g u : S1x1024x2048.Idx → Elt F .f32) (dn : S1x2048x1024.Idx → Elt F .f32) (o : S2048x128.Idx → Elt F .f32) :
    iprop(actPt c f ∗ owns c M4 fullShare x ∗ owns c M5 fullShare g ∗ owns c M6 fullShare u ∗ owns c M7 fullShare dn ∗ owns c M8 fullShare o
        ∗ (actPt c f ∗ owns c M4 fullShare x ∗ owns c M5 fullShare g ∗ owns c M6 fullShare u ∗ owns c M7 fullShare dn
            ∗ owns c M8 fullShare (k2_pay1 x g u dn) -∗ Q ⟨⟩))
      ⊢ wp frame (wpE (defs₀ (F := F)) Variants.none c none) E
          (cc2__gmm_body (grid2.coords t) (Memref.whole main_v5) (Memref.isWhole_whole _) (Memref.whole main_v7) (Memref.isWhole_whole _) (Memref.whole main_v9) (Memref.isWhole_whole _) M4 h4 M5 h5 M6 h6 M7 h7 M8 h8) Q := by
  rw [cc2__gmm_body_eq_skeleton]
  unfold cc2__gmm_body_skel
  iintro ⟨Hf, H1, H2, H3, H4, H5, Hk⟩
  rw [wp_bind]
  iapply (wp_smemLoadElt (defs := defs₀ (F := F)) Variants.none (c.tc : Thread nD τ) none E (m := Memref.whole main_v9) (r := Rect.unit (s := S128) (k2_off1 (grid2.coords t)) S1.size (k2_off1_inb _)) (S := Finset.univ) (q := fullShare) (f := f) (Finset.subset_univ _)) $$ Hf
  iintro Hf
  rw [act_read, hf, wp_ret]; imodintro
  rw [dif_pos (by rw [cond_iff, if_pos rfl])]
  simp only [Prog.lift, Prog.bind_op, Prog.bind_ret, Prog.pure_eq_ret]
  iapply (wp_load_owns c M4 _ _ x _ E Q) $$ H1
  iintro H1
  iapply (wp_load_owns c M5 _ _ g _ E Q) $$ H2
  iintro H2
  iapply (wp_load_owns c M6 _ _ u _ E Q) $$ H3
  iintro H3
  iapply (wp_load_owns c M7 _ _ dn _ E Q) $$ H4
  iintro H4
  iapply (wp_load_owns c M8 _ _ o _ E Q) $$ H5
  iintro H5
  iapply (wp_store_owns c M8 _ o (k2_pay1 x g u dn) _ E Q) $$ H5
  iintro H5
  rw [wp_ret]; imodintro
  iapply Hk
  isplitl [Hf]; · iexact Hf
  isplitl [H1]; · iexact H1
  isplitl [H2]; · iexact H2
  isplitl [H3]; · iexact H3
  isplitl [H4]; · iexact H4
  iexact H5

/-- The body's run at an idle point: it reads the table alone. -/
theorem gmmRun_idle (hf : f (at1 (ent t)) = 0#32) :
    iprop(actPt c f ∗ (actPt c f -∗ Q ⟨⟩))
      ⊢ wp frame (wpE (defs₀ (F := F)) Variants.none c none) E
          (cc2__gmm_body (grid2.coords t) (Memref.whole main_v5) (Memref.isWhole_whole _) (Memref.whole main_v7) (Memref.isWhole_whole _) (Memref.whole main_v9) (Memref.isWhole_whole _) M4 h4 M5 h5 M6 h6 M7 h7 M8 h8) Q := by
  rw [cc2__gmm_body_eq_skeleton]
  unfold cc2__gmm_body_skel
  iintro ⟨Hf, Hk⟩
  rw [wp_bind]
  iapply (wp_smemLoadElt (defs := defs₀ (F := F)) Variants.none (c.tc : Thread nD τ) none E (m := Memref.whole main_v9) (r := Rect.unit (s := S128) (k2_off1 (grid2.coords t)) S1.size (k2_off1_inb _)) (S := Finset.univ) (q := fullShare) (f := f) (Finset.subset_univ _)) $$ Hf
  iintro Hf
  rw [act_read, hf, wp_ret]; imodintro
  rw [dif_neg (by rw [cond_iff, if_neg (by decide)]; decide)]
  simp only [Prog.bind_ret, Prog.pure_eq_ret]
  rw [wp_ret]; imodintro
  iapply Hk
  iexact Hf

end Run

/-! ## The proof data, at an entry valuation and tables -/

variable (Vi : (c : Dev nD) → VTc F c) (a : (pcfg2 (F := F)).Adm)

/-- A window's array at the entry valuation. -/
abbrev arrs (c : Dev nD) (w : Fin 5) : Buf (Elt F) (((cfg2 a).win w).arr.view.loc (c : Thread nD τ)) := Vi c (Pipeline.arrRef spec2 w)

/-- A window's block of its array at the entry valuation. -/
abbrev stg (c : Dev nD) (w : Fin 5) (t : Fin (cfg2 a).N) : (((cfg2 a).win w).xblock ((cfg2 a).grid.coords t)).Idx → Elt F ((cfg2 a).win w).elt :=
  (((cfg2 a).win w).blk t).view.read (Elt F) (arrs Vi a c w)

/-- The block the body leaves, at an idle point the one the last active point left. -/
abbrev outBlk (c : Dev nD) (t : Fin (cfg2 a).N) : S2048x128.Idx → Elt F .f32 :=
  k2_pay1 (stg Vi a c 0 t) (stg Vi a c 1 t) (stg Vi a c 2 t) (stg Vi a c 3 t)

/-- The invariant: the scoped buffers the pipeline does not stage, and the tables. -/
abbrev Φc (c : Dev nD) : sProp (MT nD τ sig (HIx 2) (Elt F) ℕ UU ℕ) :=
  iprop(Pipeline.scopedRest (Ix := HIx 2) (Name := ℕ) (U := UU) (Lvl := ℕ) (Val := Elt F) spec2 c
    ∗ Pipeline.prefHeld (Ix := HIx 2) (Name := ℕ) (U := UU) (Lvl := ℕ) (Val := Elt F) pre2 c (fun _ => fullShare) a.1)

theorem prefHeld_eq (c : Dev nD) (T : pre2.Contents (Elt F)) :
    (Pipeline.prefHeld (Ix := HIx 2) (Name := ℕ) (U := UU) (Lvl := ℕ) (Val := Elt F) pre2 c (fun _ => fullShare) T)
      = iprop((((c : Thread nD τ).loc main_v5) ↦{fullShare} T 0) ∗ (((c : Thread nD τ).loc main_v7) ↦{fullShare} T 1) ∗ actPt c (T 2)) :=
  bigSep_univ_eq_bigSepL [(0 : Fin 3), (1 : Fin 3), (2 : Fin 3)] (by decide) (by decide) _

/-- The region's proof data: entered before call `n`, its arrays at `Vi`. -/
def dat (n : ℕ) (c : Dev nD) : Dat τ (Elt F) (HIx 2) ℕ UU ℕ (cfg2 a) c where
  A w := Vi c (Pipeline.arrRef spec2 w)
  after w t := match w with
    | ⟨0, _⟩ => stg Vi a c 0 t
    | ⟨1, _⟩ => stg Vi a c 1 t
    | ⟨2, _⟩ => stg Vi a c 2 t
    | ⟨3, _⟩ => stg Vi a c 3 t
    | ⟨4, _⟩ => outBlk Vi a c t
  Φ _ := Φc a c
  q w := Pipeline.shareOf spec2 w
  owed _ := (K (F := F)).Otc c n
  recorded _ := recTc (F := F) c n

theorem before_0 (n : ℕ) (c : Dev nD) (t : Fin (cfg2 a).N) (d : ((cfg2 a).win 0).block.Idx → Elt F ((cfg2 a).win 0).elt) : (dat Vi a n c).before 0 t d = stg Vi a c 0 t :=
  ((dat Vi a n c).before_in_eq_fetched 0 rfl (fun _ => rfl) (fun _ _ _ => rfl) (fun _ => rfl) t d).trans rfl
theorem before_1 (n : ℕ) (c : Dev nD) (t : Fin (cfg2 a).N) (d : ((cfg2 a).win 1).block.Idx → Elt F ((cfg2 a).win 1).elt) : (dat Vi a n c).before 1 t d = stg Vi a c 1 t :=
  ((dat Vi a n c).before_in_eq_fetched 1 rfl (fun _ => rfl) (fun _ _ _ => rfl) (fun _ => rfl) t d).trans rfl
theorem before_2 (n : ℕ) (c : Dev nD) (t : Fin (cfg2 a).N) (d : ((cfg2 a).win 2).block.Idx → Elt F ((cfg2 a).win 2).elt) : (dat Vi a n c).before 2 t d = stg Vi a c 2 t :=
  ((dat Vi a n c).before_in_eq_fetched 2 rfl (fun _ => rfl) (fun _ _ _ => rfl) (fun _ => rfl) t d).trans rfl
theorem before_3 (n : ℕ) (c : Dev nD) (t : Fin (cfg2 a).N) (d : ((cfg2 a).win 3).block.Idx → Elt F ((cfg2 a).win 3).elt) : (dat Vi a n c).before 3 t d = stg Vi a c 3 t :=
  ((dat Vi a n c).before_in_eq_fetched 3 rfl (fun _ => rfl) (fun _ _ _ => rfl) (fun _ => rfl) t d).trans rfl

/-- The output window's clause of the body's postcondition, at an idle or an active point. -/
def lastOf (n : ℕ) (c : Dev nD) (t : Fin (cfg2 a).N) (idle flush : Bool) : sProp (MT nD τ sig (HIx 2) (Elt F) ℕ UU ℕ) :=
  match idle with
  | true => match flush with
    | false => iprop(∃ d, owns (c.tc : Thread nD τ) (((cfg2 a).win 4).stage ((cfg2 a).slots t 4)) fullShare ((dat Vi a n c).before 4 t d))
    | true => owns (c.tc : Thread nD τ) (((cfg2 a).win 4).stage ((cfg2 a).slots t 4)) fullShare ((dat Vi a n c).after 4 t)
  | false => owns (c.tc : Thread nD τ) (((cfg2 a).win 4).stage ((cfg2 a).slots t 4)) fullShare ((dat Vi a n c).after 4 t)

section Carry

variable {a} {nA : ℕ} (h : Good a.1 nA)

include h

theorem stg_congr [∀ e, Nonempty (Elt F e)] (n : ℕ) (c : Dev nD) (t t' : Fin (cfg2 a).N) (ht : t'.val + 1 = t.val) (hn : nA ≤ t.val) :
    outBlk Vi a c t = outBlk Vi a c t' := by
  have hT := same_tab h t t' ht hn
  have e0 : stg Vi a c 0 t = stg Vi a c 0 t' := (dat Vi a n c).fetched_congr 0 ((index_0 a t).trans ((congrArg (fun k => ![k, 0]) hT.1).trans (index_0 a t').symm)) rfl (fun _ => Classical.arbitrary _)
  have e1 : stg Vi a c 1 t = stg Vi a c 1 t' := (dat Vi a n c).fetched_congr 1 ((index_1 a t).trans ((congrArg (fun k : BitVec 32 => ![k.toNat, 0, 0]) hT.2).trans (index_1 a t').symm)) rfl (fun _ => Classical.arbitrary _)
  have e2 : stg Vi a c 2 t = stg Vi a c 2 t' := (dat Vi a n c).fetched_congr 2 ((index_2 a t).trans ((congrArg (fun k : BitVec 32 => ![k.toNat, 0, 1]) hT.2).trans (index_2 a t').symm)) rfl (fun _ => Classical.arbitrary _)
  have e3 : stg Vi a c 3 t = stg Vi a c 3 t' := (dat Vi a n c).fetched_congr 3 ((index_3 a t).trans ((congrArg (fun k : BitVec 32 => ![k.toNat, 0, 0]) hT.2).trans (index_3 a t').symm)) rfl (fun _ => Classical.arbitrary _)
  show k2_pay1 (F := F) (stg Vi a c 0 t) (stg Vi a c 1 t) (stg Vi a c 2 t) (stg Vi a c 3 t) = _
  exact congr (congr (congr (congrArg (k2_pay1 (F := F)) e0) e1) e2) e3

/-- At an idle point the output's buffer holds what the last active point left. -/
theorem before_4 [∀ e, Nonempty (Elt F e)] (n : ℕ) (c : Dev nD) (t : Fin (cfg2 a).N) (hn : nA ≤ t.val) (d : ((cfg2 a).win 4).block.Idx → Elt F ((cfg2 a).win 4).elt) :
    (dat Vi a n c).before 4 t d = outBlk Vi a c t := by
  have hp := h.pos
  refine ((dat Vi a n c).before_out_traj 4 rfl (fun _ _ => rfl) (fun s hs hi _ => ?_) t.val t rfl d).trans ?_
  · have hi' : nA ≤ s.val := of_decide_eq_true ((idle_eq h s).symm.trans hi)
    exact stg_congr Vi h n c s _ (by show s.val - 1 + 1 = s.val; omega) hi'
  · have hf : (cfg2 a).fresh 4 t.val = false := fresh_idle h t.val (by have := lt23 t; omega) hn
    rw [hf]
    refine (if_neg Bool.false_ne_true).trans ?_
    exact (stg_congr Vi h n c t _ (by show t.val - 1 + 1 = t.val; omega) hn).symm

theorem body_obligation [∀ e, Nonempty (Elt F e)] (n : ℕ) (c : Dev nD) : BodyObligation (dat Vi a n c) (defs₀ (F := F)) 𝒱₀ none Set.univ := fun t => by
  rw [bigSep_W2, bigSep_W2]
  rw [show (dat Vi a n c).Φ t.castSucc = Φc a c from rfl, show (dat Vi a n c).Φ t.succ = Φc a c from rfl,
    show (dat Vi a n c).owesAt none t.succ = (dat Vi a n c).owesAt none t.castSucc from rfl]
  change iprop(Φc a c ∗ (dat Vi a n c).owesAt none t.castSucc ∗ (∃ d : ((cfg2 a).win 0).block.Idx → Elt F ((cfg2 a).win 0).elt, owns (c.tc : Thread nD τ) (((cfg2 a).win 0).stage ((cfg2 a).slots t 0)) fullShare ((dat Vi a n c).before 0 t d)) ∗ (∃ d : ((cfg2 a).win 1).block.Idx → Elt F ((cfg2 a).win 1).elt, owns (c.tc : Thread nD τ) (((cfg2 a).win 1).stage ((cfg2 a).slots t 1)) fullShare ((dat Vi a n c).before 1 t d)) ∗ (∃ d : ((cfg2 a).win 2).block.Idx → Elt F ((cfg2 a).win 2).elt, owns (c.tc : Thread nD τ) (((cfg2 a).win 2).stage ((cfg2 a).slots t 2)) fullShare ((dat Vi a n c).before 2 t d)) ∗ (∃ d : ((cfg2 a).win 3).block.Idx → Elt F ((cfg2 a).win 3).elt, owns (c.tc : Thread nD τ) (((cfg2 a).win 3).stage ((cfg2 a).slots t 3)) fullShare ((dat Vi a n c).before 3 t d)) ∗ (∃ d : ((cfg2 a).win 4).block.Idx → Elt F ((cfg2 a).win 4).elt, owns (c.tc : Thread nD τ) (((cfg2 a).win 4).stage ((cfg2 a).slots t 4)) fullShare ((dat Vi a n c).before 4 t d))) ⊢ _
  iintro ⟨HΦ, Howes, ⟨%d0, H0⟩, ⟨%d1, H1⟩, ⟨%d2, H2⟩, ⟨%d3, H3⟩, ⟨%d4, H4⟩⟩
  ihave H0 := (BIBase.Entails.of_eq (congrArg (owns (c.tc : Thread nD τ) (((cfg2 a).win 0).stage ((cfg2 a).slots t 0)) fullShare) (before_0 Vi a n c t d0))) $$ H0
  ihave H1 := (BIBase.Entails.of_eq (congrArg (owns (c.tc : Thread nD τ) (((cfg2 a).win 1).stage ((cfg2 a).slots t 1)) fullShare) (before_1 Vi a n c t d1))) $$ H1
  ihave H2 := (BIBase.Entails.of_eq (congrArg (owns (c.tc : Thread nD τ) (((cfg2 a).win 2).stage ((cfg2 a).slots t 2)) fullShare) (before_2 Vi a n c t d2))) $$ H2
  ihave H3 := (BIBase.Entails.of_eq (congrArg (owns (c.tc : Thread nD τ) (((cfg2 a).win 3).stage ((cfg2 a).slots t 3)) fullShare) (before_3 Vi a n c t d3))) $$ H3
  change _ ⊢ wp frame (wpE (defs₀ (F := F)) Variants.none c none) Set.univ (cc2__gmm_body (grid2.coords t) (Memref.whole main_v5) (Memref.isWhole_whole _) (Memref.whole main_v7) (Memref.isWhole_whole _) (Memref.whole main_v9) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4))) fun _ =>
      iprop(Φc a c ∗ (dat Vi a n c).owesAt none t.castSucc ∗ owns c (spec2_0.stage ((cfg2 a).slots t 0)) fullShare (stg Vi a c 0 t) ∗ owns c (spec2_1.stage ((cfg2 a).slots t 1)) fullShare (stg Vi a c 1 t) ∗ owns c (spec2_2.stage ((cfg2 a).slots t 2)) fullShare (stg Vi a c 2 t) ∗ owns c (spec2_3.stage ((cfg2 a).slots t 3)) fullShare (stg Vi a c 3 t) ∗ (lastOf Vi a n c t ((cfg2 a).idle 4 ((cfg2 a).grid.coords t)) (((cfg2 a).win 4).flush t)))
  have hword := h.active (ent t) (lt23 t)
  by_cases hn : nA ≤ t.val
  · have hid : (cfg2 a).idle 4 ((cfg2 a).grid.coords t) = true := (idle_eq h t).trans (decide_eq_true hn)
    have hw0 : a.1 2 (at1 (ent t)) = 0#32 := hword.trans (if_neg (by show ¬ t.val < nA; omega))
    have core : ∀ last : sProp (MT nD τ sig (HIx 2) (Elt F) ℕ UU ℕ), (owns c (spec2_4.stage ((cfg2 a).slots t 4)) fullShare ((dat Vi a n c).before 4 t d4) ⊢ last) →
        (iprop((((((Φc a c ∗ (dat Vi a n c).owesAt none t.castSucc) ∗ owns c (spec2_4.stage ((cfg2 a).slots t 4)) fullShare ((dat Vi a n c).before 4 t d4)) ∗ owns c (spec2_0.stage ((cfg2 a).slots t 0)) fullShare (stg Vi a c 0 t)) ∗ owns c (spec2_1.stage ((cfg2 a).slots t 1)) fullShare (stg Vi a c 1 t)) ∗ owns c (spec2_2.stage ((cfg2 a).slots t 2)) fullShare (stg Vi a c 2 t)) ∗ owns c (spec2_3.stage ((cfg2 a).slots t 3)) fullShare (stg Vi a c 3 t)) ⊢ wp frame (wpE (defs₀ (F := F)) Variants.none c none) Set.univ (cc2__gmm_body (grid2.coords t) (Memref.whole main_v5) (Memref.isWhole_whole _) (Memref.whole main_v7) (Memref.isWhole_whole _) (Memref.whole main_v9) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4))) fun _ =>
      iprop(Φc a c ∗ (dat Vi a n c).owesAt none t.castSucc ∗ owns c (spec2_0.stage ((cfg2 a).slots t 0)) fullShare (stg Vi a c 0 t) ∗ owns c (spec2_1.stage ((cfg2 a).slots t 1)) fullShare (stg Vi a c 1 t) ∗ owns c (spec2_2.stage ((cfg2 a).slots t 2)) fullShare (stg Vi a c 2 t) ∗ owns c (spec2_3.stage ((cfg2 a).slots t 3)) fullShare (stg Vi a c 3 t) ∗ last)) := fun last key => by
      have hrun := gmmRun_idle c t (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (a.1 2) Set.univ (fun _ => iprop(Φc a c ∗ (dat Vi a n c).owesAt none t.castSucc ∗ owns c (spec2_0.stage ((cfg2 a).slots t 0)) fullShare (stg Vi a c 0 t) ∗ owns c (spec2_1.stage ((cfg2 a).slots t 1)) fullShare (stg Vi a c 1 t) ∗ owns c (spec2_2.stage ((cfg2 a).slots t 2)) fullShare (stg Vi a c 2 t) ∗ owns c (spec2_3.stage ((cfg2 a).slots t 3)) fullShare (stg Vi a c 3 t) ∗ last)) hw0
      refine BIBase.Entails.trans ?_ hrun
      iintro ⟨⟨⟨⟨⟨⟨⟨Hr, Ht⟩, Howes⟩, H4⟩, H0⟩, H1⟩, H2⟩, H3⟩
      ihave Ht := (BIBase.Entails.of_eq (prefHeld_eq c a.1)) $$ Ht
      icases Ht with ⟨Ht0, Ht1, Ht2⟩
      isplitl [Ht2]; · iexact Ht2
      iintro Ht2
      isplitl [Hr Ht0 Ht1 Ht2]
      · isplitl [Hr]; · iexact Hr
        iapply (BIBase.Entails.of_eq (prefHeld_eq c a.1).symm)
        isplitl [Ht0]; · iexact Ht0
        isplitl [Ht1]; · iexact Ht1
        iexact Ht2
      isplitl [Howes]; · iexact Howes
      isplitl [H0]; · iexact H0
      isplitl [H1]; · iexact H1
      isplitl [H2]; · iexact H2
      isplitl [H3]; · iexact H3
      iapply key; iexact H4
    rw [hid]
    cases ((cfg2 a).win 4).flush t with
    | false =>
      refine core _ ?_
      unfold lastOf; iintro H; iexists d4; iexact H
    | true =>
      refine core _ ?_
      have hb := before_4 Vi h n c t hn d4
      exact BIBase.Entails.of_eq (congrArg (owns (c.tc : Thread nD τ) (((cfg2 a).win 4).stage ((cfg2 a).slots t 4)) fullShare) hb)
  · have hid : (cfg2 a).idle 4 ((cfg2 a).grid.coords t) = false := (idle_eq h t).trans (decide_eq_false hn)
    have hw1 : a.1 2 (at1 (ent t)) = 1#32 := hword.trans (if_pos (by show t.val < nA; omega))
    rw [hid]
    change _ ⊢ wp frame (wpE (defs₀ (F := F)) Variants.none c none) Set.univ (cc2__gmm_body (grid2.coords t) (Memref.whole main_v5) (Memref.isWhole_whole _) (Memref.whole main_v7) (Memref.isWhole_whole _) (Memref.whole main_v9) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4))) fun _ =>
      iprop(Φc a c ∗ (dat Vi a n c).owesAt none t.castSucc ∗ owns c (spec2_0.stage ((cfg2 a).slots t 0)) fullShare (stg Vi a c 0 t) ∗ owns c (spec2_1.stage ((cfg2 a).slots t 1)) fullShare (stg Vi a c 1 t) ∗ owns c (spec2_2.stage ((cfg2 a).slots t 2)) fullShare (stg Vi a c 2 t) ∗ owns c (spec2_3.stage ((cfg2 a).slots t 3)) fullShare (stg Vi a c 3 t) ∗ owns c (spec2_4.stage ((cfg2 a).slots t 4)) fullShare (outBlk Vi a c t))
    have hrun := gmmRun_active c t (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (a.1 2) Set.univ (fun _ => iprop(Φc a c ∗ (dat Vi a n c).owesAt none t.castSucc ∗ owns c (spec2_0.stage ((cfg2 a).slots t 0)) fullShare (stg Vi a c 0 t) ∗ owns c (spec2_1.stage ((cfg2 a).slots t 1)) fullShare (stg Vi a c 1 t) ∗ owns c (spec2_2.stage ((cfg2 a).slots t 2)) fullShare (stg Vi a c 2 t) ∗ owns c (spec2_3.stage ((cfg2 a).slots t 3)) fullShare (stg Vi a c 3 t) ∗ owns c (spec2_4.stage ((cfg2 a).slots t 4)) fullShare (outBlk Vi a c t))) hw1
      (stg Vi a c 0 t) (stg Vi a c 1 t) (stg Vi a c 2 t) (stg Vi a c 3 t) ((dat Vi a n c).before 4 t d4)
    refine BIBase.Entails.trans ?_ hrun
    iintro ⟨⟨⟨⟨⟨⟨⟨Hr, Ht⟩, Howes⟩, H4⟩, H0⟩, H1⟩, H2⟩, H3⟩
    ihave Ht := (BIBase.Entails.of_eq (prefHeld_eq c a.1)) $$ Ht
    icases Ht with ⟨Ht0, Ht1, Ht2⟩
    isplitl [Ht2]; · iexact Ht2
    isplitl [H0]; · iexact H0
    isplitl [H1]; · iexact H1
    isplitl [H2]; · iexact H2
    isplitl [H3]; · iexact H3
    isplitl [H4]; · iexact H4
    iintro ⟨Ht2, H0, H1, H2, H3, H4⟩
    isplitl [Hr Ht0 Ht1 Ht2]
    · isplitl [Hr]; · iexact Hr
      iapply (BIBase.Entails.of_eq (prefHeld_eq c a.1).symm)
      isplitl [Ht0]; · iexact Ht0
      isplitl [Ht1]; · iexact Ht1
      iexact Ht2
    isplitl [Howes]; · iexact Howes
    isplitl [H0]; · iexact H0
    isplitl [H1]; · iexact H1
    isplitl [H2]; · iexact H2
    isplitl [H3]; · iexact H3
    iexact H4

end Carry

/-! ## The region over the thread state -/

variable [∀ e, Nonempty (Elt F e)] (adm : (p : Fin 3) → (pcfgs (F := F) p).Adm)

/-- This region's proof data among the program's. -/
def pdats (n : ℕ) : (p : Fin 3) → (c : Dev nD) → Dat τ (Elt F) (HIx 2) ℕ UU ℕ (Pipeline.pin (pcfgs (F := F)) adm p) c
  | ⟨0, _⟩ => fun c => junkDat c
  | ⟨1, _⟩ => fun c => dat Vi (adm 1) n c
  | ⟨2, _⟩ => fun c => junkDat c

/-- The output array after the region. -/
def out (n : ℕ) (c : Dev nD) : Buf (Elt F) ((c : Thread nD τ).loc main_v12) := (dat Vi a n c).arrAt 4 (cfg2 a).N

variable (Vp : (c : Dev nD) → VTc F c)

set_option backward.isDefEq.respectTransparency.types false in
/-- The region between a valuation and the valuation with the output array replaced; `htab`: the tables are the entry
    valuation's. -/
def reg (n : ℕ) (R : Dev nD → sProp (MT nD τ sig (HIx 2) (Elt F) ℕ UU ℕ)) {nA : ℕ} (h : Good (adm 1).1 nA)
    (htab : ∀ c (k : Fin 3), Vi c (pre2.ref k) = (adm 1).1 k)
    (hout : ∀ c, Vp c main_v12 = out Vi (adm 1) n c)
    (hne : ∀ c (b : Ref sig .tc), b ≠ main_v12 → Vp c b = Vi c b) :
    Pipeline.RegionSeg (pcfgs (F := F)) adm (pdats Vi adm n) none defs₀ 𝒱₀ (K (F := F)).L (K (F := F)).lev 1 where
  win := winFacts₀2
  block_pos := block_pos2
  stage_whole := stage_whole2
  K := PEmpty
  osem k := k.elim
  ho := Pipeline.OwnSemFacts.none _
  hbody c := (body_obligation Vi h n c).loose
  hwaits c := by
    refine Pipeline.cellsWaits_intro _ (pdats Vi adm n) none 1 c fun w s t => ?_
    exact (K (F := F)).mayWait_none _ (Otc_none c n)
  pre c := iprop(unscopedBufs c (Vi c) ∗ R c ∗ owesTc (F := F) c n)
  post c := iprop(unscopedBufs c (Vp c) ∗ R c ∗ owesTc (F := F) c n)
  X _ := iprop(emp)
  Y c := Pipeline.prefHeld (Ix := HIx 2) (Name := ℕ) (U := UU) (Lvl := ℕ) (Val := Elt F) pre2 c (fun _ => fullShare) (adm 1).1
  Z c := iprop(Pipeline.unscopedRestP (Ix := HIx 2) (Name := ℕ) (U := UU) (Lvl := ℕ) pre2 spec2 c (Vi c) ∗ R c)
  hentry c := by
    rw [Pipeline.ownSems0_none]
    have hsplit := Pipeline.arrays_of_unscopedBufs_shared (p := 1) (pcfgs (F := F)) adm (pdats Vi adm n) winFacts₀2 sharedIn2 arr_whole2 c
      (fun _ _ => rfl) (Vi c) fun _ => rfl
    have hrest : (Pipeline.unscopedRest (Ix := HIx 2) (Name := ℕ) (U := UU) (Lvl := ℕ) spec2 c (Vi c) : sProp (MT nD τ sig (HIx 2) (Elt F) ℕ UU ℕ)) = _ := Pipeline.unscopedRest_split preFacts2 c (Vi c)
    rw [show (fun k => Vi c (pre2.ref k)) = (adm 1).1 from funext (htab c)] at hrest
    iintro ⟨⟨Hub, HR, HO⟩, -, -⟩
    ihave H := hsplit $$ Hub
    icases H with ⟨Ha, Hrest⟩
    ihave Hr := (BIBase.Entails.of_eq hrest) $$ Hrest
    icases Hr with ⟨Ht, Hrest⟩
    imodintro
    isplitl [Ha]; · iexact Ha
    isplitl [Ht]; · iexact Ht
    isplitl [HO]
    · iapply (owesAt_of (pdats Vi adm n 1 c) 0 rfl rfl); iexact HO
    isplitr; · iempintro
    isplitl [Hrest] <;> iassumption
  hin c := by
    rw [show (pdats Vi adm n 1 c).Φ 0 = Φc (adm 1) c from rfl]
    iintro ⟨-, Ht, Hr⟩
    isplitl [Hr]; · iexact Hr
    iexact Ht
  hout c := by
    rw [Pipeline.ownSems0_none, show (pdats Vi adm n 1 c).Φ (Fin.last _) = Φc (adm 1) c from rfl]
    iintro ⟨Hr, Ht⟩
    isplitl [Ht]; · iexact Ht
    isplitr; · iempintro
    iexact Hr
  hexit c := by
    have hjoin := Pipeline.unscopedBufs_of_arrays_shared (p := 1) (pcfgs (F := F)) adm (Ix := HIx 2) (Name := ℕ) (U := UU) (Lvl := ℕ) winFacts₀2 sharedIn2 arr_whole2 c
      (pdats Vi adm n) (fun _ _ => rfl) (Vi c) (Vp c) ((pdats Vi adm n 1 c).arrAt · (cfg2 (adm 1)).N)
      (fun w => by
        fin_cases w
        · exact ((pdats Vi adm n 1 c).arrAt_in 0 rfl _).trans (hne c main_v11 (by decide)).symm
        · exact ((pdats Vi adm n 1 c).arrAt_in 1 rfl _).trans (hne c main_arg1 (by decide)).symm
        · exact ((pdats Vi adm n 1 c).arrAt_in 2 rfl _).trans (hne c main_arg1 (by decide)).symm
        · exact ((pdats Vi adm n 1 c).arrAt_in 3 rfl _).trans (hne c main_arg2 (by decide)).symm
        · exact (hout c).symm)
      (fun b hb => hne c b fun h => hb (h ▸ Finset.mem_image.mpr ⟨4, Finset.mem_univ _, rfl⟩))
    have hrest : (Pipeline.unscopedRest (Ix := HIx 2) (Name := ℕ) (U := UU) (Lvl := ℕ) spec2 c (Vi c) : sProp (MT nD τ sig (HIx 2) (Elt F) ℕ UU ℕ)) = _ := Pipeline.unscopedRest_split preFacts2 c (Vi c)
    rw [show (fun k => Vi c (pre2.ref k)) = (adm 1).1 from funext (htab c)] at hrest
    iintro ⟨Ha, HO, Ht, Hrest, HR⟩
    imodintro
    isplitl [Ha Ht Hrest]
    · iapply hjoin
      isplitl [Ha]; · iexact Ha
      iapply (BIBase.Entails.of_eq hrest.symm)
      isplitl [Ht] <;> iassumption
    isplitl [HR]; · iexact HR
    iapply (of_owesAt (pdats Vi adm n 1 c) _ rfl rfl); iexact HO

end Cert.Proof.GmmKI

end
-- ==== Proof.SharedRegion.lean ====
/-
  The shared expert's region: its body, its proof data and its passage over the thread state.
-/
module

public import proofs.«01_k».proof.Proof.RegionBase
public import Idealize.ShloMosaic.Lib.Pipeline.RegionsLoop
public import proofs.«01_k».proof.Proof.Gen.KernelIdeal.Points

@[expose] public section

noncomputable section

namespace Cert.Proof.SharedKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe
open Idealize.ShloMosaic.Pipeline (Dat Cfg Window BodyObligation cellOf)
open Cert.Proof.Region

/-! ## The body's run -/

/-- The body's run on its staging memrefs, the five inputs at definite contents: it leaves the inputs and the output at
    the block's value. -/
theorem sharedRun (c : Dev nD) (i : grid4.Coords)
    (M1 : Memref sig .tc .vmem S256x1024 .f32) (h1 : M1.IsWhole) (M2 : Memref sig .tc .vmem S2048x128 .f32) (h2 : M2.IsWhole)
    (M3 : Memref sig .tc .vmem S2048x1024 .f32) (h3 : M3.IsWhole) (M4 : Memref sig .tc .vmem S2048x1024 .f32) (h4 : M4.IsWhole)
    (M5 : Memref sig .tc .vmem S1024x2048 .f32) (h5 : M5.IsWhole) (M6 : Memref sig .tc .vmem S256x1024 .f32) (h6 : M6.IsWhole)
    (x : S256x1024.Idx → Elt F .f32) (y : S2048x128.Idx → Elt F .f32) (g u : S2048x1024.Idx → Elt F .f32) (dn : S1024x2048.Idx → Elt F .f32)
    (o : S256x1024.Idx → Elt F .f32) (E : Set ℕ) (Q : PUnit → sProp (MT nD τ sig (HIx 2) (Elt F) ℕ UU ℕ)) :
    iprop(owns c M1 fullShare x ∗ owns c M2 fullShare y ∗ owns c M3 fullShare g ∗ owns c M4 fullShare u ∗ owns c M5 fullShare dn ∗ owns c M6 fullShare o
        ∗ (owns c M1 fullShare x ∗ owns c M2 fullShare y ∗ owns c M3 fullShare g ∗ owns c M4 fullShare u ∗ owns c M5 fullShare dn
            ∗ owns c M6 fullShare (k4_pay1 x g u dn y) -∗ Q ⟨⟩))
      ⊢ wp frame (wpE (defs₀ (F := F)) Variants.none c none) E
          (cc4__shared_body i M1 h1 M2 h2 M3 h3 M4 h4 M5 h5 M6 h6) Q := by
  rw [cc4__shared_body_eq_skeleton]
  unfold cc4__shared_body_skel
  simp only [Prog.lift, Prog.bind_op, Prog.bind_ret, Prog.pure_eq_ret]
  iintro ⟨H1, H2, H3, H4, H5, H6, Hk⟩
  iapply (wp_load_owns c M1 _ _ x _ E Q) $$ H1
  iintro H1
  iapply (wp_load_owns c M3 _ _ g _ E Q) $$ H3
  iintro H3
  iapply (wp_load_owns c M4 _ _ u _ E Q) $$ H4
  iintro H4
  iapply (wp_load_owns c M5 _ _ dn _ E Q) $$ H5
  iintro H5
  iapply (wp_load_owns c M2 _ _ y _ E Q) $$ H2
  iintro H2
  iapply (wp_load_owns c M6 _ _ o _ E Q) $$ H6
  iintro H6
  iapply (wp_store_owns c M6 _ o (k4_pay1 x g u dn y) _ E Q) $$ H6
  iintro H6
  rw [wp_ret]; imodintro
  iapply Hk
  isplitl [H1]; · iexact H1
  isplitl [H2]; · iexact H2
  isplitl [H3]; · iexact H3
  isplitl [H4]; · iexact H4
  isplitl [H5]; · iexact H5
  iexact H6

/-! ## The proof data, at an entry valuation -/

variable (Vi : (c : Dev nD) → VTc F c)

/-- A window's array at the entry valuation. -/
abbrev arrs (c : Dev nD) (w : Fin 6) : Buf (Elt F) ((cfg4.win w).arr.view.loc (c : Thread nD τ)) := Vi c (Pipeline.arrRef spec4 w)

/-- A window's block of its array at the entry valuation. -/
abbrev stg (c : Dev nD) (w : Fin 6) (t : Fin cfg4.N) : ((cfg4.win w).xblock (cfg4.grid.coords t)).Idx → Elt F (cfg4.win w).elt :=
  ((cfg4.win w).blk t).view.read (Elt F) (arrs Vi c w)

/-- The block the body leaves. -/
abbrev outBlk (c : Dev nD) (t : Fin cfg4.N) : S256x1024.Idx → Elt F .f32 :=
  k4_pay1 (stg Vi c 0 t) (stg Vi c 2 t) (stg Vi c 3 t) (stg Vi c 4 t) (stg Vi c 1 t)

/-- The invariant: the scoped buffers the pipeline does not stage. -/
abbrev Φc (c : Dev nD) : sProp (MT nD τ sig (HIx 2) (Elt F) ℕ UU ℕ) :=
  Pipeline.scopedRest (Ix := HIx 2) (Name := ℕ) (U := UU) (Lvl := ℕ) (Val := Elt F) spec4 c

/-- The region's proof data: entered before call `n`, its arrays at `Vi`. -/
def dat (n : ℕ) (c : Dev nD) : Dat τ (Elt F) (HIx 2) ℕ UU ℕ cfg4 c where
  A w := Vi c (Pipeline.arrRef spec4 w)
  after w t := match w with
    | ⟨0, _⟩ => stg Vi c 0 t
    | ⟨1, _⟩ => stg Vi c 1 t
    | ⟨2, _⟩ => stg Vi c 2 t
    | ⟨3, _⟩ => stg Vi c 3 t
    | ⟨4, _⟩ => stg Vi c 4 t
    | ⟨5, _⟩ => outBlk Vi c t
  Φ _ := Φc c
  q _ := fullShare
  owed _ := (K (F := F)).Otc c n
  recorded _ := recTc (F := F) c n

theorem before_0 (n : ℕ) (c : Dev nD) (t : Fin cfg4.N) (d : (cfg4.win 0).block.Idx → Elt F (cfg4.win 0).elt) : (dat Vi n c).before 0 t d = stg Vi c 0 t :=
  ((dat Vi n c).before_in_eq_fetched 0 rfl (fun _ => rfl) (fun _ _ _ => rfl) (fun _ => rfl) t d).trans rfl
theorem before_1 (n : ℕ) (c : Dev nD) (t : Fin cfg4.N) (d : (cfg4.win 1).block.Idx → Elt F (cfg4.win 1).elt) : (dat Vi n c).before 1 t d = stg Vi c 1 t :=
  ((dat Vi n c).before_in_eq_fetched 1 rfl (fun _ => rfl) (fun _ _ _ => rfl) (fun _ => rfl) t d).trans rfl
theorem before_2 (n : ℕ) (c : Dev nD) (t : Fin cfg4.N) (d : (cfg4.win 2).block.Idx → Elt F (cfg4.win 2).elt) : (dat Vi n c).before 2 t d = stg Vi c 2 t :=
  ((dat Vi n c).before_in_eq_fetched 2 rfl (fun _ => rfl) (fun _ _ _ => rfl) (fun _ => rfl) t d).trans rfl
theorem before_3 (n : ℕ) (c : Dev nD) (t : Fin cfg4.N) (d : (cfg4.win 3).block.Idx → Elt F (cfg4.win 3).elt) : (dat Vi n c).before 3 t d = stg Vi c 3 t :=
  ((dat Vi n c).before_in_eq_fetched 3 rfl (fun _ => rfl) (fun _ _ _ => rfl) (fun _ => rfl) t d).trans rfl
theorem before_4 (n : ℕ) (c : Dev nD) (t : Fin cfg4.N) (d : (cfg4.win 4).block.Idx → Elt F (cfg4.win 4).elt) : (dat Vi n c).before 4 t d = stg Vi c 4 t :=
  ((dat Vi n c).before_in_eq_fetched 4 rfl (fun _ => rfl) (fun _ _ _ => rfl) (fun _ => rfl) t d).trans rfl

theorem body_obligation (n : ℕ) (c : Dev nD) : BodyObligation (dat Vi n c) (defs₀ (F := F)) 𝒱₀ none Set.univ := fun t => by
  rw [bigSep_W4, bigSep_W4]
  rw [show (dat Vi n c).Φ t.castSucc = Φc c from rfl, show (dat Vi n c).Φ t.succ = Φc c from rfl,
    show (dat Vi n c).owesAt none t.succ = (dat Vi n c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [before_0 Vi n c t, before_1 Vi n c t, before_2 Vi n c t, before_3 Vi n c t, before_4 Vi n c t]
  change _ ⊢ wp frame (wpE (defs₀ (F := F)) Variants.none c none) Set.univ (bodyAt4 t) fun _ =>
    iprop(Φc c ∗ (dat Vi n c).owesAt none t.castSucc ∗ owns c (win4_0.stage (cfg4.slots t 0)) fullShare (stg Vi c 0 t) ∗ owns c (win4_1.stage (cfg4.slots t 1)) fullShare (stg Vi c 1 t) ∗ owns c (win4_2.stage (cfg4.slots t 2)) fullShare (stg Vi c 2 t) ∗ owns c (win4_3.stage (cfg4.slots t 3)) fullShare (stg Vi c 3 t) ∗ owns c (win4_4.stage (cfg4.slots t 4)) fullShare (stg Vi c 4 t) ∗ owns c (win4_5.stage (cfg4.slots t 5)) fullShare (outBlk Vi c t))
  have hrun := (sharedRun c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5))
    (stg Vi c 0 t) (stg Vi c 1 t) (stg Vi c 2 t) (stg Vi c 3 t) (stg Vi c 4 t) ((dat Vi n c).before 5 t d5) Set.univ
    (fun _ => iprop(Φc c ∗ (dat Vi n c).owesAt none t.castSucc ∗ owns c (win4_0.stage (cfg4.slots t 0)) fullShare (stg Vi c 0 t) ∗ owns c (win4_1.stage (cfg4.slots t 1)) fullShare (stg Vi c 1 t) ∗ owns c (win4_2.stage (cfg4.slots t 2)) fullShare (stg Vi c 2 t) ∗ owns c (win4_3.stage (cfg4.slots t 3)) fullShare (stg Vi c 3 t) ∗ owns c (win4_4.stage (cfg4.slots t 4)) fullShare (stg Vi c 4 t) ∗ owns c (win4_5.stage (cfg4.slots t 5)) fullShare (outBlk Vi c t))))
  refine BIBase.Entails.trans ?_ hrun
  iintro ⟨⟨⟨⟨⟨⟨⟨HΦ, Howes⟩, H0⟩, H1⟩, H2⟩, H3⟩, H4⟩, H5⟩
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-! ## The region over the thread state -/

variable [∀ e, Nonempty (Elt F e)] (adm : (p : Fin 3) → (pcfgs (F := F) p).Adm)

/-- This region's proof data among the program's. -/
def pdats (n : ℕ) : (p : Fin 3) → (c : Dev nD) → Dat τ (Elt F) (HIx 2) ℕ UU ℕ (Pipeline.pin (pcfgs (F := F)) adm p) c
  | ⟨0, _⟩ => fun c => junkDat c
  | ⟨1, _⟩ => fun c => junkDat c
  | ⟨2, _⟩ => fun c => dat Vi n c

/-- The output array after the region. -/
def out (n : ℕ) (c : Dev nD) : Buf (Elt F) ((c : Thread nD τ).loc main_v14) := (dat Vi n c).arrAt 5 cfg4.N

variable (Vp : (c : Dev nD) → VTc F c)

set_option backward.isDefEq.respectTransparency.types false in
/-- The region between a valuation and the valuation with the output array replaced. -/
def reg (n : ℕ) (R : Dev nD → sProp (MT nD τ sig (HIx 2) (Elt F) ℕ UU ℕ)) (hout : ∀ c, Vp c main_v14 = out Vi n c)
    (hne : ∀ c (b : Ref sig .tc), b ≠ main_v14 → Vp c b = Vi c b) :
    Pipeline.RegionSeg (pcfgs (F := F)) adm (pdats Vi adm n) none defs₀ 𝒱₀ (K (F := F)).L (K (F := F)).lev 2 where
  win := (launch4 (F := F)).win.to₀
  block_pos := (launch4 (F := F)).block_pos
  stage_whole := (launch4 (F := F)).stage_whole
  K := PEmpty
  osem k := k.elim
  ho := Pipeline.OwnSemFacts.none _
  hbody c := (body_obligation Vi n c).loose
  hwaits c := by
    refine Pipeline.cellsWaits_intro _ (pdats Vi adm n) none 2 c fun w s t => ?_
    exact (K (F := F)).mayWait_none _ (Otc_none c n)
  pre c := iprop(unscopedBufs c (Vi c) ∗ R c ∗ owesTc (F := F) c n)
  post c := iprop(unscopedBufs c (Vp c) ∗ R c ∗ owesTc (F := F) c n)
  X _ := iprop(emp)
  Y _ := iprop(emp)
  Z c := iprop(Pipeline.unscopedRest (Ix := HIx 2) (Name := ℕ) (U := UU) (Lvl := ℕ) spec4 c (Vi c) ∗ R c)
  hentry c := by
    rw [Pipeline.ownSems0_none]
    have hsplit := Pipeline.arrays_of_unscopedBufs (p := 2) (pcfgs (F := F)) adm (pdats Vi adm n) (launch4 (F := F)).win (launch4 (F := F)).arr_whole c
      ((pdats Vi adm n 2 c).share_full fun _ => rfl) (Vi c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of (pdats Vi adm n 2 c) 0 rfl rfl); iexact HO
    isplitr; · iempintro
    isplitl [Hrest] <;> iassumption
  hin c := by
    rw [show (pdats Vi adm n 2 c).Φ 0 = Φc c from rfl]
    iintro ⟨-, -, Hr⟩; iexact Hr
  hout c := by
    rw [Pipeline.ownSems0_none, show (pdats Vi adm n 2 c).Φ (Fin.last _) = Φc c from rfl]
    iintro Hr
    isplitr; · iempintro
    isplitr; · iempintro
    iexact Hr
  hexit c := by
    have hjoin := Pipeline.unscopedBufs_of_arrays (p := 2) (pcfgs (F := F)) adm (Ix := HIx 2) (Name := ℕ) (U := UU) (Lvl := ℕ) (launch4 (F := F)).win (launch4 (F := F)).arr_whole c
      (pdats Vi adm n) ((pdats Vi adm n 2 c).share_full fun _ => rfl) (Vi c) (Vp c) ((pdats Vi adm n 2 c).arrAt · cfg4.N)
      (fun w => by
        fin_cases w
        · exact ((pdats Vi adm n 2 c).arrAt_in 0 rfl _).trans (hne c main_v0 (by decide)).symm
        · exact ((pdats Vi adm n 2 c).arrAt_in 1 rfl _).trans (hne c main_v13 (by decide)).symm
        · exact ((pdats Vi adm n 2 c).arrAt_in 2 rfl _).trans (hne c main_arg4 (by decide)).symm
        · exact ((pdats Vi adm n 2 c).arrAt_in 3 rfl _).trans (hne c main_arg5 (by decide)).symm
        · exact ((pdats Vi adm n 2 c).arrAt_in 4 rfl _).trans (hne c main_arg6 (by decide)).symm
        · exact (hout c).symm)
      (fun b hb => hne c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    iapply (of_owesAt (pdats Vi adm n 2 c) _ rfl rfl); iexact HO

end Cert.Proof.SharedKI

end
-- ==== Proof.SharedArrays.lean ====
/-
  The shared expert's region: what its result array holds after it.
-/
module

public import proofs.«01_k».proof.Proof.SharedRegion
public import Idealize.ShloMosaic.Lib.Pipeline.ValueKit
public import Idealize.ShloMosaic.Lib.ValueLayoutCasts

@[expose] public section

noncomputable section

namespace Cert.Proof.SharedKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe
open Cert.Proof.Region

/-- The gate's activation, `g / (1 + exp (−g))`, at the ideal. -/
noncomputable def act (g : EReal) : EReal := Ideal.div g (1 + Ideal.exp (0 - g))

/-- One element of the shared expert's result and the routed rows: a token's row `x` through the gated product with the rows
    of `gw` and `uw`, down through row `e` of `dw`, and the routed value `yv` added. -/
noncomputable def mlp (x : Fin 1024 → EReal) (gw uw : Fin 2048 → Fin 1024 → EReal) (dw : Fin 2048 → EReal) (yv : EReal) : EReal :=
  ∑ k, act (∑ j, x j * gw k j) * (∑ j, x j * uw k j) * dw k + yv

theorem pay_at (x : FVec Ideal S256x1024 .f32) (g u : FVec Ideal S2048x1024 .f32) (dn : FVec Ideal S1024x2048 .f32) (y : FVec Ideal S2048x128 .f32)
    (i : Fin 256) (e : Fin 1024) :
    k4_pay1 (F := Ideal) x g u dn y (Idealize.ShloMosaic.ix2 i e)
      = mlp (fun j => x (Idealize.ShloMosaic.ix2 i j)) (fun k j => g (Idealize.ShloMosaic.ix2 k j)) (fun k j => u (Idealize.ShloMosaic.ix2 k j))
          (fun k => dn (Idealize.ShloMosaic.ix2 e k))
          (y (Idealize.ShloMosaic.ix2 (⟨i.val * 8 + e.val / 128, by omega⟩ : Fin 2048) (⟨e.val % 128, by omega⟩ : Fin 128))) := by
  unfold k4_pay1
  pointwise
  rfl

/-- Every window's block index at a point. -/
theorem idx : ∀ t : Fin cfg4.N, win4_0.index t = ![t.val, 0] ∧ win4_1.index t = ![t.val, 0] ∧ win4_2.index t = ![0, 0] ∧ win4_3.index t = ![0, 0]
    ∧ win4_4.index t = ![0, 0] ∧ win4_5.index t = ![t.val, 0] :=
  (by decide +kernel : ∀ t : Fin grid4.N, _)

variable (Vi : (c : Dev nD) → VTc Ideal c)

/-- The layer's result, from the contents of the five arrays the region reads. -/
noncomputable def result (x : FVec Ideal S4096x1024 .f32) (y : FVec Ideal S32768x128 .f32) (g u : FVec Ideal S2048x1024 .f32) (dn : FVec Ideal S1024x2048 .f32) :
    FVec Ideal S4096x1024 .f32 := fun i =>
  mlp (fun j => x (Idealize.ShloMosaic.ix2 (i 0) j)) (fun k j => g (Idealize.ShloMosaic.ix2 k j)) (fun k j => u (Idealize.ShloMosaic.ix2 k j))
    (fun k => dn (Idealize.ShloMosaic.ix2 (i 1) k))
    (y (Idealize.ShloMosaic.ix2 (⟨(i 0).val * 8 + (i 1).val / 128, by have h0 : (i 0).val < 4096 := (i 0).isLt; have h1 : (i 1).val < 1024 := (i 1).isLt; omega⟩ : Fin 32768)
      (⟨(i 1).val % 128, by omega⟩ : Fin 128)))

theorem out_eq (n : ℕ) (c : Dev nD) : out Vi n c = result (Vi c main_v0) (Vi c main_v13) (Vi c main_arg4) (Vi c main_arg5) (Vi c main_arg6) := by
  refine (dat Vi n c).arrAt_eq_of_covers 5 _ (by decide +kernel) fun t _ y => ?_
  obtain ⟨i, e, rfl⟩ : ∃ (i : Fin 256) (e : Fin 1024), y = Idealize.ShloMosaic.ix2 i e := ⟨y 0, y 1, by funext a; match a with | ⟨0, _⟩ => rfl | ⟨1, _⟩ => rfl⟩
  have ht : t.val < 16 := t.isLt
  blk_simp
  refine (pay_at (stg Vi c 0 t) (stg Vi c 2 t) (stg Vi c 3 t) (stg Vi c 4 t) (stg Vi c 1 t) i e).trans ?_
  unfold result
  congr 1
  · funext j; blk_ext [stg, arrs, idx t]
  · funext k j; blk_ext [stg, arrs, idx t]
  · funext k j; blk_ext [stg, arrs, idx t]
  · funext k; blk_ext [stg, arrs, idx t]
  · blk_ext [stg, arrs, idx t]

end Cert.Proof.SharedKI

end
-- ==== Proof.GmmArrays.lean ====
/-
  The experts' region: what its result array holds after it.
-/
module

public import proofs.«01_k».proof.Proof.GmmRegion
public import proofs.«01_k».proof.Proof.SharedArrays

@[expose] public section

noncomputable section

namespace Cert.Proof.GmmKI

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe
open Idealize.ShloMosaic.Pipeline (Dat Cfg Window BodyObligation cellOf)
open Cert.Proof.Region

/-- One element of an expert's result: a row through the gated product, down through a column of the second weights. -/
noncomputable def emlp (x : Fin 1024 → EReal) (g u : Fin 1024 → Fin 2048 → EReal) (d : Fin 2048 → EReal) : EReal :=
  ∑ k, (∑ j, x j * u j k) * SharedKI.act (∑ j, x j * g j k) * d k

theorem pay_at (x : FVec Ideal S2048x128 .f32) (g u : FVec Ideal S1x1024x2048 .f32) (dn : FVec Ideal S1x2048x1024 .f32)
    (i : Fin 2048) (e : Fin 128) :
    k2_pay1 (F := Ideal) x g u dn (Idealize.ShloMosaic.ix2 i e)
      = emlp (fun j => x (Idealize.ShloMosaic.ix2 (⟨i.val / 8 * 8 + j.val / 128, by omega⟩ : Fin 2048) (⟨j.val % 128, by omega⟩ : Fin 128)))
          (fun j k => g (ix3 (0 : Fin 1) j k)) (fun j k => u (ix3 (0 : Fin 1) j k))
          (fun k => dn (ix3 (0 : Fin 1) k (⟨i.val % 8 * 128 + e.val, by omega⟩ : Fin 1024))) := by
  unfold k2_pay1
  pointwise
  rfl

/-- The rows the experts leave, from the rows they read, the two weights and each tile's expert. -/
noncomputable def result (X : FVec Ideal S47104x128 .f32) (W1 : FVec Ideal S8x1024x4096 .f32) (W2 : FVec Ideal S8x2048x1024 .f32) (ex : Fin 128 → Fin 8) :
    FVec Ideal S47104x128 .f32 := fun i =>
  have h0 : (i 0).val < 47104 := (i 0).isLt
  have h1 : (i 1).val < 128 := (i 1).isLt
  emlp (fun j => X (Idealize.ShloMosaic.ix2 (⟨(i 0).val / 8 * 8 + j.val / 128, by omega⟩ : Fin 47104) (⟨j.val % 128, by omega⟩ : Fin 128)))
    (fun j k => W1 (ix3 (ex ⟨(i 0).val / 2048, by omega⟩) j (⟨k.val, by omega⟩ : Fin 4096)))
    (fun j k => W1 (ix3 (ex ⟨(i 0).val / 2048, by omega⟩) j (⟨2048 + k.val, by omega⟩ : Fin 4096)))
    (fun k => W2 (ix3 (ex ⟨(i 0).val / 2048, by omega⟩) k (⟨(i 0).val % 8 * 128 + (i 1).val, by omega⟩ : Fin 1024)))

theorem eta (y : S2048x128.Idx) : y = Idealize.ShloMosaic.ix2 (y 0 : Fin 2048) (y 1 : Fin 128) := by
  funext a; match a with | ⟨0, _⟩ => rfl | ⟨1, _⟩ => rfl

/-- A tile's expert. -/
def expOf (a : pre2.Contents (Elt Ideal)) (g : Fin 128) : Fin 8 := ⟨min (tab a 1 g).toNat 7, by omega⟩

variable (Vi : (c : Dev nD) → VTc Ideal c) (a : (pcfg2 (F := Ideal)).Adm) {nA : ℕ} (h : Good a.1 nA)
include h

theorem exp_eq (t : Fin grid2.N) : (tab a.1 1 (ent t)).toNat = (expOf a.1 (ent t)).val := by
  have := h.expert_lt (ent t) (lt23 t)
  show _ = min _ 7
  omega

theorem exp_tile (t : Fin grid2.N) (g : Fin 128) (hg : g.val = min t.val (nA - 1)) : expOf a.1 (ent t) = expOf a.1 g := by
  have ht : t.val < 23 := lt23 t
  by_cases hn : nA ≤ t.val
  · have hp := h.pos
    have hle := h.le
    have hl := h.expert_last (ent t) ht hn (by omega)
    have : g = ⟨nA - 1, by omega⟩ := Fin.ext (by show g.val = nA - 1; omega)
    rw [this]
    exact Fin.ext (congrArg (fun v : BitVec 32 => min v.toNat 7) hl)
  · exact congrArg _ (Fin.ext (by show t.val = g.val; omega))

theorem emb4 (t : Fin (cfg2 a).N) (i : Fin 2048) (e : Fin 128) (ht : min t.val (nA - 1) < 23) :
    ((((cfg2 a).win 4).blk t).view.emb (Idealize.ShloMosaic.ix2 i e) : S47104x128.Idx)
      = Idealize.ShloMosaic.ix2 (⟨min t.val (nA - 1) * 2048 + i.val, by omega⟩ : Fin 47104) e := by
  have i4 := index_4 a t
  rw [tile_eq h t] at i4
  have i' : (pcfg2.win a 4).index t = _ := i4
  blk_ext [i']
  · exact congrArg (· * 2048 + i.val) (congrFun i' (0 : Fin 2))
  · exact (congrArg (· * 128 + e.val) (congrFun i' (1 : Fin 2))).trans (by show 0 * 128 + _ = _; omega)

theorem stg0 (c : Dev nD) (t : Fin (cfg2 a).N) (i : Fin 2048) (e : Fin 128) (ht : min t.val (nA - 1) < 23) :
    (stg Vi a c 0 t : FVec Ideal S2048x128 .f32) (Idealize.ShloMosaic.ix2 i e)
      = Vi c main_v11 (Idealize.ShloMosaic.ix2 (⟨min t.val (nA - 1) * 2048 + i.val, by omega⟩ : Fin 47104) e) := by
  have i0 := index_0 a t
  rw [tile_eq h t] at i0
  have i' : (pcfg2.win a 0).index t = _ := i0
  blk_ext [stg, arrs, i']

theorem stg1 (c : Dev nD) (t : Fin (cfg2 a).N) (j : Fin 1024) (k : Fin 2048) :
    (stg Vi a c 1 t : FVec Ideal S1x1024x2048 .f32) (ix3 (0 : Fin 1) j k)
      = Vi c main_arg1 (ix3 (expOf a.1 (ent t)) j (⟨k.val, by omega⟩ : Fin 4096)) := by
  have i1 := index_1 a t
  rw [exp_eq a h t] at i1
  have i' : (pcfg2.win a 1).index t = _ := i1
  blk_ext [stg, arrs, i']

theorem stg2 (c : Dev nD) (t : Fin (cfg2 a).N) (j : Fin 1024) (k : Fin 2048) :
    (stg Vi a c 2 t : FVec Ideal S1x1024x2048 .f32) (ix3 (0 : Fin 1) j k)
      = Vi c main_arg1 (ix3 (expOf a.1 (ent t)) j (⟨2048 + k.val, by omega⟩ : Fin 4096)) := by
  have i2 := index_2 a t
  rw [exp_eq a h t] at i2
  have i' : (pcfg2.win a 2).index t = _ := i2
  blk_ext [stg, arrs, i']

theorem stg3 (c : Dev nD) (t : Fin (cfg2 a).N) (k : Fin 2048) (e : Fin 1024) :
    (stg Vi a c 3 t : FVec Ideal S1x2048x1024 .f32) (ix3 (0 : Fin 1) k e)
      = Vi c main_arg2 (ix3 (expOf a.1 (ent t)) k e) := by
  have i3 := index_3 a t
  rw [exp_eq a h t] at i3
  have i' : (pcfg2.win a 3).index t = _ := i3
  blk_ext [stg, arrs, i']

theorem flush_val (c : Dev nD) (t : Fin (cfg2 a).N) (i : Fin 2048) (e : Fin 128) :
    outBlk Vi a c t (Idealize.ShloMosaic.ix2 i e) = result (Vi c main_v11) (Vi c main_arg1) (Vi c main_arg2) (expOf a.1) ((((cfg2 a).win 4).blk t).view.emb (Idealize.ShloMosaic.ix2 i e)) := by
  have ht : t.val < 23 := lt23 t
  have hp := h.pos
  have hm : min t.val (nA - 1) < 23 := by omega
  refine (pay_at (stg Vi a c 0 t) (stg Vi a c 1 t) (stg Vi a c 2 t) (stg Vi a c 3 t) i e).trans ?_
  refine Eq.trans ?_ (congrArg (result (Vi c main_v11) (Vi c main_arg1) (Vi c main_arg2) (expOf a.1)) (emb4 a h t i e hm)).symm
  have hx : expOf a.1 (ent t) = expOf a.1 ⟨(min t.val (nA - 1) * 2048 + i.val) / 2048, by omega⟩ := exp_tile a h t _ (by dsimp only; omega)
  unfold result
  dsimp only
  congr 1
  · funext j
    refine (stg0 Vi a h c t _ _ hm).trans (congrArg (Vi c main_v11) ?_)
    exact congrArg (fun r => Idealize.ShloMosaic.ix2 r _) (Fin.ext (by dsimp only [Idealize.ShloMosaic.ix2]; omega))
  · funext j k
    refine (stg1 Vi a h c t j k).trans ?_
    rw [hx]; rfl
  · funext j k
    refine (stg2 Vi a h c t j k).trans ?_
    rw [hx]; rfl
  · funext k
    refine (stg3 Vi a h c t k _).trans ?_
    rw [hx]
    exact congrArg (fun r => Vi c main_arg2 (ix3 _ k r)) (Fin.ext (by dsimp only [Idealize.ShloMosaic.ix2]; omega))

theorem flush_val' (c : Dev nD) (t : Fin (cfg2 a).N) (y : S2048x128.Idx) :
    outBlk Vi a c t y = result (Vi c main_v11) (Vi c main_arg1) (Vi c main_arg2) (expOf a.1) ((((cfg2 a).win 4).blk t).view.emb y) := by
  obtain ⟨i, e, rfl⟩ : ∃ (i : Fin 2048) (e : Fin 128), y = Idealize.ShloMosaic.ix2 i e := ⟨_, _, eta y⟩
  exact flush_val Vi a h c t i e

theorem out_at (n : ℕ) (c : Dev nD) (i : Fin 47104) (e : Fin 128) (hi : i.val < nA * 2048) :
    out Vi a n c (Idealize.ShloMosaic.ix2 i e) = result (Vi c main_v11) (Vi c main_arg1) (Vi c main_arg2) (expOf a.1) (Idealize.ShloMosaic.ix2 i e) := by
  have hp := h.pos
  have hle := h.le
  obtain ⟨t, hft, hmt⟩ : ∃ t : Fin (cfg2 a).N, ((cfg2 a).win 4).flush t = true ∧ min t.val (nA - 1) = i.val / 2048 := by
    by_cases hl : i.val / 2048 + 1 < nA
    · refine ⟨⟨i.val / 2048, lt_of_lt_of_eq (by omega : i.val / 2048 < 23) N_2.symm⟩, ?_, ?_⟩
      · rw [flush_eq h]; exact decide_eq_true (Or.inr hl)
      · dsimp only; omega
    · refine ⟨⟨22, lt_of_lt_of_eq (by omega : 22 < 23) N_2.symm⟩, ?_, ?_⟩
      · rw [flush_eq h]; exact decide_eq_true (Or.inl rfl)
      · dsimp only; omega
  refine (dat Vi a n c).arrAt_apply_of_mem 4 _ ?_ (cfg2 a).N t _ t.isLt hft ?_
  · intro t _
    refine funext fun (y : S2048x128.Idx) => ?_
    exact flush_val' Vi a h c t y
  · have := emb4 a h t ⟨i.val % 2048, by omega⟩ e (by omega)
    have h2 : Idealize.ShloMosaic.ix2 i e = Idealize.ShloMosaic.ix2 (⟨min t.val (nA - 1) * 2048 + i.val % 2048, by omega⟩ : Fin 47104) e :=
      congrArg (fun r => Idealize.ShloMosaic.ix2 r e) (Fin.ext (by dsimp only; omega))
    rw [h2]
    rw [← this]
    exact View.emb_mem_set _ _

end Cert.Proof.GmmKI

end
-- ==== Proof.Chain.lean ====
/-
  The contents of memory along @main, as a chain of valuations, and the facts its calls need of them.
-/
module

public import proofs.«01_k».proof.Proof.RouterValue
public import proofs.«01_k».proof.Proof.RouterArrays
public import proofs.«01_k».proof.Proof.GmmArrays
public import proofs.«01_k».proof.Proof.SharedArrays
public import proofs.«01_k».proof.Proof.GatherDeal
public import proofs.«01_k».proof.Proof.ScatterDeal
public import Idealize.ShloMosaic.Lib.StableHlo.RunRead

@[expose] public section

noncomputable section

namespace Cert.Proof.Chain

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe
open Idealize.ShloMosaic.StableHlo (after)
open Cert.Proof.Region

/-! ## The host operations, the contents of memory along @main -/

/-- The operations before the router. -/
def ops1 : List (HloOp τ sig (Elt Ideal)) :=
  [ StableHlo.reshape main_arg0 main_v0 (rfl : (.f32 : EltTy) = .f32) shapeCasts_S2x2048x1024_S4096x1024,
    StableHlo.unary main_arg3 main_v1 ((transpose S1024x8 [1, 0] · transposes_S8x1024_S1024x8_1_0) : (⟨S8x1024, .f32⟩ : BufTy).Contents (Elt Ideal) → (⟨S1024x8, .f32⟩ : BufTy).Contents (Elt Ideal)),
    StableHlo.nullary main_c (constantI S_ 32 0#32),
    StableHlo.TRef.unary (.of main_c : StableHlo.TRef sig ⟨S_, .i32⟩) main_call0.v0 (sitofp (F := Ideal) (s := S_) (w := 32) .f32),
    StableHlo.TRef.binary (.of main_v1 : StableHlo.TRef sig ⟨S1024x8, .f32⟩) main_call0.v0 main_call0.v1 (fun x v => pad S1024x128 ![0, 0] ![0, 120] ![0, 0] x v pads_S1024x8_S1024x128_000_01200 h_S_) ]

/-- The operations between the router and the first SparseCore call. -/
def ops2 : List (HloOp τ sig (Elt Ideal)) :=
  [ StableHlo.unary main_v3_2 main_v4 ((extractStridedSlice S1x128 ![0, 0] · slices_S8x128_S1x128_0_0) : (⟨S8x128, .i32⟩ : BufTy).Contents (Elt Ideal) → (⟨S1x128, .i32⟩ : BufTy).Contents (Elt Ideal)),
    StableHlo.reshape main_v4 main_v5 (rfl : (.i32 : EltTy) = .i32) shapeCasts_S1x128_S128,
    StableHlo.unary main_v3_2 main_v6 ((extractStridedSlice S1x128 ![1, 0] · slices_S8x128_S1x128_1_0) : (⟨S8x128, .i32⟩ : BufTy).Contents (Elt Ideal) → (⟨S1x128, .i32⟩ : BufTy).Contents (Elt Ideal)),
    StableHlo.reshape main_v6 main_v7 (rfl : (.i32 : EltTy) = .i32) shapeCasts_S1x128_S128,
    StableHlo.unary main_v3_2 main_v8 ((extractStridedSlice S1x128 ![2, 0] · slices_S8x128_S1x128_2_0) : (⟨S8x128, .i32⟩ : BufTy).Contents (Elt Ideal) → (⟨S1x128, .i32⟩ : BufTy).Contents (Elt Ideal)),
    StableHlo.reshape main_v8 main_v9 (rfl : (.i32 : EltTy) = .i32) shapeCasts_S1x128_S128,
    StableHlo.reshape main_v3_1 main_v10 (rfl : (.i32 : EltTy) = .i32) shapeCasts_S4096x8_S1x32768 ]

abbrev Vl : Type := Valuation τ sig (Elt Ideal)

variable (m : (ℓ : Loc nD τ sig) → Buf (Elt Ideal) ℓ) (d : Dev nD)

def W0 : Vl := fun b => m (d, b)
def W1 : Vl := after ops1 (W0 m d)

/-- The tokens, flattened, and the router's weights, transposed and padded. -/
abbrev xv : FVec Ideal S4096x1024 .f32 := W1 m d (main_v0 : DevRef τ sig)
abbrev wv : FVec Ideal S1024x128 .f32 := W1 m d (main_v2 : DevRef τ sig)

/-- After the router. -/
def W2 : Vl :=
  Function.update (Function.update (Function.update (W1 m d) (main_v3_0 : DevRef τ sig) (RouterKI.rowsOut (F := Ideal) (xv m d) (wv m d)))
    (main_v3_1 : DevRef τ sig) (RouterKI.posOut (F := Ideal) (xv m d) (wv m d))) (main_v3_2 : DevRef τ sig) (RouterKI.mdOut (F := Ideal) (xv m d) (wv m d))
def W3 : Vl := after ops2 (W2 m d)

/-- Memory at the first SparseCore call. -/
def ms : (ℓ : Loc nD τ sig) → Buf (Elt Ideal) ℓ := fun ℓ => W3 m ℓ.1 ℓ.2

/-- After it. -/
def W4 : Vl := Function.update (W3 m d) (main_v11 : DevRef τ sig) (ScatterKI.G (ms m) d)

/-- A valuation read by TensorCore reference. -/
abbrev tc (W : Dev nD → Vl) (c : Dev nD) : VTc Ideal c := fun b => W c (b : DevRef τ sig)

theorem ref_ne {a b : Ref sig .tc} (h : a ≠ b) : (a : DevRef τ sig) ≠ (b : DevRef τ sig) :=
  fun e => h (Proc.devRef_injective (Proc.tc (τ := τ)) e)

theorem upd_self (W : Vl) (b : Ref sig .tc) (f) : Function.update W (b : DevRef τ sig) f (b : DevRef τ sig) = f := Function.update_self _ _ _
theorem upd_ne (W : Vl) {a b : Ref sig .tc} (h : b ≠ a) (f) : Function.update W (a : DevRef τ sig) f (b : DevRef τ sig) = W (b : DevRef τ sig) :=
  Function.update_of_ne (ref_ne h) _ _

theorem W4_ne {b : Ref sig .tc} (h : b ≠ main_v11) : W4 m d (b : DevRef τ sig) = W3 m d (b : DevRef τ sig) := upd_ne _ h _

theorem W2_rows : W2 m d (main_v3_0 : DevRef τ sig) = RouterKI.rowsOut (F := Ideal) (xv m d) (wv m d) := by
  unfold W2
  rw [upd_ne _ (by decide), upd_ne _ (by decide), upd_self]
theorem W2_pos : W2 m d (main_v3_1 : DevRef τ sig) = RouterKI.posOut (F := Ideal) (xv m d) (wv m d) := by
  unfold W2
  rw [upd_ne _ (by decide), upd_self]
theorem W2_md : W2 m d (main_v3_2 : DevRef τ sig) = RouterKI.mdOut (F := Ideal) (xv m d) (wv m d) := by
  unfold W2
  rw [upd_self]
theorem W2_ne {b : Ref sig .tc} (h0 : b ≠ main_v3_0) (h1 : b ≠ main_v3_1) (h2 : b ≠ main_v3_2) : W2 m d (b : DevRef τ sig) = W1 m d (b : DevRef τ sig) := by
  unfold W2
  rw [upd_ne _ h2, upd_ne _ h1, upd_ne _ h0]

/-! ## What the operations between leave -/

theorem after2_tile (W : Vl) (g : Fin 128) :
    (after ops2 W (main_v5 : DevRef τ sig) : (⟨S128, .i32⟩ : BufTy).Contents (Elt Ideal)) (GmmKI.at1 g)
      = (W (main_v3_2 : DevRef τ sig) : (⟨S8x128, .i32⟩ : BufTy).Contents (Elt Ideal)) (Idealize.ShloMosaic.ix2 (0 : Fin 8) g) := by
  unfold ops2
  after_results
  pointwise

theorem after2_expert (W : Vl) (g : Fin 128) :
    (after ops2 W (main_v7 : DevRef τ sig) : (⟨S128, .i32⟩ : BufTy).Contents (Elt Ideal)) (GmmKI.at1 g)
      = (W (main_v3_2 : DevRef τ sig) : (⟨S8x128, .i32⟩ : BufTy).Contents (Elt Ideal)) (Idealize.ShloMosaic.ix2 (1 : Fin 8) g) := by
  unfold ops2
  after_results
  pointwise

theorem after2_active (W : Vl) (g : Fin 128) :
    (after ops2 W (main_v9 : DevRef τ sig) : (⟨S128, .i32⟩ : BufTy).Contents (Elt Ideal)) (GmmKI.at1 g)
      = (W (main_v3_2 : DevRef τ sig) : (⟨S8x128, .i32⟩ : BufTy).Contents (Elt Ideal)) (Idealize.ShloMosaic.ix2 (2 : Fin 8) g) := by
  unfold ops2
  after_results
  pointwise

theorem after2_words (W : Vl) (r : Fin 32768) :
    (after ops2 W (main_v10 : DevRef τ sig) : (⟨S1x32768, .i32⟩ : BufTy).Contents (Elt Ideal)) (Idealize.ShloMosaic.ix2 (0 : Fin 1) r)
      = (W (main_v3_1 : DevRef τ sig) : (⟨S4096x8, .i32⟩ : BufTy).Contents (Elt Ideal)) (Idealize.ShloMosaic.ix2 (⟨r.val / 8, by omega⟩ : Fin 4096) (⟨r.val % 8, by omega⟩ : Fin 8)) := by
  unfold ops2
  after_results
  pointwise

theorem after1_x (W : Vl) (t : Fin 4096) (j : Fin 1024) :
    (after ops1 W (main_v0 : DevRef τ sig) : FVec Ideal S4096x1024 .f32) (Idealize.ShloMosaic.ix2 t j)
      = (W (main_arg0 : DevRef τ sig) : FVec Ideal S2x2048x1024 .f32) (ix3 (⟨t.val / 2048, by omega⟩ : Fin 2) (⟨t.val % 2048, by omega⟩ : Fin 2048) j) := by
  unfold ops1
  after_results
  pointwise

theorem after1_w (W : Vl) (k : Fin 1024) (e : Fin 128) (he : e.val < 8) :
    (after ops1 W (main_v2 : DevRef τ sig) : FVec Ideal S1024x128 .f32) (Idealize.ShloMosaic.ix2 k e)
      = (W (main_arg3 : DevRef τ sig) : FVec Ideal S8x1024 .f32) (Idealize.ShloMosaic.ix2 (⟨e.val, he⟩ : Fin 8) k) := by
  unfold ops1
  after_results
  change pad S1024x128 ![0, 0] ![0, 120] ![0, 0]
    (transpose S1024x8 [1, 0] (W (main_arg3 : DevRef τ sig) : FVec Ideal S8x1024 .f32) transposes_S8x1024_S1024x8_1_0)
    (sitofp (F := Ideal) .f32 (constantI S_ 32 0#32))  pads_S1024x8_S1024x128_000_01200 h_S_ (Idealize.ShloMosaic.ix2 k e) = _
  pointwise
  rw [dif_pos he]

/-- A buffer the first operations do not write keeps its contents at launch; -/
theorem W1_arg {b : Ref sig .tc} (h : b ∉ [main_v0, main_v1, main_c, main_call0_v0, main_v2]) : W1 m d (b : DevRef τ sig) = m ((d.tc : Thread nD τ).loc b) :=
  StableHlo.after_unwritten [main_v0, main_v1, main_c, main_call0_v0, main_v2] rfl h _

/-- and one the second do not write, the router's. -/
theorem W3_ne {b : Ref sig .tc} (h : b ∉ [main_v4, main_v5, main_v6, main_v7, main_v8, main_v9, main_v10]) : W3 m d (b : DevRef τ sig) = W2 m d (b : DevRef τ sig) :=
  StableHlo.after_unwritten [main_v4, main_v5, main_v6, main_v7, main_v8, main_v9, main_v10] rfl h _

/-! ## The places -/

/-- A token's expert. -/
abbrev ex : ℕ → ℕ := RouterKI.expert (xv m d) (wv m d)
theorem hex (t : ℕ) (_ : t < 4096) : ex m d t < 8 := RouterKI.expert_lt _ _ t

theorem word_eq (r : Fin 32768) :
    (W3 m d (main_v10 : DevRef τ sig) : (⟨S1x32768, .i32⟩ : BufTy).Contents (Elt Ideal)) (Idealize.ShloMosaic.ix2 (0 : Fin 1) r)
      = BitVec.ofNat 32 (RouterKI.place (ex m d) (r.val / 8) * 8 + r.val % 8) := by
  unfold W3
  rw [after2_words, W2_pos]
  exact RouterKI.posOut_is (xv m d) (wv m d) _ _

theorem word_nat (r : ℕ) (hr : r < 32768) :
    (GatherKI.wordAt (W3 m d (main_v10 : DevRef τ sig) : (⟨S1x32768, .i32⟩ : BufTy).Contents (Elt Ideal)) r).toNat
      = RouterKI.place (ex m d) (r / 8) * 8 + r % 8 := by
  unfold GatherKI.wordAt
  rw [word_eq]
  have := RouterKI.place_lt (ex m d) (hex m d) (r / 8) (by omega)
  rw [BitVec.toNat_ofNat]
  dsimp only
  rw [Nat.mod_eq_of_lt hr]
  omega

theorem words_lt (j : S1x32768.Idx) : ((W3 m d (main_v10 : DevRef τ sig) : (⟨S1x32768, .i32⟩ : BufTy).Contents (Elt Ideal)) j).toNat < 47104 := by
  obtain ⟨r, rfl⟩ : ∃ r : Fin 32768, j = Idealize.ShloMosaic.ix2 (0 : Fin 1) r := ⟨j 1, by
    funext a
    match a with
    | ⟨0, _⟩ => exact Fin.ext (by have h : (j 0).val < 1 := (j 0).isLt; show (j 0).val = 0; omega)
    | ⟨1, _⟩ => rfl⟩
  rw [word_eq]
  have := RouterKI.place_lt (ex m d) (hex m d) (r.val / 8) (by omega)
  rw [BitVec.toNat_ofNat]
  omega

theorem distinct : ScatterKI.Distinct (W3 m d (main_v10 : DevRef τ sig) : (⟨S1x32768, .i32⟩ : BufTy).Contents (Elt Ideal)) := by
  intro r r' hr hr' h
  have e := word_nat m d r hr
  have e' := word_nat m d r' hr'
  have h' : RouterKI.place (ex m d) (r / 8) * 8 + r % 8 = RouterKI.place (ex m d) (r' / 8) * 8 + r' % 8 := by
    rw [← e, ← e']; exact h
  have := RouterKI.place_inj (ex m d) (hex m d) (t := r / 8) (t' := r' / 8) (by omega) (by omega) (by omega)
  omega

theorem scatterOK : ScatterKI.PreOK (F := Ideal) (ms m) where
  lt d j := words_lt m d j
  inj d := distinct m d

/-! ## The tables -/

def tabs : pre2.Contents (Elt Ideal) := fun k => W4 m 0 (pre2.ref k : DevRef τ sig)

theorem tab_tile (g : Fin 128) : GmmKI.tab (tabs m) 0 g = BitVec.ofNat 32 (min g.val (RouterKI.act (ex m 0) - 1)) := by
  show (W4 m 0 (main_v5 : DevRef τ sig) : (⟨S128, .i32⟩ : BufTy).Contents (Elt Ideal)) (GmmKI.at1 g) = _
  rw [W4_ne m 0 (by decide)]
  unfold W3
  rw [after2_tile, W2_md]
  exact RouterKI.mdOut_tile _ _ g

theorem tab_expert (g : Fin 128) : GmmKI.tab (tabs m) 1 g = BitVec.ofNat 32 (RouterKI.owner (ex m 0) (min g.val (RouterKI.act (ex m 0) - 1))) := by
  show (W4 m 0 (main_v7 : DevRef τ sig) : (⟨S128, .i32⟩ : BufTy).Contents (Elt Ideal)) (GmmKI.at1 g) = _
  rw [W4_ne m 0 (by decide)]
  unfold W3
  rw [after2_expert, W2_md]
  exact RouterKI.mdOut_expert _ _ g

theorem tab_active (g : Fin 128) : GmmKI.tab (tabs m) 2 g = BitVec.ofNat 32 (if g.val < RouterKI.act (ex m 0) then 1 else 0) := by
  show (W4 m 0 (main_v9 : DevRef τ sig) : (⟨S128, .i32⟩ : BufTy).Contents (Elt Ideal)) (GmmKI.at1 g) = _
  rw [W4_ne m 0 (by decide)]
  unfold W3
  rw [after2_active, W2_md]
  exact RouterKI.mdOut_active _ _ g

theorem tab_expert_nat (g : Fin 128) : (GmmKI.tab (tabs m) 1 g).toNat = RouterKI.owner (ex m 0) (min g.val (RouterKI.act (ex m 0) - 1)) := by
  rw [tab_expert, BitVec.toNat_ofNat]
  have := RouterKI.owner_lt (ex m 0) (hex m 0) (min g.val (RouterKI.act (ex m 0) - 1))
  omega

theorem good : GmmKI.Good (tabs m) (RouterKI.act (ex m 0)) where
  pos := RouterKI.act_pos _ (hex m 0)
  le := RouterKI.act_le _ (hex m 0)
  tile g hg := by rw [tab_tile, BitVec.toNat_ofNat]; omega
  expert_lt g hg := by rw [tab_expert_nat]; exact RouterKI.owner_lt _ (hex m 0) _
  expert_last g hg hn h := by
    rw [tab_expert, tab_expert]
    have hp := RouterKI.act_pos _ (hex m 0)
    rw [show min g.val (RouterKI.act (ex m 0) - 1) = min (RouterKI.act (ex m 0) - 1) (RouterKI.act (ex m 0) - 1) by omega]
  active g hg := by
    rw [tab_active]
    split <;> rfl

/-- The tables the pipelines run at: the second's, from memory at its region. -/
def adm : (p : Fin 3) → (pcfgs (F := Ideal) p).Adm
  | ⟨0, _⟩ => cfg0.toPCfg_adm
  | ⟨1, _⟩ => ⟨tabs m, (good m).ok⟩
  | ⟨2, _⟩ => cfg4.toPCfg_adm

/-! ## The rest of the chain -/

/-- After the experts. -/
def W5 : Vl := Function.update (W4 m d) (main_v12 : DevRef τ sig) (GmmKI.out (tc (W4 m)) (adm m 1) 1 d)

/-- Memory at the second SparseCore call. -/
def mg : (ℓ : Loc nD τ sig) → Buf (Elt Ideal) ℓ := fun ℓ => W5 m ℓ.1 ℓ.2

/-- After it, and after the shared expert. -/
def W6 : Vl := Function.update (W5 m d) (main_v13 : DevRef τ sig) (GatherKI.G (mg m) d)
def W7 : Vl := Function.update (W6 m d) (main_v14 : DevRef τ sig) (SharedKI.out (tc (W6 m)) 2 d)

theorem W5_ne {b : Ref sig .tc} (h : b ≠ main_v12) : W5 m d (b : DevRef τ sig) = W4 m d (b : DevRef τ sig) := upd_ne _ h _
theorem W6_ne {b : Ref sig .tc} (h : b ≠ main_v13) : W6 m d (b : DevRef τ sig) = W5 m d (b : DevRef τ sig) := upd_ne _ h _
theorem W7_ne {b : Ref sig .tc} (h : b ≠ main_v14) : W7 m d (b : DevRef τ sig) = W6 m d (b : DevRef τ sig) := upd_ne _ h _

theorem gatherOK : GatherKI.PreOK (F := Ideal) (mg m) := fun d j => by
  show ((W5 m d (main_v10 : DevRef τ sig) : (⟨S1x32768, .i32⟩ : BufTy).Contents (Elt Ideal)) j).toNat < 47104
  rw [W5_ne m d (by decide), W4_ne m d (by decide)]
  exact words_lt m d j

/-- An argument, at the end, is as at launch. -/
theorem W7_arg {b : Ref sig .tc}
    (h : b ∉ [main_v0, main_v1, main_c, main_call0_v0, main_v2, main_v3_0, main_v3_1, main_v3_2, main_v4, main_v5, main_v6, main_v7, main_v8, main_v9, main_v10,
      main_v11, main_v12, main_v13, main_v14]) : W7 m d (b : DevRef τ sig) = m ((d.tc : Thread nD τ).loc b) := by
  simp only [List.mem_cons, List.not_mem_nil, or_false, not_or] at h
  rw [W7_ne m d (by tauto), W6_ne m d (by tauto), W5_ne m d (by tauto), W4_ne m d (by tauto), W3_ne m d (by simp only [List.mem_cons, List.not_mem_nil]; tauto),
    W2_ne m d (by tauto) (by tauto) (by tauto), W1_arg m d (by simp only [List.mem_cons, List.not_mem_nil]; tauto)]

end Cert.Proof.Chain

end
-- ==== Proof.Launch.lean ====
/-
  The whole program's run: the router, the scatter, the grouped network, the gather and the shared network, over the unscoped buffers.
-/
module

public import proofs.«01_k».proof.Proof.LaunchPay
public import proofs.«01_k».proof.Proof.Chain
public import proofs.«01_k».proof.Proof.RouterArrays
public import proofs.«01_k».proof.Proof.RouterRegion
public import proofs.«01_k».proof.Proof.GmmRegion
public import proofs.«01_k».proof.Proof.SharedRegion

@[expose] public section

noncomputable section

namespace Cert.Proof.Launch

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe
open Idealize.ShloMosaic.StableHlo (after)
open Cert.Proof.Region Cert.Proof.Chain

/-! ## The unscoped buffers, taken apart -/

/-- The unscoped buffers. -/
abbrev uc : Finset (Ref sig .tc) := Finset.univ.filter fun b => ¬ b.isScoped

theorem mem_uc {b : Ref sig .tc} (h : ¬ b.isScoped) : b ∈ uc := Finset.mem_filter.mpr ⟨Finset.mem_univ _, h⟩

section Split
variable {F : FTy → Type}
local notation "𝕄'" => MT nD τ sig (HIx 2) (Elt F) ℕ UU ℕ

/-- The unscoped buffers but three. -/
def rest3 (a b c : Ref sig .tc) (d : Dev nD) (W : VTc F d) : sProp 𝕄' :=
  bigSep (((uc.erase a).erase b).erase c) fun r => (d.tc : Thread nD τ).loc r ↦{fullShare} W r

theorem split3 (d : Dev nD) (W : VTc F d) {a b c : Ref sig .tc} (ha : ¬ a.isScoped) (hb : ¬ b.isScoped) (hc : ¬ c.isScoped)
    (hab : b ≠ a) (hac : c ≠ a) (hbc : c ≠ b) :
    (unscopedBufs d W : sProp 𝕄') = iprop(((d.tc : Thread nD τ).loc a ↦{fullShare} W a) ∗ ((d.tc : Thread nD τ).loc b ↦{fullShare} W b)
      ∗ ((d.tc : Thread nD τ).loc c ↦{fullShare} W c) ∗ rest3 a b c d W) := by
  unfold unscopedBufs rest3
  rw [SparseCore.bigSep_erase' (mem_uc ha), SparseCore.bigSep_erase' (Finset.mem_erase.mpr ⟨hab, mem_uc hb⟩),
    SparseCore.bigSep_erase' (Finset.mem_erase.mpr ⟨hbc, Finset.mem_erase.mpr ⟨hac, mem_uc hc⟩⟩)]

theorem rest3_congr {a b c : Ref sig .tc} {d : Dev nD} {W W' : VTc F d} (h : ∀ r, r ≠ c → W r = W' r) : rest3 a b c d W = rest3 a b c d W' :=
  bigSep_congr fun r hr => by rw [h r (Finset.mem_erase.mp hr).1]

theorem uc_agree (d : Dev nD) (W : VTc F d) (s' : Phys nD τ sig (Elt F)) :
    iprop(unscopedBufs d W ∗ SI s') ⊢ (⌜∀ b : Ref sig .tc, ¬ b.isScoped → s'.mem.mem ((d.tc : Thread nD τ).loc b) = W b⌝ : sProp 𝕄') := by
  refine BIBase.Entails.trans (Q := iprop(∀ b : Ref sig .tc, ⌜¬ b.isScoped → s'.mem.mem ((d.tc : Thread nD τ).loc b) = W b⌝)) (forall_intro fun b => ?_) pure_forall.2
  by_cases hb : b.isScoped
  · exact BIClass.pure_intro fun h => absurd hb h
  · unfold unscopedBufs
    iintro ⟨H, HSI⟩
    ihave H := (show (bigSep uc fun r => (d.tc : Thread nD τ).loc r ↦{fullShare} W r : sProp 𝕄') ⊢ (d.tc : Thread nD τ).loc b ↦{fullShare} W b from bigSep_elim (mem_uc hb)) $$ H
    ihave H := (SI_pointsTo_agree (st := s') (ℓ := (d.tc : Thread nD τ).loc b) (I := Finset.univ) (q := fullShare) (f := W b)) $$ [HSI H]
    · isplitl [HSI] <;> iassumption
    icases H with %h
    ipureintro
    exact fun _ => funext fun i => h i (Finset.mem_univ i)

end Split

local notation "𝕂" => MT nD τ sig (HIx 2) (Elt Ideal) ℕ UU ℕ

variable (m : (ℓ : Loc nD τ sig) → Buf (Elt Ideal) ℓ) (g : Dev nD → PrngReg) (κ : GSem nD τ sig → ℕ) (d : Dev nD)

/-- What the handshakes carry in this program. -/
abbrev PM : (K (F := Ideal)).Pay (nD := nD) (Val := Elt Ideal) (Name := ℕ) (U := UU) := P (ms m) (mg m)

/-! ## The program's steps, each over the unscoped buffers -/

set_option backward.isDefEq.respectTransparency.types false in
/-- Operations on arrays. -/
theorem ops_wp (ops : List (HloOp τ sig (Elt Ideal))) (hS : ∀ op ∈ ops, op.bufs ⊆ ucRefs) (hf : ∀ op ∈ ops, op.fresh = ∅) (W : Vl) {β : Type}
    (k : PUnit → Prog (TpuEff nD τ sig (Elt Ideal) (SparseCore.Sig (ΛP (F := Ideal)) 2) .tc) β) (Φ : β → sProp 𝕂) :
    iprop((boundary (SparseCore.T d) ∗ unscopedBufs d (tc (fun _ => W) d))
        ∗ ((boundary (SparseCore.T d) ∗ unscopedBufs d (tc (fun _ => after ops W) d))
          -∗ wp frame (wpE ((K (F := Ideal)).defs (D (F := Ideal))) 𝒱 (SparseCore.T d) none) Set.univ (k ⟨⟩) Φ))
      ⊢ wp frame (wpE ((K (F := Ideal)).defs (D (F := Ideal))) 𝒱 (SparseCore.T d) none) Set.univ (StableHlo.seq ops >>= k) Φ := by
  have h := StableHlo.wp_seq (defs := (K (F := Ideal)).defs (D (F := Ideal))) 𝒱 (bd := none) (E := Set.univ) (Name := ℕ) (U := UU) (Ix := HIx 2) d ucRefs k (K := Φ) ops hS hf W
  rw [show (unscopedBufs d (tc (fun _ => W) d) : sProp 𝕂) = StableHlo.held (T d) ucRefs W from unscopedBufs_held d W,
    show (unscopedBufs d (tc (fun _ => after ops W) d) : sProp 𝕂) = StableHlo.held (T d) ucRefs (after ops W) from unscopedBufs_held d _]
  exact BI.wand_elim h

set_option backward.isDefEq.respectTransparency.types false in
/-- A region. -/
theorem region_wp {p : Fin 3} {pd : (p : Fin 3) → (c : Dev nD) → Pipeline.Dat τ (Elt Ideal) (HIx 2) ℕ UU ℕ (Pipeline.pin (pcfgs (F := Ideal)) (adm m) p) c}
    (R : Pipeline.RegionSeg (pcfgs (F := Ideal)) (adm m) pd none defs₀ 𝒱₀ (K (F := Ideal)).L (K (F := Ideal)).lev p) (Φ : PUnit → sProp 𝕂) :
    iprop((K (F := Ideal)).ctx EH (PM m) κ ∗ boundary (SparseCore.T d) ∗ R.pre d
        ∗ (Pipeline.cellsGhost (Pipeline.pin (pcfgs (F := Ideal)) (adm m)) EP p d ∗ Pipeline.toksInit (Pipeline.pin (pcfgs (F := Ideal)) (adm m)) EP p d)
        ∗ ((boundary (SparseCore.T d) ∗ R.post d) -∗ Φ ⟨⟩))
      ⊢ wp frame (wpE ((K (F := Ideal)).defs (D (F := Ideal))) 𝒱 (SparseCore.T d) none) Set.univ
          (Prog.lift (.customCall (SparseCore.inner (Pipeline.entry p)) ())) Φ := by
  refine BIBase.Entails.trans ?_ ((K (F := Ideal)).wp_liftProg (D (F := Ideal)) 𝒱 (SparseCore.T d) Set.univ none
    (Prog.op (.customCall (Pipeline.entry p) ()) fun _ => Prog.ret PUnit.unit) Φ)
  refine BIBase.Entails.trans ?_ (Pipeline.RegionSeg.wp (pcfgs (F := Ideal)) (adm m) pd none (cellOf_inj (F := Ideal) (adm m)) EP defs₀ 𝒱₀
    (K (F := Ideal)).L (K (F := Ideal)).lev R d none (fun _ h => nomatch h) (fun _ => Prog.ret PUnit.unit) Φ)
  iintro ⟨#Hctx, Hb, Hpre, ⟨Hg, Ht⟩, Hk⟩
  isplitl [Hk]
  · iintro H
    rw [wp_ret]; imodintro
    iapply Hk; iexact H
  isplitl [Hb]; · iexact Hb
  isplitl [Hpre]; · iexact Hpre
  isplitr; · iapply ((K (F := Ideal)).ctx_levAts κ); iexact Hctx
  isplitl [Hg] <;> iassumption

/-- The scatter. -/
theorem scatter_wp (Φ : PUnit → sProp 𝕂) :
    iprop((K (F := Ideal)).ctx EH (PM m) κ ∗ (K (F := Ideal)).tcSt EH d 0 ∗ unscopedBufs d (tc (W3 m) d)
        ∗ (((K (F := Ideal)).tcSt EH d 1 ∗ unscopedBufs d (tc (W4 m) d)) -∗ Φ ⟨⟩))
      ⊢ wp frame (wpE ((K (F := Ideal)).defs (D (F := Ideal))) 𝒱 (SparseCore.T d) none) Set.univ ((K (F := Ideal)).run d 0) Φ := by
  have hX := (scatterOK m).inj
  rw [split3 d (tc (W3 m) d) (a := main_v10) (b := main_v3_0) (c := main_v11) (by decide) (by decide) (by decide) (by decide) (by decide) (by decide),
    split3 d (tc (W4 m) d) (a := main_v10) (b := main_v3_0) (c := main_v11) (by decide) (by decide) (by decide) (by decide) (by decide) (by decide),
    rest3_congr (W := tc (W4 m) d) (W' := tc (W3 m) d) fun r hr => W4_ne m d hr]
  have e10 : tc (W4 m) d main_v10 = tc (W3 m) d main_v10 := W4_ne m d (by decide)
  have e3 : tc (W4 m) d main_v3_0 = tc (W3 m) d main_v3_0 := W4_ne m d (by decide)
  have e11 : tc (W4 m) d main_v11 = ScatterKI.G (ms m) d := upd_self _ _ _
  rw [e10, e3, e11]
  change iprop((K (F := Ideal)).ctx EH (PM m) κ ∗ (K (F := Ideal)).tcSt EH d 0
      ∗ ((ScatterKI.iLoc d ↦{fullShare} ms m (ScatterKI.iLoc d)) ∗ (ScatterKI.oLoc d ↦{fullShare} ms m (ScatterKI.oLoc d))
        ∗ (ScatterKI.xLoc d ↦{fullShare} ms m (ScatterKI.xLoc d)) ∗ rest3 main_v10 main_v3_0 main_v11 d (tc (W3 m) d))
      ∗ (((K (F := Ideal)).tcSt EH d 1 ∗ (ScatterKI.iLoc d ↦{fullShare} ms m (ScatterKI.iLoc d)) ∗ (ScatterKI.oLoc d ↦{fullShare} ms m (ScatterKI.oLoc d))
        ∗ (ScatterKI.xLoc d ↦{fullShare} ScatterKI.G (ms m) d) ∗ rest3 main_v10 main_v3_0 main_v11 d (tc (W3 m) d)) -∗ Φ ⟨⟩)) ⊢ _
  iintro ⟨#Hctx, Hst, ⟨Hi, Ho, Hx, Hr⟩, Hk⟩
  ihave Hx := (ScatterKI.target_split (ms m) d (ms m (ScatterKI.xLoc d))).1 $$ Hx
  icases Hx with ⟨Hx, Hxr⟩
  ihave Hxr := (Entails.of_eq (ScatterKI.rest_congr (ms m) d)) $$ Hxr
  iapply ((K (F := Ideal)).wp_run (D (F := Ideal)) 𝒱 (EH := EH) (P := PM m) κ d 0) $$ [Hst Hi Ho Hx Hxr Hr Hk]
  isplitr; · iexact Hctx
  isplitl [Hst]; · iexact Hst
  isplitl [Hi Ho Hx]
  · rw [st0_eq (ms m) (mg m) hX]
    isplitl [Hi]; · iexact Hi
    isplitl [Ho] <;> iassumption
  iintro ⟨Hst, Hdn⟩
  ihave H := (Entails.of_eq (dn0_eq (ms m) (mg m) hX d)) $$ Hdn
  icases H with ⟨Hi, Ho, Hx⟩
  iapply Hk
  isplitl [Hst]; · iexact Hst
  isplitl [Hi]; · iexact Hi
  isplitl [Ho]; · iexact Ho
  isplitl [Hx Hxr]
  · iapply (ScatterKI.target_split (ms m) d (ScatterKI.G (ms m) d)).2
    isplitl [Hx] <;> iassumption
  · iexact Hr

/-- The gather. -/
theorem gather_wp (Φ : PUnit → sProp 𝕂) :
    iprop((K (F := Ideal)).ctx EH (PM m) κ ∗ (K (F := Ideal)).tcSt EH d 1 ∗ unscopedBufs d (tc (W5 m) d)
        ∗ (((K (F := Ideal)).tcSt EH d 2 ∗ unscopedBufs d (tc (W6 m) d)) -∗ Φ ⟨⟩))
      ⊢ wp frame (wpE ((K (F := Ideal)).defs (D (F := Ideal))) 𝒱 (SparseCore.T d) none) Set.univ ((K (F := Ideal)).run d 1) Φ := by
  rw [split3 d (tc (W5 m) d) (a := main_v12) (b := main_v10) (c := main_v13) (by decide) (by decide) (by decide) (by decide) (by decide) (by decide),
    split3 d (tc (W6 m) d) (a := main_v12) (b := main_v10) (c := main_v13) (by decide) (by decide) (by decide) (by decide) (by decide) (by decide),
    rest3_congr (W := tc (W6 m) d) (W' := tc (W5 m) d) fun r hr => W6_ne m d hr]
  have e12 : tc (W6 m) d main_v12 = tc (W5 m) d main_v12 := W6_ne m d (by decide)
  have e10 : tc (W6 m) d main_v10 = tc (W5 m) d main_v10 := W6_ne m d (by decide)
  have e13 : tc (W6 m) d main_v13 = GatherKI.G (mg m) d := upd_self _ _ _
  rw [e10, e12, e13]
  change iprop((K (F := Ideal)).ctx EH (PM m) κ ∗ (K (F := Ideal)).tcSt EH d 1
      ∗ (GatherKI.xPts (mg m) d fullShare ∗ (GatherKI.iLoc d ↦{fullShare} mg m (GatherKI.iLoc d))
        ∗ (GatherKI.oLoc d ↦{fullShare} mg m (GatherKI.oLoc d)) ∗ rest3 main_v12 main_v10 main_v13 d (tc (W5 m) d))
      ∗ (((K (F := Ideal)).tcSt EH d 2 ∗ GatherKI.xPts (mg m) d fullShare ∗ (GatherKI.iLoc d ↦{fullShare} mg m (GatherKI.iLoc d))
        ∗ (GatherKI.oLoc d ↦{fullShare} GatherKI.G (mg m) d) ∗ rest3 main_v12 main_v10 main_v13 d (tc (W5 m) d)) -∗ Φ ⟨⟩)) ⊢ _
  iintro ⟨#Hctx, Hst, ⟨Hx, Hi, Ho, Hr⟩, Hk⟩
  iapply ((K (F := Ideal)).wp_run (D (F := Ideal)) 𝒱 (EH := EH) (P := PM m) κ d 1) $$ [Hst Hi Ho Hx Hr Hk]
  isplitr; · iexact Hctx
  isplitl [Hst]; · iexact Hst
  isplitl [Hi Ho Hx]
  · rw [st1_eq (ms m) (mg m)]
    isplitl [Hx]; · iexact Hx
    isplitl [Hi] <;> iassumption
  iintro ⟨Hst, Hdn⟩
  ihave H := (Entails.of_eq (dn1_eq (ms m) (mg m) d)) $$ Hdn
  icases H with ⟨Hx, Hi, Ho⟩
  iapply Hk
  isplitl [Hst]; · iexact Hst
  isplitl [Hx]; · iexact Hx
  isplitl [Hi]; · iexact Hi
  isplitl [Ho] <;> iassumption

/-! ## The regions -/

/-- The router, between the valuations around it. -/
def reg0 := RouterKI.reg (F := Ideal) (tc (W1 m)) (adm m) (tc (W2 m)) 0 (fun _ => iprop(emp))
  (fun c => (W2_rows m c).trans (RouterKI.rows_arr (tc (W1 m)) 0 c).symm) (fun c => (W2_pos m c).trans (RouterKI.pos_arr (tc (W1 m)) 0 c).symm)
  (fun c => (W2_md m c).trans (RouterKI.md_arr (tc (W1 m)) 0 c).symm) (fun c _ h0 h1 h2 => W2_ne m c h0 h1 h2)

/-- The grouped network. -/
def reg1 := GmmKI.reg (F := Ideal) (tc (W4 m)) (adm m) (tc (W5 m)) 1 (fun _ => iprop(emp)) (good m)
  (fun c _ => by obtain rfl : c = 0 := Subsingleton.elim _ _; rfl) (fun _ => upd_self _ _ _) (fun c _ h => W5_ne m c h)

/-- The shared network. -/
def reg2 := SharedKI.reg (F := Ideal) (tc (W6 m)) (adm m) (tc (W7 m)) 2 (fun _ => iprop(emp)) (fun _ => upd_self _ _ _) (fun c _ h => W7_ne m c h)

/-- The rest of the TensorCore's state between calls, its `owes` apart. -/
theorem tcSt_owes (n : ℕ) : ∃ R : sProp 𝕂, (K (F := Ideal)).tcSt EH d n = iprop(owesTc (F := Ideal) d n ∗ R) := by
  unfold SparseCore.Cfg.tcSt owesTc
  exact ⟨_, rfl⟩

/-- A pipeline's ghost state. -/
abbrev ghost (p : Fin 3) : sProp 𝕂 :=
  iprop(Pipeline.cellsGhost (Pipeline.pin (pcfgs (F := Ideal)) (adm m)) EP p d ∗ Pipeline.toksInit (Pipeline.pin (pcfgs (F := Ideal)) (adm m)) EP p d)

theorem ghost_all : (bigSep Finset.univ fun p : Fin 3 => ghost m d p) = iprop(ghost m d 0 ∗ ghost m d 1 ∗ ghost m d 2) := by
  rw [show (Finset.univ : Finset (Fin 3)) = {0, 1, 2} by decide, SparseCore.bigSep_insert' (by decide), SparseCore.bigSep_insert' (by decide), bigSep_singleton]

theorem region_step {p : Fin 3} {pd : (p : Fin 3) → (c : Dev nD) → Pipeline.Dat τ (Elt Ideal) (HIx 2) ℕ UU ℕ (Pipeline.pin (pcfgs (F := Ideal)) (adm m) p) c}
    (R : Pipeline.RegionSeg (pcfgs (F := Ideal)) (adm m) pd none defs₀ 𝒱₀ (K (F := Ideal)).L (K (F := Ideal)).lev p) {n : ℕ} {Vi Vp : Dev nD → Vl}
    (h0 : R.pre d = iprop(unscopedBufs d (tc Vi d) ∗ emp ∗ owesTc (F := Ideal) d n)) (h1 : R.post d = iprop(unscopedBufs d (tc Vp d) ∗ emp ∗ owesTc (F := Ideal) d n))
    (Φ : PUnit → sProp 𝕂) :
    iprop((K (F := Ideal)).ctx EH (PM m) κ ∗ boundary (SparseCore.T d) ∗ unscopedBufs d (tc Vi d) ∗ (K (F := Ideal)).tcSt EH d n ∗ ghost m d p
        ∗ ((boundary (SparseCore.T d) ∗ unscopedBufs d (tc Vp d) ∗ (K (F := Ideal)).tcSt EH d n) -∗ Φ ⟨⟩))
      ⊢ wp frame (wpE ((K (F := Ideal)).defs (D (F := Ideal))) 𝒱 (SparseCore.T d) none) Set.univ
          (Prog.lift (.customCall (SparseCore.inner (Pipeline.entry p)) ())) Φ := by
  obtain ⟨Rt, hRt⟩ := tcSt_owes d n
  rw [hRt]
  refine BIBase.Entails.trans ?_ (region_wp m κ d R Φ)
  rw [h0, h1]
  iintro ⟨#Hctx, Hb, Hu, ⟨Hw, Hr⟩, Hg, Hk⟩
  isplitr; · iexact Hctx
  isplitl [Hb]; · iexact Hb
  isplitl [Hu Hw]
  · isplitl [Hu]; · iexact Hu
    isplitr; · iempintro
    iexact Hw
  isplitl [Hg]; · iexact Hg
  iintro ⟨Hb, Hu, -, Hw⟩
  iapply Hk
  isplitl [Hb]; · iexact Hb
  isplitl [Hu]; · iexact Hu
  isplitl [Hw] <;> iassumption

/-! ## @main -/

theorem main_eq : main (F := Ideal) d = (StableHlo.seq ops1 >>= fun _ => Prog.lift (.customCall (SparseCore.inner (Pipeline.entry 0)) ()) >>= fun _ =>
    StableHlo.seq ops2 >>= fun _ => (K (F := Ideal)).run d 0 >>= fun _ => Prog.lift (.customCall (SparseCore.inner (Pipeline.entry 1)) ()) >>= fun _ =>
    (K (F := Ideal)).run d 1 >>= fun _ => Prog.lift (.customCall (SparseCore.inner (Pipeline.entry 2)) ()) >>= fun _ => pure ⟨⟩) := rfl

theorem ops1_bufs : ∀ op ∈ ops1, op.bufs ⊆ ucRefs := by
  unfold ops1
  simp only [List.mem_cons, List.not_mem_nil, or_false, forall_eq_or_imp, forall_eq]
  decide
theorem ops2_bufs : ∀ op ∈ ops2, op.bufs ⊆ ucRefs := by
  unfold ops2
  simp only [List.mem_cons, List.not_mem_nil, or_false, forall_eq_or_imp, forall_eq]
  decide
theorem ops1_fresh : ∀ op ∈ ops1, op.fresh = ∅ := by
  unfold ops1
  simp only [List.mem_cons, List.not_mem_nil, or_false, forall_eq_or_imp, forall_eq]
  exact ⟨rfl, rfl, rfl, rfl, rfl⟩
theorem ops2_fresh : ∀ op ∈ ops2, op.fresh = ∅ := by
  unfold ops2
  simp only [List.mem_cons, List.not_mem_nil, or_false, forall_eq_or_imp, forall_eq]
  exact ⟨rfl, rfl, rfl, rfl, rfl, rfl, rfl⟩

theorem hmain : iprop((K (F := Ideal)).ctx EH (PM m) κ ∗ (K (F := Ideal)).tcSt EH d 0 ∗ (K (F := Ideal)).tcRes m g d ∗ (bigSep Finset.univ fun p => ghost m d p))
      ⊢ wp frame (wpE ((K (F := Ideal)).defs (D (F := Ideal))) 𝒱 (SparseCore.T d) none) Set.univ (main (F := Ideal) d)
          fun _ => iprop((K (F := Ideal)).tcSt EH d 2 ∗ unscopedBufs d (tc (W7 m) d) ∗ (K (F := Ideal)).tcEnd d) := by
  unfold SparseCore.Cfg.tcRes SparseCore.Cfg.tcEnd
  rw [main_eq, show (bigSep Finset.univ fun p : Fin 3 => ghost m d p) = iprop(ghost m d 0 ∗ ghost m d 1 ∗ ghost m d 2) from ghost_all m d,
    show (unscopedBufs d fun b => m ((SparseCore.T d).loc b) : sProp 𝕂) = unscopedBufs d (tc (fun _ => W0 m d) d) from rfl]
  iintro ⟨#Hctx, Hst, ⟨Hb, Hu, Hts, -⟩, Hg0, Hg1, Hg2⟩
  iapply (ops_wp d ops1 ops1_bufs ops1_fresh (W0 m d)) $$ [Hst Hb Hu Hts Hg0 Hg1 Hg2]
  isplitl [Hb Hu]
  · isplitl [Hb] <;> iassumption
  iintro ⟨Hb, Hu⟩
  rw [wp_bind]
  iapply (region_step m κ d (reg0 m) (n := 0) (Vi := W1 m) (Vp := W2 m) rfl rfl) $$ [Hst Hb Hu Hts Hg0 Hg1 Hg2]
  isplitr; · iexact Hctx
  isplitl [Hb]; · iexact Hb
  isplitl [Hu]; · iexact Hu
  isplitl [Hst]; · iexact Hst
  isplitl [Hg0]; · iexact Hg0
  iintro ⟨Hb, Hu, Hst⟩
  iapply (ops_wp d ops2 ops2_bufs ops2_fresh (W2 m d)) $$ [Hst Hb Hu Hts Hg1 Hg2]
  isplitl [Hb Hu]
  · isplitl [Hb] <;> iassumption
  iintro ⟨Hb, Hu⟩
  rw [wp_bind]
  iapply (scatter_wp m κ d) $$ [Hst Hb Hu Hts Hg1 Hg2]
  isplitr; · iexact Hctx
  isplitl [Hst]; · iexact Hst
  isplitl [Hu]; · iexact Hu
  iintro ⟨Hst, Hu⟩
  rw [wp_bind]
  iapply (region_step m κ d (reg1 m) (n := 1) (Vi := W4 m) (Vp := W5 m) rfl rfl) $$ [Hst Hb Hu Hts Hg1 Hg2]
  isplitr; · iexact Hctx
  isplitl [Hb]; · iexact Hb
  isplitl [Hu]; · iexact Hu
  isplitl [Hst]; · iexact Hst
  isplitl [Hg1]; · iexact Hg1
  iintro ⟨Hb, Hu, Hst⟩
  rw [wp_bind]
  iapply (gather_wp m κ d) $$ [Hst Hb Hu Hts Hg2]
  isplitr; · iexact Hctx
  isplitl [Hst]; · iexact Hst
  isplitl [Hu]; · iexact Hu
  iintro ⟨Hst, Hu⟩
  rw [wp_bind]
  iapply (region_step m κ d (reg2 m) (n := 2) (Vi := W6 m) (Vp := W7 m) rfl rfl) $$ [Hst Hb Hu Hts Hg2]
  isplitr; · iexact Hctx
  isplitl [Hb]; · iexact Hb
  isplitl [Hu]; · iexact Hu
  isplitl [Hst]; · iexact Hst
  isplitl [Hg2]; · iexact Hg2
  iintro ⟨Hb, Hu, Hst⟩
  rw [wp_pure]; imodintro
  isplitl [Hst]; · iexact Hst
  isplitl [Hu]; · iexact Hu
  isplitl [Hb] <;> iassumption

/-! ## The run -/

/-- What the run starts from: the handshakes' cells and the pipelines'. -/
def u₀ : UU := (initOf (K (F := Ideal)).hsCells (K (F := Ideal)).hsToks,
  (initOf (Pipeline.cells (Pipeline.pin (pcfgs (F := Ideal)) (adm m)) (cellOf_inj (F := Ideal) (adm m)))
    (Pipeline.launchToks (Pipeline.pin (pcfgs (F := Ideal)) (adm m)) (cellOf_inj (F := Ideal) (adm m))), 1))

theorem bigSep_emp' {I : Type} (s : Finset I) : (bigSep s fun _ => iprop(emp)) = (iprop(emp) : sProp 𝕂) := bigSep_emp_const s

theorem hu₀ : (ownU (u₀ m) : sProp 𝕂)
    ⊢ |={Set.univ}=> iprop(BI.own (EH (initOf (K (F := Ideal)).hsCells (K (F := Ideal)).hsToks))
        ∗ (bigSep Finset.univ fun c : Dev nD => bigSep Finset.univ fun p : Fin 3 => ghost m c p)
        ∗ bigSep Finset.univ fun thr : Thread nD τ => bigSep Finset.univ fun q : Fin 2 => (PM m).x q thr) := by
  unfold u₀
  iintro Hu
  ihave H := (ownU_pair (initOf (K (F := Ideal)).hsCells (K (F := Ideal)).hsToks) (_ : UP × Counters)) $$ Hu
  icases H with ⟨HH, HR⟩
  have hp (a : UP) : (BI.own (embR (a, (1 : Counters))) : sProp 𝕂) ⊢ iprop(BI.own (EP a) ∗ BI.own (((Emb.inr : Emb Counters (UP × Counters)).trans embR) (1 : Counters))) :=
    own_pair_emb (embR : Emb (UP × Counters) 𝕂) a (1 : Counters)
  ihave H := (hp _) $$ HR
  icases H with ⟨HP, -⟩
  imod (Pipeline.fund_ghost (Pipeline.pin (pcfgs (F := Ideal)) (adm m)) EP (cellOf_inj (F := Ideal) (adm m))) $$ HP with ⟨Hg, Ht⟩
  imodintro
  isplitl [HH]; · iexact HH
  isplitl [Hg Ht]
  · rw [show (bigSep Finset.univ fun c : Dev nD => bigSep Finset.univ fun p : Fin 3 => ghost m c p)
      = iprop((bigSep Finset.univ fun c : Dev nD => bigSep Finset.univ fun p : Fin 3 => Pipeline.cellsGhost (Pipeline.pin (pcfgs (F := Ideal)) (adm m)) EP p c)
        ∗ (bigSep Finset.univ fun c : Dev nD => bigSep Finset.univ fun p : Fin 3 => Pipeline.toksInit (Pipeline.pin (pcfgs (F := Ideal)) (adm m)) EP p c)) from by
        rw [← bigSep_sep']
        exact bigSep_congr fun c _ => bigSep_sep' _ _ _]
    isplitl [Hg] <;> iassumption
  rw [show (bigSep Finset.univ fun thr : Thread nD τ => bigSep Finset.univ fun q : Fin 2 => (PM m).x q thr) = bigSep Finset.univ fun _ => iprop(emp) from
    bigSep_congr fun _ _ => bigSep_emp' _, bigSep_emp']
  iempintro

def fq (s' : Phys nD τ sig (Elt Ideal)) : Prop := ∀ b : Ref sig .tc, ¬ b.isScoped → s'.mem.mem ((d.tc : Thread nD τ).loc b) = W7 m d (b : DevRef τ sig)

theorem run_main :
    θ_run (Cert.KernelIdeal.defs (F := Ideal)) (Cert.KernelIdeal.threads (F := Ideal)) ⟨m, fun _ => 0, g⟩
      (fun r => (∀ c : Dev nD, ∀ b : Ref sig .tc, ¬ b.isScoped → r.2.mem ((c.tc : Thread nD τ).loc b) = W7 m c (b : DevRef τ sig)) ∧ r.2.sem = fun _ => 0) :=
  SparseCore.Cfg.θ_run_sc_quiescent (K := K (F := Ideal)) (D := D (F := Ideal)) (𝒱 := 𝒱) (EH := EH) (P := PM m) (A := ∅) facts v₀
    (fun q hq => match q with | 0 => nomatch hq | 1 => nomatch hq)
    (fun q _ => match q with | 0 => scatterObl (ms m) (mg m) facts (scatterOK m) | 1 => gatherObl (ms m) (mg m) facts (gatherOK m))
    (fun q _ => match q with
      | 0 => SparseCore.Cfg.VecSplit.of_plain (scatterSplit (ms m) (mg m) (scatterOK m)) | 1 => SparseCore.Cfg.VecSplit.of_plain (gatherSplit (ms m) (mg m)))
    m g (main (F := Ideal)) (fun c => bigSep Finset.univ fun p : Fin 3 => ghost m c p) (fun c => unscopedBufs c (tc (W7 m) c)) (u₀ m)
    (sep_elim_left.trans (hu₀ m)) (hmain m g) (fq m) (fun c s' => uc_agree c (tc (W7 m) c) s') _ (fun _ h hz => ⟨h, hz⟩)

end Cert.Proof.Launch

end
-- ==== Proof.KernelValue.lean ====
/-
  The layer's result at an index: the shared expert's value of the token, and its chosen expert's value of the scored token.
-/
module

public import proofs.«01_k».proof.Proof.Chain

@[expose] public section

noncomputable section

namespace Cert.Proof.Chain

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe
open Cert.Proof.Region

/-! ## The result at an index -/

variable (m : (ℓ : Loc nD τ sig) → Buf (Elt Ideal) ℓ)

/-- The rows the experts read: a token's piece, scored, at the piece's place. -/
theorem rows_at (d : Dev nD) (t : Fin 4096) (s : Fin 8) (l : Fin 128) (i : Fin 47104) (hi : i.val = RouterKI.place (ex m d) t.val * 8 + s.val) :
    (W4 m d (main_v11 : DevRef τ sig) : FVec Ideal S47104x128 .f32) (Idealize.ShloMosaic.ix2 i l)
      = xv m d (Idealize.ShloMosaic.ix2 t (⟨s.val * 128 + l.val, by omega⟩ : Fin 1024)) * RouterKI.score (RouterKI.peak (xv m d) (wv m d) t.val) := by
  have e : (W4 m d (main_v11 : DevRef τ sig)) = ScatterKI.G (ms m) d := upd_self _ _ _
  rw [e]
  have hw := word_nat m d (t.val * 8 + s.val) (by omega)
  rw [show (t.val * 8 + s.val) / 8 = t.val by omega, show (t.val * 8 + s.val) % 8 = s.val by omega, ← hi] at hw
  refine (ScatterKI.xCont_of_word (distinct m d) _ _ (⟨t.val * 8 + s.val, by omega⟩ : Fin 32768) hw).trans ?_
  show (W3 m d (main_v3_0 : DevRef τ sig) : FVec Ideal S32768x128 .f32) (Idealize.ShloMosaic.ix2 (⟨t.val * 8 + s.val, by omega⟩ : Fin 32768) l) = _
  rw [W3_ne m d (by decide), W2_rows, RouterKI.rowsOut_at]
  have h1 : (t.val * 8 + s.val) / 8 = t.val := by omega
  have h2 : (t.val * 8 + s.val) % 8 = s.val := by omega
  simp only [h1, h2]

theorem emlp_congr {x x' : Fin 1024 → EReal} {g g' u u' : Fin 1024 → Fin 2048 → EReal} {d d' : Fin 2048 → EReal}
    (hx : x = x') (hg : g = g') (hu : u = u') (hd : d = d') : GmmKI.emlp x g u d = GmmKI.emlp x' g' u' d' := by
  subst hx hg hu hd
  rfl

/-- A token's expert, as an index. -/
def exF (t : Fin 4096) : Fin 8 := ⟨ex m 0 t.val, hex m 0 _ t.isLt⟩

/-- The row an expert leaves for a token's piece. -/
theorem expert_at (t : Fin 4096) (s : Fin 8) (l : Fin 128) :
    (W6 m 0 (main_v13 : DevRef τ sig) : FVec Ideal S32768x128 .f32) (Idealize.ShloMosaic.ix2 (⟨t.val * 8 + s.val, by omega⟩ : Fin 32768) l)
      = GmmKI.emlp (fun j => xv m 0 (Idealize.ShloMosaic.ix2 t j) * RouterKI.score (RouterKI.peak (xv m 0) (wv m 0) t.val))
          (fun j k => (m (((0 : Dev nD).tc : Thread nD τ).loc main_arg1) : FVec Ideal S8x1024x4096 .f32) (ix3 (exF m t) j (⟨k.val, by omega⟩ : Fin 4096)))
          (fun j k => (m (((0 : Dev nD).tc : Thread nD τ).loc main_arg1) : FVec Ideal S8x1024x4096 .f32) (ix3 (exF m t) j (⟨2048 + k.val, by omega⟩ : Fin 4096)))
          (fun k => (m (((0 : Dev nD).tc : Thread nD τ).loc main_arg2) : FVec Ideal S8x2048x1024 .f32) (ix3 (exF m t) k (⟨s.val * 128 + l.val, by omega⟩ : Fin 1024))) := by
  have e6 : (W6 m 0 (main_v13 : DevRef τ sig)) = GatherKI.G (mg m) 0 := upd_self _ _ _
  have e5 : (W5 m 0 (main_v12 : DevRef τ sig)) = GmmKI.out (tc (W4 m)) (adm m 1) 1 0 := upd_self _ _ _
  have hw := word_nat m 0 (t.val * 8 + s.val) (by omega)
  rw [show (t.val * 8 + s.val) / 8 = t.val by omega, show (t.val * 8 + s.val) % 8 = s.val by omega] at hw
  have hp := RouterKI.place_lt (ex m 0) (hex m 0) t.val t.isLt
  have ha := RouterKI.place_tile_lt (ex m 0) (hex m 0) t.val t.isLt
  have hle := RouterKI.act_le (ex m 0) (hex m 0)
  have hrow : GatherKI.rowOf (GatherKI.wordAt (W5 m 0 (main_v10 : DevRef τ sig) : (⟨S1x32768, .i32⟩ : BufTy).Contents (Elt Ideal)) (t.val * 8 + s.val))
      = (⟨RouterKI.place (ex m 0) t.val * 8 + s.val, by omega⟩ : Fin 47104) := by
    rw [W5_ne m 0 (by decide), W4_ne m 0 (by decide)]
    refine Fin.ext ?_
    show min _ 47103 = RouterKI.place (ex m 0) t.val * 8 + s.val
    rw [hw]
    omega
  rw [e6]
  show (W5 m 0 (main_v12 : DevRef τ sig) : FVec Ideal S47104x128 .f32) (Idealize.ShloMosaic.ix2
    (GatherKI.rowOf (GatherKI.wordAt (W5 m 0 (main_v10 : DevRef τ sig) : (⟨S1x32768, .i32⟩ : BufTy).Contents (Elt Ideal)) (t.val * 8 + s.val))) l) = _
  rw [hrow, e5]
  refine (GmmKI.out_at (tc (W4 m)) (adm m 1) (nA := RouterKI.act (ex m 0)) (good m) 1 0 _ l (by dsimp only; omega)).trans ?_
  have hx : GmmKI.expOf (adm m 1).1 (⟨(RouterKI.place (ex m 0) t.val * 8 + s.val) / 2048, by omega⟩ : Fin 128) = exF m t := by
    refine Fin.ext ?_
    show min (GmmKI.tab (tabs m) 1 _).toNat 7 = ex m 0 t.val
    rw [tab_expert_nat]
    dsimp only
    rw [show min ((RouterKI.place (ex m 0) t.val * 8 + s.val) / 2048) (RouterKI.act (ex m 0) - 1) = RouterKI.place (ex m 0) t.val / 256 by omega,
      RouterKI.owner_place (ex m 0) (hex m 0) t.val t.isLt]
    have := hex m 0 t.val t.isLt
    omega
  have a1 : tc (W4 m) 0 main_arg1 = m (((0 : Dev nD).tc : Thread nD τ).loc main_arg1) := by
    show W4 m 0 (main_arg1 : DevRef τ sig) = _
    rw [W4_ne m 0 (by decide), W3_ne m 0 (by decide), W2_ne m 0 (by decide) (by decide) (by decide), W1_arg m 0 (by decide)]
  have a2 : tc (W4 m) 0 main_arg2 = m (((0 : Dev nD).tc : Thread nD τ).loc main_arg2) := by
    show W4 m 0 (main_arg2 : DevRef τ sig) = _
    rw [W4_ne m 0 (by decide), W3_ne m 0 (by decide), W2_ne m 0 (by decide) (by decide) (by decide), W1_arg m 0 (by decide)]
  rw [a1, a2]
  unfold GmmKI.result
  dsimp only
  refine emlp_congr ?_ ?_ ?_ ?_
  · funext j
    refine (rows_at m 0 t (⟨j.val / 128, by omega⟩ : Fin 8) (⟨j.val % 128, by omega⟩ : Fin 128) _ (by dsimp only [Idealize.ShloMosaic.ix2]; omega)).trans ?_
    exact congrArg (fun q => xv m 0 (Idealize.ShloMosaic.ix2 t q) * _) (Fin.ext (by dsimp only; omega))
  · funext j k
    exact congrArg (fun q => (m (((0 : Dev nD).tc : Thread nD τ).loc main_arg1) : FVec Ideal S8x1024x4096 .f32) (ix3 q j _)) hx
  · funext j k
    exact congrArg (fun q => (m (((0 : Dev nD).tc : Thread nD τ).loc main_arg1) : FVec Ideal S8x1024x4096 .f32) (ix3 q j _)) hx
  · funext k
    refine (congrArg (fun q => (m (((0 : Dev nD).tc : Thread nD τ).loc main_arg2) : FVec Ideal S8x2048x1024 .f32) (ix3 q k _)) hx).trans ?_
    exact congrArg (fun q => (m (((0 : Dev nD).tc : Thread nD τ).loc main_arg2) : FVec Ideal S8x2048x1024 .f32) (ix3 (exF m t) k q))
      (Fin.ext (by dsimp only [Idealize.ShloMosaic.ix2]; omega))

/-- The layer's result: the shared expert's value and the chosen expert's. -/
theorem kernel_at (t : Fin 4096) (h : Fin 1024) :
    (W7 m 0 (main_v14 : DevRef τ sig) : FVec Ideal S4096x1024 .f32) (Idealize.ShloMosaic.ix2 t h)
      = SharedKI.mlp (fun j => xv m 0 (Idealize.ShloMosaic.ix2 t j))
          (fun k j => (m (((0 : Dev nD).tc : Thread nD τ).loc main_arg4) : FVec Ideal S2048x1024 .f32) (Idealize.ShloMosaic.ix2 k j))
          (fun k j => (m (((0 : Dev nD).tc : Thread nD τ).loc main_arg5) : FVec Ideal S2048x1024 .f32) (Idealize.ShloMosaic.ix2 k j))
          (fun k => (m (((0 : Dev nD).tc : Thread nD τ).loc main_arg6) : FVec Ideal S1024x2048 .f32) (Idealize.ShloMosaic.ix2 h k))
          (GmmKI.emlp (fun j => xv m 0 (Idealize.ShloMosaic.ix2 t j) * RouterKI.score (RouterKI.peak (xv m 0) (wv m 0) t.val))
            (fun j k => (m (((0 : Dev nD).tc : Thread nD τ).loc main_arg1) : FVec Ideal S8x1024x4096 .f32) (ix3 (exF m t) j (⟨k.val, by omega⟩ : Fin 4096)))
            (fun j k => (m (((0 : Dev nD).tc : Thread nD τ).loc main_arg1) : FVec Ideal S8x1024x4096 .f32) (ix3 (exF m t) j (⟨2048 + k.val, by omega⟩ : Fin 4096)))
            (fun k => (m (((0 : Dev nD).tc : Thread nD τ).loc main_arg2) : FVec Ideal S8x2048x1024 .f32) (ix3 (exF m t) k h))) := by
  have e7 : (W7 m 0 (main_v14 : DevRef τ sig)) = SharedKI.out (tc (W6 m)) 2 0 := upd_self _ _ _
  rw [e7, SharedKI.out_eq]
  have a0 : tc (W6 m) 0 main_v0 = xv m 0 := by
    show W6 m 0 (main_v0 : DevRef τ sig) = _
    rw [W6_ne m 0 (by decide), W5_ne m 0 (by decide), W4_ne m 0 (by decide), W3_ne m 0 (by decide), W2_ne m 0 (by decide) (by decide) (by decide)]
  have a4 : tc (W6 m) 0 main_arg4 = m (((0 : Dev nD).tc : Thread nD τ).loc main_arg4) := by
    show W6 m 0 (main_arg4 : DevRef τ sig) = _
    rw [W6_ne m 0 (by decide), W5_ne m 0 (by decide), W4_ne m 0 (by decide), W3_ne m 0 (by decide), W2_ne m 0 (by decide) (by decide) (by decide), W1_arg m 0 (by decide)]
  have a5 : tc (W6 m) 0 main_arg5 = m (((0 : Dev nD).tc : Thread nD τ).loc main_arg5) := by
    show W6 m 0 (main_arg5 : DevRef τ sig) = _
    rw [W6_ne m 0 (by decide), W5_ne m 0 (by decide), W4_ne m 0 (by decide), W3_ne m 0 (by decide), W2_ne m 0 (by decide) (by decide) (by decide), W1_arg m 0 (by decide)]
  have a6 : tc (W6 m) 0 main_arg6 = m (((0 : Dev nD).tc : Thread nD τ).loc main_arg6) := by
    show W6 m 0 (main_arg6 : DevRef τ sig) = _
    rw [W6_ne m 0 (by decide), W5_ne m 0 (by decide), W4_ne m 0 (by decide), W3_ne m 0 (by decide), W2_ne m 0 (by decide) (by decide) (by decide), W1_arg m 0 (by decide)]
  rw [a0, a4, a5, a6]
  unfold SharedKI.result
  refine congrArg (SharedKI.mlp _ _ _ _) ?_
  refine (expert_at m t (⟨h.val / 128, by omega⟩ : Fin 8) (⟨h.val % 128, by omega⟩ : Fin 128)).trans ?_
  have hh : (⟨h.val / 128 * 128 + h.val % 128, by omega⟩ : Fin 1024) = h := Fin.ext (by dsimp only; omega)
  refine congrArg (GmmKI.emlp _ _ _) (funext fun k => ?_)
  exact congrArg (fun q => (m (((0 : Dev nD).tc : Thread nD τ).loc main_arg2) : FVec Ideal S8x2048x1024 .f32) (ix3 (exF m t) k q)) hh

/-- The logits, as products with the weights given. -/
theorem lg_sum (d : Dev nD) (t : Fin 4096) (e : Fin 8) : RouterKI.lg (xv m d) (wv m d) t.val e.val
    = ∑ k : Fin 1024, xv m d (Idealize.ShloMosaic.ix2 t k)
        * (m ((d.tc : Thread nD τ).loc main_arg3) : FVec Ideal S8x1024 .f32) (Idealize.ShloMosaic.ix2 e k) := by
  have he := e.isLt
  refine (RouterKI.lg_at (xv m d) (wv m d) t (⟨e.val, by omega⟩ : Fin 128)).trans ?_
  rw [RouterKI.pay3_at, if_pos he]
  refine Finset.sum_congr rfl fun k _ => congrArg (fun z => xv m d (Idealize.ShloMosaic.ix2 t k) * z) ?_
  exact after1_w (W0 m d) k (⟨e.val, by omega⟩ : Fin 128) he

end Cert.Proof.Chain

end
-- ==== Proof.RefSort.lean ====
/-
The first position of a stable sort, greatest first: it holds the greatest value, and no earlier position holds it. With it,
the largest-entry pick of each row of a matrix, and the landing place of a scatter of whole rows.
-/
module

public import Idealize.ShloMosaic.Lib.Routing.OpsSet
public import Idealize.ShloMosaic.Lib.SortFacts
public import Idealize.ShloMosaic.PureOps.Ideal

@[expose] public section

noncomputable section

namespace Cert.Proof.RefSort

open Idealize.ShloMosaic Idealize.ShloMosaic.ValueIdx Idealize.ShloMosaic.Routing

theorem head_sort {n : ℕ} (f : Fin n → EReal) : ∀ l : List (Fin n), l.Pairwise (· < ·) → ∀ b q,
    stableSort (fun k k' => decide (f k' < f k)) l = b :: q → b ∈ l ∧ (∀ c ∈ l, f c ≤ f b) ∧ ∀ c ∈ l, c < b → f c < f b
  | [], _, b, q, h => by cases h
  | a :: l, hl, b, q, h => by
    rw [stableSort] at h
    obtain ⟨ha, hl'⟩ := List.pairwise_cons.1 hl
    have ih := head_sort f l hl'
    cases hs : stableSort (fun k k' => decide (f k' < f k)) l with
    | nil =>
      rw [hs, insertBefore] at h
      have hln : l = [] := List.eq_nil_of_length_eq_zero (by rw [← length_stableSort (fun k k' => decide (f k' < f k)) l, hs]; rfl)
      obtain ⟨rfl, -⟩ := List.cons.inj h
      subst hln
      refine ⟨List.mem_cons_self .., fun c hc => ?_, fun c hc hcb => ?_⟩
      · rw [List.mem_singleton.1 hc]
      · rw [List.mem_singleton.1 hc] at hcb
        exact absurd hcb (lt_irrefl _)
    | cons b' q' =>
      obtain ⟨h1, h2, h3⟩ := ih b' q' hs
      rw [hs, insertBefore] at h
      by_cases hlt : f a < f b'
      · rw [if_pos (decide_eq_true hlt)] at h
        obtain ⟨rfl, -⟩ := List.cons.inj h
        refine ⟨List.mem_cons_of_mem _ h1, fun c hc => ?_, fun c hc hcb => ?_⟩
        · rcases List.mem_cons.1 hc with rfl | hc
          · exact hlt.le
          · exact h2 c hc
        · rcases List.mem_cons.1 hc with rfl | hc
          · exact hlt
          · exact h3 c hc hcb
      · rw [if_neg (by simpa using hlt)] at h
        obtain ⟨rfl, -⟩ := List.cons.inj h
        refine ⟨List.mem_cons_self .., fun c hc => ?_, fun c hc hcb => ?_⟩
        · rcases List.mem_cons.1 hc with rfl | hc
          · exact le_rfl
          · exact (h2 c hc).trans (not_lt.1 hlt)
        · rcases List.mem_cons.1 hc with rfl | hc
          · exact absurd hcb (lt_irrefl _)
          · exact absurd hcb (not_lt.2 (ha c hc).le)

/-- The position that a sort, greatest first, puts first. -/
theorem first_sorted {n : ℕ} (f : Fin n → EReal) (k : Fin n) (hk : k.val = 0) (before : Fin n → Fin n → Bool)
    (hb : before = fun k k' => decide (f k' < f k)) :
    (∀ c, f c ≤ f (sortedFrom before k)) ∧ ∀ c, c < sortedFrom before k → f c < f (sortedFrom before k) := by
  subst hb
  have hn : 0 < n := lt_of_le_of_lt (Nat.zero_le _) k.isLt
  cases hs : sortPositions n (fun k k' => decide (f k' < f k)) with
  | nil =>
    have := length_sortPositions n (fun k k' => decide (f k' < f k))
    rw [hs] at this
    exact absurd this (by simp; omega)
  | cons b q =>
    have e : sortedFrom (fun k k' => decide (f k' < f k)) k = b := by
      unfold sortedFrom
      rw [List.get_eq_getElem]
      simp only [Fin.val_cast, hk, hs]
      rfl
    obtain ⟨-, h2, h3⟩ := head_sort f _ (List.pairwise_lt_finRange n) b q hs
    rw [e]
    exact ⟨fun c => h2 c (List.mem_finRange c), fun c => h3 c (List.mem_finRange c)⟩

/-- The largest entry of each row, as the pick of one entry per row: its column's number and the entry itself. -/
theorem topK_row {N M : ℕ} (x : FVec Ideal (shape2 N M) .f32) (h : (shape2 N M).Slices (fun _ => 0) (shape2 N 1))
    (i : Fin N) (j : Fin 1) : ∃ e : Fin M,
      (Host.topK (shape2 N 1) 1 (FloatOps.cmpfTotal (F := Ideal) .gt) x h).1 (ix2 i j) = x (ix2 i e)
      ∧ (Host.topK (shape2 N 1) 1 (FloatOps.cmpfTotal (F := Ideal) .gt) x h).2 (ix2 i j) = BitVec.ofNat 32 e.val
      ∧ (∀ c, x (ix2 i c) ≤ x (ix2 i e)) ∧ ∀ c, c < e → x (ix2 i c) < x (ix2 i e) := by
  obtain ⟨J, hJ, hv⟩ : ∃ J : (shape2 N M).Idx, (∀ e : Fin M, J.along 1 e = ix2 i e) ∧ (J 1).val = 0
      ∧ ∀ {α : Type} (v : (shape2 N M).Idx → α), extractStridedSlice (shape2 N 1) (fun _ => 0) v h (ix2 i j) = v J := by
    refine ⟨_, fun e => ?_, ?_, fun v => rfl⟩
    · funext a
      match a with
      | ⟨0, _⟩ => exact Fin.ext (Nat.zero_add _)
      | ⟨1, _⟩ => rfl
    · show 0 + j.val = 0
      omega
  obtain ⟨h1, h2⟩ := first_sorted (fun c => x (ix2 i c)) (J 1) hv.1
    (fun k k' => FloatOps.cmpfTotal (F := Ideal) (φ := .f32) .gt (x (J.along 1 k)) (x (J.along 1 k')) == 1#1)
    (by
      funext k k'
      rw [hJ, hJ]
      show (BitVec.ofBool (decide (x (ix2 i k') < x (ix2 i k))) == 1#1) = decide (x (ix2 i k') < x (ix2 i k))
      generalize decide (x (ix2 i k') < x (ix2 i k)) = b
      cases b <;> rfl)
  refine ⟨_, ?_, ?_, h1, h2⟩
  · unfold Host.topK
    dsimp only
    rw [hv.2]
    exact congrArg x (hJ _)
  · unfold Host.topK
    dsimp only
    rw [hv.2]
    exact congrArg (fun q : (shape2 N M).Idx => BitVec.ofNat 32 (q 1).val) (hJ _)

/-- A scatter of whole rows: row `a` of the updates lands on row `r` exactly when its index word, read signed, is `r`; columns keep their places. -/
theorem rows_land {R C E : ℕ} (d : ScatterDims (shape2 R C) (shape2 E 1) (shape2 E C)) (huw : d.updateWindowDims = [1])
    (hiw : d.insertedWindowDims = [0]) (hsd : d.scatterDimsToOperandDims = [0]) (hivd : d.indexVectorDim = 1)
    (idx : IVec (shape2 E 1) 32) (a : Fin E) (b : Fin C) (r : Fin R) (c : Fin C) :
    d.resultIdx? (ix2 a b) idx = some (ix2 r c) ↔ (idx (ix2 a 0)).toInt = r.val ∧ b = c := by
  obtain ⟨uw, iw, sd, ivd, wf⟩ := d
  dsimp only at huw hiw hsd hivd
  subst huw hiw hsd hivd
  rw [resultIdx?_ix2]
  have h0 : ScatterDims.start ⟨[1], [0], [0], 1, wf⟩ (ix2 a b) idx 0 = (idx (ix2 a 0)).toInt := by
    unfold ScatterDims.start
    rw [dif_pos (List.mem_singleton.2 rfl)]
    refine congrArg (fun q => (idx q).toInt) ?_
    funext q
    match q with
    | ⟨0, _⟩ => rfl
    | ⟨1, _⟩ => rfl
  have h1 : ScatterDims.start ⟨[1], [0], [0], 1, wf⟩ (ix2 a b) idx 1 = 0 := by
    unfold ScatterDims.start
    exact dif_neg (show (1 : Fin 2) ∉ [(0 : Fin 2)] by decide)
  have w0 : ScatterDims.window ⟨[1], [0], [0], 1, wf⟩ (ix2 a b) 0 = 0 := rfl
  have w1 : ScatterDims.window ⟨[1], [0], [0], 1, wf⟩ (ix2 a b) 1 = b.val := rfl
  rw [h0, h1, w0, w1]
  constructor
  · intro h
    exact ⟨by have := h.1; omega, Fin.ext (by have := h.2; omega)⟩
  · rintro ⟨h, rfl⟩
    exact ⟨by omega, by omega⟩

end Cert.Proof.RefSort

end
-- ==== Proof.RefValue.lean ====
/-
The reference's result as a function of its seven arrays, stage by stage: the tokens, the logits, the score table, the scored
tokens of every expert, the experts' rows, the shared expert's rows, and the sum.
-/
module

public import proofs.«01_k».proof.Proof.Gen.ReferenceIdeal.Run
public import proofs.«01_k».proof.Proof.RefSort
public import Idealize.ShloMosaic.Lib.IdealHost
public import Idealize.ShloMosaic.Lib.Tactic
public import Idealize.ShloMosaic.Lib.Pointwise
public import Idealize.ShloMosaic.Lib.ValueLayout

@[expose] public section

noncomputable section

namespace Cert.Proof.Ref

open Cert.ReferenceIdeal Cert.ReferenceIdeal.Gen Idealize.ShloMosaic Idealize.ShloMosaic.TcCoe Idealize.SL.Sem Idealize.ShloMosaic.StableHlo

variable (A0 : FVec Ideal S2x2048x1024 .f32) (A1 : FVec Ideal S8x1024x4096 .f32) (A2 : FVec Ideal S8x2048x1024 .f32) (A3 : FVec Ideal S8x1024 .f32)
  (A4 A5 : FVec Ideal S2048x1024 .f32) (A6 : FVec Ideal S1024x2048 .f32)

/-! ## The stages -/

/-- The tokens, one per row. -/
def tok : FVec Ideal S4096x1024 .f32 := shapeCast _ A0 shapeCasts_S2x2048x1024_S4096x1024

/-- The logits. -/
def logit (X : FVec Ideal S4096x1024 .f32) : FVec Ideal S4096x8 .f32 :=
  Host.dotGeneral dot_S4096x1024_S1024x8_S4096x8_1_0_0_1_n_n none X (transpose S1024x8 [1, 0] A3 transposes_S8x1024_S1024x8_1_0)

/-- Where each token's largest logit goes: the token's number, and the expert's. -/
def spot (G : IVec S4096x1 32) : IVec S4096x1x2 32 :=
  concatenate S4096x1x2 2 [⟨S4096x1x1, (broadcastInDim S4096x1x1 ![0, 1] bcast_S4096x1_S4096x1x1_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0))))⟩, ⟨S4096x1x1, (broadcastInDim S4096x1x1 ![0, 1] bcast_S4096x1_S4096x1x1_0_1 (select (cmpi .slt G (broadcastInDim S4096x1 ![] bcast_S_S4096x1 (constantI S_ 32 0#32))) (addi G (broadcastInDim S4096x1 ![] bcast_S_S4096x1 (constantI S_ 32 8#32))) G))⟩] concatenates_S4096x1x1_S4096x1x1_S4096x1x2_d2

/-- The largest logits, each at its token and expert, and -∞ elsewhere. -/
def table (L : FVec Ideal S4096x8 .f32) : FVec Ideal S4096x8 .f32 :=
  Host.scatter scatter_S4096x8_S4096x1x2_S4096x1_n_01_01_2 (fun _ b => b) (broadcastInDim S4096x8 ![] bcast_S_S4096x8 (constant S_ .f32 0xFF800000#32))
    (spot (Host.topK S4096x1 1 (FloatOps.cmpfTotal .gt) L sliceFits_S4096x8_S4096x1).2)
    (Host.topK S4096x1 1 (FloatOps.cmpfTotal .gt) L sliceFits_S4096x8_S4096x1).1

/-- The scores, one row per expert. -/
def scores (D : FVec Ideal S4096x8 .f32) : FVec Ideal S8x4096 .f32 :=
  Host.divf (broadcastInDim S8x4096 ![] bcast_S_S8x4096 (constant S_ .f32 0x3F800000#32)) (addf (broadcastInDim S8x4096 ![] bcast_S_S8x4096 (constant S_ .f32 0x3F800000#32)) (Host.exp (Host.negf (transpose S8x4096 [1, 0] D transposes_S4096x8_S8x4096_1_0))))

/-- Every token for every expert, times its score. -/
def scored (X : FVec Ideal S4096x1024 .f32) (Sc : FVec Ideal S8x4096 .f32) : FVec Ideal S8x4096x1024 .f32 :=
  shapeCast _ (mulf (shapeCast _ (broadcastInDim S8x4096x1x1024 ![0, 1, 2, 3] bcast_S1x4096x1x1024_S8x4096x1x1024_0_1_2_3 (shapeCast _ X shapeCasts_S4096x1024_S1x4096x1x1024)) shapeCasts_S8x4096x1x1024_S32768x1024) (broadcastInDim S32768x1024 ![0, 1] bcast_S32768x1_S32768x1024_0_1 (shapeCast _ Sc shapeCasts_S8x4096_S32768x1))) shapeCasts_S32768x1024_S8x4096x1024

/-- Gate and up of every expert, side by side. -/
def gateUp (Y : FVec Ideal S8x4096x1024 .f32) : FVec Ideal S8x4096x4096 .f32 :=
  Host.dotGeneral dot_S8x4096x1024_S8x1024x4096_S8x4096x4096_2_1_1_2_0_0 none Y A1

/-- Up times the gate's activation. -/
def mixed (U : FVec Ideal S8x4096x4096 .f32) : FVec Ideal S8x4096x2048 .f32 :=
  mulf (extractStridedSlice S8x4096x2048 ![0, 0, 2048] U slices_S8x4096x4096_S8x4096x2048_0_0_2048) (mulf (extractStridedSlice S8x4096x2048 ![0, 0, 0] U slices_S8x4096x4096_S8x4096x2048_0_0_0) (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (extractStridedSlice S8x4096x2048 ![0, 0, 0] U slices_S8x4096x4096_S8x4096x2048_0_0_0))))))

/-- The experts' rows. -/
def routed (V : FVec Ideal S8x4096x2048 .f32) : FVec Ideal S32768x1024 .f32 :=
  shapeCast _ (Host.dotGeneral dot_S8x4096x2048_S8x2048x1024_S8x4096x1024_2_1_1_2_0_0 none V A2) shapeCasts_S8x4096x1024_S32768x1024

/-- The token of each of the experts' rows. -/
def home : IVec S32768x1 32 :=
  broadcastInDim S32768x1 ![0] bcast_S32768_S32768x1_0 (select (cmpi .slt (shapeCast _ (broadcastInDim S8x4096 ![0, 1] bcast_S1x4096_S8x4096_0_1 (shapeCast _ (iotaInDim S4096 32 0) shapeCasts_S4096_S1x4096)) shapeCasts_S8x4096_S32768) (broadcastInDim S32768 ![] bcast_S_S32768 (constantI S_ 32 0#32))) (addi (shapeCast _ (broadcastInDim S8x4096 ![0, 1] bcast_S1x4096_S8x4096_0_1 (shapeCast _ (iotaInDim S4096 32 0) shapeCasts_S4096_S1x4096)) shapeCasts_S8x4096_S32768) (broadcastInDim S32768 ![] bcast_S_S32768 (constantI S_ 32 4096#32))) (shapeCast _ (broadcastInDim S8x4096 ![0, 1] bcast_S1x4096_S8x4096_0_1 (shapeCast _ (iotaInDim S4096 32 0) shapeCasts_S4096_S1x4096)) shapeCasts_S8x4096_S32768))

/-- A shared projection of the tokens. -/
def proj (X : FVec Ideal S4096x1024 .f32) (A : FVec Ideal S2048x1024 .f32) : FVec Ideal S4096x2048 .f32 :=
  Host.dotGeneral dot_S4096x1024_S1024x2048_S4096x2048_1_0_0_1_n_n none X (transpose S1024x2048 [1, 0] A transposes_S2048x1024_S1024x2048_1_0)

/-- The shared expert's rows. -/
def shared (g u : FVec Ideal S4096x2048 .f32) : FVec Ideal S4096x1024 .f32 :=
  Host.dotGeneral dot_S4096x2048_S2048x1024_S4096x1024_1_0_0_1_n_n none (mulf (mulf g (Host.divf (broadcastInDim S4096x2048 ![] bcast_S_S4096x2048 (constant S_ .f32 0x3F800000#32)) (addf (broadcastInDim S4096x2048 ![] bcast_S_S4096x2048 (constant S_ .f32 0x3F800000#32)) (Host.exp (Host.negf g))))) u) (transpose S2048x1024 [1, 0] A6 transposes_S1024x2048_S2048x1024_1_0)

/-- The whole result. -/
def whole : FVec Ideal S4096x1024 .f32 :=
  Host.scatterAdd scatter_S4096x1024_S32768x1_S32768x1024_1_0_0_1 (shared A6 (proj (tok A0) A4) (proj (tok A0) A5)) home
    (routed A2 (mixed (gateUp A1 (scored (tok A0) (scores (table (logit A3 (tok A0))))))))

set_option maxRecDepth 8192 in
theorem res_eq (m : (ℓ : Loc nD τ sig) → Buf (Elt Ideal) ℓ) (c : Dev nD) : Value.res_main_v59 (F := Ideal) m c
    = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

/-! ## The stages at an index -/

theorem tok_at (i : Fin 4096) (j : Fin 1024) : tok A0 (ix2 i j) = A0 (ix3 (⟨i.val / 2048, by omega⟩ : Fin 2) (⟨i.val % 2048, by omega⟩ : Fin 2048) j) := by
  unfold tok
  pointwise

theorem logit_at (X : FVec Ideal S4096x1024 .f32) (i : Fin 4096) (e : Fin 8) : logit A3 X (ix2 i e) = ∑ k : Fin 1024, X (ix2 i k) * A3 (ix2 e k) := by
  unfold logit
  pointwise

theorem scores_at (D : FVec Ideal S4096x8 .f32) (e : Fin 8) (i : Fin 4096) :
    scores D (ix2 e i) = Ideal.div 1 (1 + Ideal.exp (-(D (ix2 i e)))) := by
  unfold scores
  pointwise

theorem scored_at (X : FVec Ideal S4096x1024 .f32) (Sc : FVec Ideal S8x4096 .f32) (e : Fin 8) (i : Fin 4096) (j : Fin 1024) :
    scored X Sc (ix3 e i j) = X (ix2 i j) * Sc (ix2 e i) := by
  unfold scored
  pointwise

theorem gateUp_at (Y : FVec Ideal S8x4096x1024 .f32) (e : Fin 8) (i : Fin 4096) (k : Fin 4096) :
    gateUp A1 Y (ix3 e i k) = ∑ j : Fin 1024, Y (ix3 e i j) * A1 (ix3 e j k) := by
  unfold gateUp
  pointwise

/-- The activation as the reference writes it. -/
def silu (g : EReal) : EReal := g * Ideal.div 1 (1 + Ideal.exp (-g))

theorem mixed_at (U : FVec Ideal S8x4096x4096 .f32) (e : Fin 8) (i : Fin 4096) (k : Fin 2048) :
    mixed U (ix3 e i k) = U (ix3 e i (⟨2048 + k.val, by omega⟩ : Fin 4096)) * silu (U (ix3 e i (⟨k.val, by omega⟩ : Fin 4096))) := by
  unfold mixed silu
  pointwise

theorem routed_at (V : FVec Ideal S8x4096x2048 .f32) (r : Fin 32768) (h : Fin 1024) :
    routed A2 V (ix2 r h) = ∑ k : Fin 2048, V (ix3 (⟨r.val / 4096, by omega⟩ : Fin 8) (⟨r.val % 4096, by omega⟩ : Fin 4096) k)
      * A2 (ix3 (⟨r.val / 4096, by omega⟩ : Fin 8) k h) := by
  unfold routed
  pointwise

theorem proj_at (X : FVec Ideal S4096x1024 .f32) (A : FVec Ideal S2048x1024 .f32) (i : Fin 4096) (k : Fin 2048) :
    proj X A (ix2 i k) = ∑ j : Fin 1024, X (ix2 i j) * A (ix2 k j) := by
  unfold proj
  pointwise

theorem shared_at (g u : FVec Ideal S4096x2048 .f32) (i : Fin 4096) (h : Fin 1024) :
    shared A6 g u (ix2 i h) = ∑ k : Fin 2048, silu (g (ix2 i k)) * u (ix2 i k) * A6 (ix2 h k) := by
  unfold shared silu
  pointwise

/-! ## The score table -/

theorem word_small (n : ℕ) (h : n < 2 ^ 31) : (BitVec.ofNat 32 n).toNat = n ∧ (BitVec.ofNat 32 n).toInt = n := by
  have h1 : (BitVec.ofNat 32 n).toNat = n := by rw [BitVec.toNat_ofNat, Nat.mod_eq_of_lt (by omega)]
  refine ⟨h1, ?_⟩
  rw [BitVec.toInt_eq_toNat_cond, if_pos (by omega), h1]

theorem spot_token (G : IVec S4096x1 32) (i : Fin 4096) (b : Fin 1) : spot G (ix3 i b (0 : Fin 2)) = BitVec.ofNat 32 i.val := by
  have hi := i.isLt
  unfold spot
  pointwise
  exact Routing.wrap_of_lt _ _ (by rw [(word_small i.val (by omega)).1]; show i.val < 2 ^ 31; omega)

theorem spot_expert (G : IVec S4096x1 32) (i : Fin 4096) (b : Fin 1) (h : (G (ix2 i b)).toNat < 2 ^ 31) : spot G (ix3 i b (1 : Fin 2)) = G (ix2 i b) := by
  have hb0 : b = 0 := Fin.ext (by omega)
  subst hb0
  unfold spot
  pointwise
  exact Routing.wrap_of_lt _ _ h

/-- Each token's row of the table holds the row's largest logit at the first expert that has it, and -∞ elsewhere. -/
theorem table_at (L : FVec Ideal S4096x8 .f32) (i : Fin 4096) : ∃ e : Fin 8, (∀ c, L (ix2 i c) ≤ L (ix2 i e)) ∧ (∀ c, c < e → L (ix2 i c) < L (ix2 i e))
    ∧ ∀ c, table L (ix2 i c) = if c = e then L (ix2 i e) else ⊥ := by
  have hb : Ideal.ofBits FTy.f32 4286578688#32 = ⊥ := by simp [Ideal.ofBits, Ideal.ieee]
  have pick : ∀ i : Fin 4096, ∃ e : Fin 8,
      (Host.topK S4096x1 1 (FloatOps.cmpfTotal .gt) L sliceFits_S4096x8_S4096x1).1 (ix2 i (0 : Fin 1)) = L (ix2 i e)
      ∧ (Host.topK S4096x1 1 (FloatOps.cmpfTotal .gt) L sliceFits_S4096x8_S4096x1).2 (ix2 i (0 : Fin 1)) = BitVec.ofNat 32 e.val
      ∧ (∀ c, L (ix2 i c) ≤ L (ix2 i e)) ∧ ∀ c, c < e → L (ix2 i c) < L (ix2 i e) := fun i => by
    simp only [ix2_eq_valueIdx]
    exact RefSort.topK_row L sliceFits_S4096x8_S4096x1 i 0
  choose pe hv hw hle hlt using pick
  refine ⟨pe i, hle i, hlt i, fun c => ?_⟩
  have land : ∀ (a : Fin 4096) (b : Fin 1) (r : Fin 4096) (c : Fin 8),
      scatter_S4096x8_S4096x1x2_S4096x1_n_01_01_2.resultIdx? (ix2 a b)
        (spot (Host.topK S4096x1 1 (FloatOps.cmpfTotal .gt) L sliceFits_S4096x8_S4096x1).2) = some (ix2 r c) ↔ a = r ∧ pe a = c := fun a b r c => by
    have ha := a.isLt
    have hp := (pe a).isLt
    have hb0 : b = 0 := Fin.ext (by omega)
    subst hb0
    rw [ix2_eq_valueIdx, ix2_eq_valueIdx, Routing.scatter_lands2 _ rfl rfl rfl, ← ix3_eq_valueIdx, ← ix3_eq_valueIdx, spot_token,
      spot_expert _ _ _ (by rw [hw, (word_small _ (by omega)).1]; omega), hw, (word_small _ (by omega)).2, (word_small _ (by omega)).2]
    constructor
    · rintro ⟨h1, h2⟩
      exact ⟨Fin.ext (by omega), Fin.ext (by omega)⟩
    · rintro ⟨rfl, rfl⟩
      exact ⟨rfl, rfl⟩
  by_cases hc : c = pe i
  · rw [if_pos hc, hc]
    refine Routing.scatter_set_hit _ _ _ _ _ _ (fun k hk => ?_) (ix2 i (0 : Fin 1)) ((land i 0 i (pe i)).2 ⟨rfl, rfl⟩)
    obtain ⟨a, b, rfl⟩ : ∃ (a : Fin 4096) (b : Fin 1), k = ix2 a b := ⟨k 0, k 1, by funext q; match q with | ⟨0, _⟩ => rfl | ⟨1, _⟩ => rfl⟩
    have hb0 : b = 0 := Fin.ext (by omega)
    subst hb0
    obtain ⟨rfl, -⟩ := (land a 0 i (pe i)).1 hk
    exact hv a
  · rw [if_neg hc]
    refine (Routing.scatter_set_miss _ _ _ _ _ (fun k hk => ?_)).trans ?_
    · obtain ⟨a, b, rfl⟩ : ∃ (a : Fin 4096) (b : Fin 1), k = ix2 a b := ⟨k 0, k 1, by funext q; match q with | ⟨0, _⟩ => rfl | ⟨1, _⟩ => rfl⟩
      obtain ⟨rfl, h2⟩ := (land a b i c).1 hk
      exact hc h2.symm
    · pointwise
      exact hb

/-! ## The sum -/

theorem home_at (r : Fin 32768) (b : Fin 1) : home (ix2 r b) = BitVec.ofNat 32 (r.val % 4096) := by
  unfold home
  pointwise
  exact Routing.wrap_of_lt _ _ (by rw [(word_small _ (by omega)).1]; omega)

theorem whole_at (i : Fin 4096) (h : Fin 1024) : whole A0 A1 A2 A3 A4 A5 A6 (ix2 i h)
    = shared A6 (proj (tok A0) A4) (proj (tok A0) A5) (ix2 i h)
      + ∑ e : Fin 8, routed A2 (mixed (gateUp A1 (scored (tok A0) (scores (table (logit A3 (tok A0))))))) (ix2 (⟨e.val * 4096 + i.val, by omega⟩ : Fin 32768) h) := by
  unfold whole
  generalize shared A6 (proj (tok A0) A4) (proj (tok A0) A5) = X
  generalize routed A2 (mixed (gateUp A1 (scored (tok A0) (scores (table (logit A3 (tok A0))))))) = R
  show X (ix2 i h) + ∑ j ∈ Finset.univ.filter (fun j => scatter_S4096x1024_S32768x1_S32768x1024_1_0_0_1.resultIdx? j home = some (ix2 i h)), R j = _
  refine congrArg (fun z => X (ix2 i h) + z) ?_
  have land : ∀ (a : Fin 32768) (b : Fin 1024), scatter_S4096x1024_S32768x1_S32768x1024_1_0_0_1.resultIdx? (ix2 a b) home = some (ix2 i h)
      ↔ a.val % 4096 = i.val ∧ b = h := fun a b => by
    rw [ix2_eq_valueIdx, ix2_eq_valueIdx, RefSort.rows_land _ rfl rfl rfl rfl, ← ix2_eq_valueIdx, home_at, (word_small _ (by omega)).2]
    omega
  symm
  refine Finset.sum_nbij (fun e : Fin 8 => ix2 (⟨e.val * 4096 + i.val, by omega⟩ : Fin 32768) h) (fun e _ => ?_) (fun e _ e' _ q => ?_) (fun k hk => ?_) (fun e _ => rfl)
  · exact Finset.mem_filter.2 ⟨Finset.mem_univ _, (land _ _).2 ⟨by show (e.val * 4096 + i.val) % 4096 = i.val; omega, rfl⟩⟩
  · have q0 : e.val * 4096 + i.val = e'.val * 4096 + i.val := congrArg (fun z : S32768x1024.Idx => (z 0).val) q
    exact Fin.ext (by omega)
  · obtain ⟨a, b, rfl⟩ : ∃ (a : Fin 32768) (b : Fin 1024), k = ix2 a b := ⟨k 0, k 1, by funext q; match q with | ⟨0, _⟩ => rfl | ⟨1, _⟩ => rfl⟩
    obtain ⟨h1, rfl⟩ := (land a b).1 (Finset.mem_filter.1 hk).2
    exact ⟨⟨a.val / 4096, by omega⟩, Finset.mem_univ _, congrArg (fun z => ix2 z b) (Fin.ext (by show a.val / 4096 * 4096 + i.val = a.val; omega))⟩

end Cert.Proof.Ref

end
-- ==== Proof.Equation.lean ====
/-
  The layer's result and the reference's are the same array.
-/
module

public import proofs.«01_k».proof.Proof.KernelValue
public import proofs.«01_k».proof.Proof.RefValue

@[expose] public section

noncomputable section

namespace Cert.Proof.Equation

open Cert.KernelIdeal Cert.KernelIdeal.Gen

open Cert.Proof.Layer
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

open Idealize.ShloMosaic.TcCoe

/-! ## The activation and the score, both ways of writing them -/

theorem exp_pos' (x : EReal) : 0 ≤ Ideal.exp x := by
  induction x using EReal.rec with
  | bot => exact le_rfl
  | top => exact le_top
  | coe r => exact EReal.coe_nonneg.2 (Real.exp_pos r).le

theorem den_ne (x : EReal) : 1 + Ideal.exp x ≠ 0 := fun h => by
  have h1 : (0 : EReal) < 1 := zero_lt_one
  have h2 : (1 : EReal) ≤ 1 + Ideal.exp x := le_add_of_nonneg_right (exp_pos' x)
  rw [h] at h2
  exact absurd (lt_of_lt_of_le h1 h2) (lt_irrefl _)

theorem silu_eq (g : EReal) : Ref.silu g = SharedKI.act g := by
  unfold Ref.silu SharedKI.act
  rw [zero_sub]
  exact Ideal.mul_one_div (den_ne _)

theorem score_bot : Ideal.div 1 (1 + Ideal.exp (-(⊥ : EReal))) = 0 := by
  have h : (1 : EReal) + Ideal.exp (-(⊥ : EReal)) = ⊤ := by
    rw [EReal.neg_bot]
    exact EReal.add_top_of_ne_bot (by decide)
  rw [h]
  unfold Ideal.div
  rw [if_neg (by simp), EReal.inv_top, mul_zero]

/-! ## The reference's rows of one expert -/

section Experts

variable (A1 : FVec Ideal S8x1024x4096 .f32) (A2 : FVec Ideal S8x2048x1024 .f32) (X : FVec Ideal S4096x1024 .f32) (Sc : FVec Ideal Cert.ReferenceIdeal.S8x4096 .f32)

theorem routed_emlp (e : Fin 8) (t : Fin 4096) (h : Fin 1024) :
    Ref.routed A2 (Ref.mixed (Ref.gateUp A1 (Ref.scored X Sc))) (Idealize.ShloMosaic.ix2 (⟨e.val * 4096 + t.val, by omega⟩ : Fin 32768) h)
      = GmmKI.emlp (fun j => X (Idealize.ShloMosaic.ix2 t j) * Sc (Idealize.ShloMosaic.ix2 e t))
          (fun j k => A1 (ix3 e j (⟨k.val, by omega⟩ : Fin 4096))) (fun j k => A1 (ix3 e j (⟨2048 + k.val, by omega⟩ : Fin 4096)))
          (fun k => A2 (ix3 e k h)) := by
  have he : (⟨(e.val * 4096 + t.val) / 4096, by omega⟩ : Fin 8) = e := Fin.ext (by dsimp only; omega)
  have ht : (⟨(e.val * 4096 + t.val) % 4096, by omega⟩ : Fin 4096) = t := Fin.ext (by dsimp only; omega)
  refine (Ref.routed_at A2 _ _ h).trans ?_
  unfold GmmKI.emlp
  refine Finset.sum_congr rfl fun k _ => ?_
  simp only [he, ht]
  rw [Ref.mixed_at, Ref.gateUp_at, Ref.gateUp_at, silu_eq]
  simp only [Ref.scored_at]

theorem emlp_zero (x : Fin 1024 → EReal) (g u : Fin 1024 → Fin 2048 → EReal) (d : Fin 2048 → EReal) (hx : ∀ j, x j = 0) : GmmKI.emlp x g u d = 0 := by
  unfold GmmKI.emlp
  simp only [hx, zero_mul, Finset.sum_const_zero]

end Experts

/-! ## The equation -/

variable (m : (ℓ : Loc nD τ sig) → Buf (Elt Ideal) ℓ)

/-- The launch contents of an argument. -/
abbrev arg (b : Ref sig .tc) : Buf (Elt Ideal) (((0 : Dev nD).tc : Thread nD τ).loc b) := m (((0 : Dev nD).tc : Thread nD τ).loc b)

theorem tok_eq : Ref.tok (arg m main_arg0) = Chain.xv m 0 := by
  funext i
  obtain ⟨t, j, rfl⟩ : ∃ (t : Fin 4096) (j : Fin 1024), i = Idealize.ShloMosaic.ix2 t j := ⟨i 0, i 1, by funext a; match a with | ⟨0, _⟩ => rfl | ⟨1, _⟩ => rfl⟩
  exact (Ref.tok_at _ t j).trans (Chain.after1_x (Chain.W0 m 0) t j).symm

/-- The table of the reference's scores, at a token: the chosen expert's entry is the peak, every other one -∞. -/
theorem table_eq (t : Fin 4096) (c : Fin 8) : Ref.table (Ref.logit (arg m main_arg3) (Chain.xv m 0)) (Idealize.ShloMosaic.ix2 t c)
    = if c = Chain.exF m t then RouterKI.peak (Chain.xv m 0) (Chain.wv m 0) t.val else ⊥ := by
  have hL : ∀ c : Fin 8, Ref.logit (arg m main_arg3) (Chain.xv m 0) (Idealize.ShloMosaic.ix2 t c) = RouterKI.lg (Chain.xv m 0) (Chain.wv m 0) t.val c.val := fun c =>
    (Ref.logit_at _ _ t c).trans (Chain.lg_sum m 0 t c).symm
  obtain ⟨e, hle, hlt, htab⟩ := Ref.table_at (Ref.logit (arg m main_arg3) (Chain.xv m 0)) t
  simp only [hL] at hle hlt htab
  have hit : RouterKI.lg (Chain.xv m 0) (Chain.wv m 0) t.val (Chain.exF m t).val = RouterKI.peak (Chain.xv m 0) (Chain.wv m 0) t.val := RouterKI.expert_hit _ _ _
  have hpk : RouterKI.lg (Chain.xv m 0) (Chain.wv m 0) t.val e.val = RouterKI.peak (Chain.xv m 0) (Chain.wv m 0) t.val :=
    le_antisymm (RouterKI.lg_le _ _ _ _) (hit ▸ hle (Chain.exF m t))
  have he : e = Chain.exF m t := by
    rcases lt_trichotomy e (Chain.exF m t) with h | h | h
    · exact absurd hpk (RouterKI.expert_first _ _ _ _ h)
    · exact h
    · have := hlt _ h
      rw [hit, hpk] at this
      exact absurd this (lt_irrefl _)
  rw [htab, hpk, he]

theorem value_eq : Chain.W7 m 0 (main_v14 : DevRef τ sig)
    = Ref.whole (arg m main_arg0) (arg m main_arg1) (arg m main_arg2) (arg m main_arg3) (arg m main_arg4) (arg m main_arg5) (arg m main_arg6) := by
  funext i
  obtain ⟨t, h, rfl⟩ : ∃ (t : Fin 4096) (h : Fin 1024), i = Idealize.ShloMosaic.ix2 t h := ⟨i 0, i 1, by funext a; match a with | ⟨0, _⟩ => rfl | ⟨1, _⟩ => rfl⟩
  refine (Chain.kernel_at m t h).trans (Eq.trans ?_ (Ref.whole_at _ _ _ _ _ _ _ t h).symm)
  rw [tok_eq, Ref.shared_at]
  unfold SharedKI.mlp
  simp only [Ref.proj_at, silu_eq]
  refine congrArg (fun z => _ + z) ?_
  rw [Finset.sum_eq_single (Chain.exF m t)]
  · rw [routed_emlp, Ref.scores_at, table_eq, if_pos rfl]
    unfold RouterKI.score
    rw [zero_sub]
  · intro e _ he
    rw [routed_emlp, Ref.scores_at, table_eq, if_neg he, score_bot]
    exact emlp_zero _ _ _ _ fun j => mul_zero _
  · intro h
    exact absurd (Finset.mem_univ _) h

end Cert.Proof.Equation

end
-- ==== Proof.lean ====
/-
  The proof of the claims: both programs run from any memory and leave their arguments and the counters as they were, and over
  the extended reals the layer's result is the reference's.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.KernelIdeal
open Idealize.ShloMosaic.TcCoe

/-- The layer's run: its result and its arguments, and the counters. -/
theorem kernel_run (m : (ℓ : Loc nD τ sig) → Buf (Elt Ideal) ℓ) (g : Dev nD → PrngReg) :
    θ_run (Cert.KernelIdeal.defs (F := Ideal)) (Cert.KernelIdeal.threads (F := Ideal)) ⟨m, fun _ => 0, g⟩
      (fun r => (∀ c : Dev nD, r.2.mem ((c.tc : Thread nD τ).loc main_v14) = Chain.W7 m c (main_v14 : DevRef τ sig)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) ∧ r.2.sem = fun _ => 0) :=
  (θ_run (Cert.KernelIdeal.defs (F := Ideal)) _ _).mono (fun r h => ⟨fun c =>
    ⟨h.1 c main_v14 (by decide),
      (h.1 c main_arg0 (by decide)).trans (Chain.W7_arg m c (by decide)),
      (h.1 c main_arg1 (by decide)).trans (Chain.W7_arg m c (by decide)),
      (h.1 c main_arg2 (by decide)).trans (Chain.W7_arg m c (by decide)),
      (h.1 c main_arg3 (by decide)).trans (Chain.W7_arg m c (by decide)),
      (h.1 c main_arg4 (by decide)).trans (Chain.W7_arg m c (by decide)),
      (h.1 c main_arg5 (by decide)).trans (Chain.W7_arg m c (by decide)),
      (h.1 c main_arg6 (by decide)).trans (Chain.W7_arg m c (by decide))⟩, h.2⟩)
    (Launch.run_main m g)

theorem kernel_frame : Cert.quiescent_KernelIdeal := fun m g _ =>
  (θ_run (Cert.KernelIdeal.defs (F := Ideal)) _ _).mono (fun _ h => ⟨fun c => (h.1 c).2, h.2⟩) (kernel_run m g)

theorem reference_frame : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

theorem results_equal : Cert.algebraic_KernelIdeal_ReferenceIdeal := fun m g m' g' _ hagree =>
  ⟨fun c => Chain.W7 m c (main_v14 : DevRef τ sig),
    (θ_run (Cert.KernelIdeal.defs (F := Ideal)) _ _).mono (fun _ h => h.1) (kernel_run m g),
    (θ_run (Cert.ReferenceIdeal.defs (F := Ideal)) _ _).mono (fun r h c => by
      refine ⟨(h c).1.trans ?_, (h c).2⟩
      obtain rfl : c = 0 := Subsingleton.elim _ _
      obtain ⟨h0, h1, h2, h3, h4, h5, h6⟩ := hagree 0
      refine (Ref.res_eq m' 0).trans ?_
      rw [h0, h1, h2, h3, h4, h5, h6]
      exact (Equation.value_eq m).symm)
      (Cert.ReferenceIdeal.Value.run (F := Ideal) m' g')⟩

theorem claim : Cert.Claim := ⟨Cert.KernelIdeal.Gen.facts, Cert.ReferenceIdeal.Gen.facts, kernel_frame, reference_frame, results_equal⟩

end Cert.Proof

end
